-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x2x1024 : Shape := ⟨3, ![2048, 2, 1024]⟩
abbrev S2048x2x3 : Shape := ⟨3, ![2048, 2, 3]⟩
abbrev S1024x3072 : Shape := ⟨2, ![1024, 3072]⟩
abbrev S3072 : Shape := ⟨1, ![3072]⟩
abbrev S1027x1024 : Shape := ⟨2, ![1027, 1024]⟩
abbrev S1024 : Shape := ⟨1, ![1024]⟩
abbrev S1024x1024 : Shape := ⟨2, ![1024, 1024]⟩
abbrev S3072x3 : Shape := ⟨2, ![3072, 3]⟩
abbrev S3 : Shape := ⟨1, ![3]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S2048x2x3 : S_.BroadcastsInDim S2048x2x3 (![] : Fin 0 → Fin S2048x2x3.rank)
  reducesTo_S2048x2x3_S_d0_1_2 : S2048x2x3.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1027x1024 : S_.BroadcastsInDim S1027x1024 (![] : Fin 0 → Fin S1027x1024.rank)
  reducesTo_S1027x1024_S_d0_1 : S1027x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1027x1024 .f32) (main_arg5 : FVec F S1024 .f32) (main_arg6 : FVec F S1024x1024 .f32) (main_arg7 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1027x1024 .f32 := Host.absf main_arg4
  let main_cst_6 : FVec F S_ .f32 := constant S_ .f32 0x7F800000#32
  let main_v20 : FVec F S1027x1024 .f32 := broadcastInDim S1027x1024 ![] bcast_S_S1027x1024 main_cst_6
  let main_v21 : IVec S1027x1024 1 := cmpf .olt main_v19 main_v20
  let main_c_7 : IVec S_ 1 := constantI S_ 1 1#1
  let main_v22 : IVec S_ 1 := (fun x v => Host.reduce IntOp.andi x v reducesTo_S1027x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2048x2x1024 .f32) (main_arg1 : FVec F S2048x2x3 .f32) (main_arg2 : FVec F S1024x3072 .f32) (main_arg3 : FVec F S3072 .f32) (main_arg4 : FVec F S1027x1024 .f32) (main_arg5 : FVec F S1024 .f32) (main_arg6 : FVec F S1024x1024 .f32) (main_arg7 : FVec F S1024 .f32) (main_arg8 : FVec F S3072x3 .f32) (main_arg9 : FVec F S3 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S2048x2x3 .f32 := Host.absf main_arg1
  let main_cst_0 : FVec F S_ .f32 := constant S_ .f32 0x7F800000#32
  let main_v5 : FVec F S2048x2x3 .f32 := broadcastInDim S2048x2x3 ![] bcast_S_S2048x2x3 main_cst_0
  let main_v6 : IVec S2048x2x3 1 := cmpf .olt main_v4 main_v5
  let main_c_1 : IVec S_ 1 := constantI S_ 1 1#1
  let main_v7 : IVec S_ 1 := (fun x v => Host.reduce IntOp.andi x v reducesTo_S2048x2x3_S_d0_1_2 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_v13 main_v16
-- ==== Kernel.lean ====
abbrev S2048x2x1024 : Shape := ⟨3, ![2048, 2, 1024]⟩
abbrev S2048x2x3 : Shape := ⟨3, ![2048, 2, 3]⟩
abbrev S1024x3072 : Shape := ⟨2, ![1024, 3072]⟩
abbrev S3072 : Shape := ⟨1, ![3072]⟩
abbrev S1027x1024 : Shape := ⟨2, ![1027, 1024]⟩
abbrev S1024 : Shape := ⟨1, ![1024]⟩
abbrev S1024x1024 : Shape := ⟨2, ![1024, 1024]⟩
abbrev S3072x3 : Shape := ⟨2, ![3072, 3]⟩
abbrev S3 : Shape := ⟨1, ![3]⟩
abbrev S2048x2x3072 : Shape := ⟨3, ![2048, 2, 3072]⟩
abbrev S1x1x3072 : Shape := ⟨3, ![1, 1, 3072]⟩
abbrev S2048x2x16x192 : Shape := ⟨4, ![2048, 2, 16, 192]⟩
abbrev S2x16x2048x192 : Shape := ⟨4, ![2, 16, 2048, 192]⟩
abbrev S2x16x2048x64 : Shape := ⟨4, ![2, 16, 2048, 64]⟩
abbrev S127 : Shape := ⟨1, ![127]⟩
abbrev S_ : Shape := ⟨0, ![]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S2048x2x16x64 : Shape := ⟨4, ![2048, 2, 16, 64]⟩
abbrev S127x32x1 : Shape := ⟨3, ![127, 32, 1]⟩
abbrev S127x32x2x3 : Shape := ⟨4, ![127, 32, 2, 3]⟩
abbrev S127x32x2x1024 : Shape := ⟨4, ![127, 32, 2, 1024]⟩
abbrev S127x32x2x1027 : Shape := ⟨4, ![127, 32, 2, 1027]⟩
abbrev S1x1x1x1024 : Shape := ⟨4, ![1, 1, 1, 1024]⟩
abbrev S127x2x1024 : Shape := ⟨3, ![127, 2, 1024]⟩
abbrev S127x2x16x64 : Shape := ⟨4, ![127, 2, 16, 64]⟩
abbrev S2x16x127x64 : Shape := ⟨4, ![2, 16, 127, 64]⟩
abbrev S2x2048x64 : Shape := ⟨3, ![2, 2048, 64]⟩
abbrev S2x127x64 : Shape := ⟨3, ![2, 127, 64]⟩
abbrev S2x64x127 : Shape := ⟨3, ![2, 64, 127]⟩
abbrev S2x2048x127 : Shape := ⟨3, ![2, 2048, 127]⟩
abbrev S2x2048 : Shape := ⟨2, ![2, 2048]⟩
abbrev S2x2048x1 : Shape := ⟨3, ![2, 2048, 1]⟩
abbrev S2x16 : Shape := ⟨2, ![2, 16]⟩
abbrev S2x2048x1024 : Shape := ⟨3, ![2, 2048, 1024]⟩
abbrev S2x127x16x64 : Shape := ⟨4, ![2, 127, 16, 64]⟩
abbrev S2x127x1024 : Shape := ⟨3, ![2, 127, 1024]⟩
abbrev S2x1x1024 : Shape := ⟨3, ![2, 1, 1024]⟩
abbrev S2x128x1024 : Shape := ⟨3, ![2, 128, 1024]⟩
abbrev S2x16x64 : Shape := ⟨3, ![2, 16, 64]⟩
abbrev S4096x128 : Shape := ⟨2, ![4096, 128]⟩
abbrev S2x2048x3 : Shape := ⟨3, ![2, 2048, 3]⟩
abbrev S4096x3 : Shape := ⟨2, ![4096, 3]⟩
abbrev S1 : Shape := ⟨1, ![1]⟩
abbrev S128x1024 : Shape := ⟨2, ![128, 1024]⟩
abbrev S3x1024 : Shape := ⟨2, ![3, 1024]⟩
abbrev S4096x1024 : Shape := ⟨2, ![4096, 1024]⟩
abbrev S1x1024 : Shape := ⟨2, ![1, 1024]⟩
abbrev S256x1024 : Shape := ⟨2, ![256, 1024]⟩
abbrev S128x128 : Shape := ⟨2, ![128, 128]⟩
abbrev S8x1024 : Shape := ⟨2, ![8, 1024]⟩
abbrev S8x16x1024 : Shape := ⟨3, ![8, 16, 1024]⟩
abbrev S1x128x1024 : Shape := ⟨3, ![1, 128, 1024]⟩
abbrev S127x1024 : Shape := ⟨2, ![127, 1024]⟩
abbrev S1024x3 : Shape := ⟨2, ![1024, 3]⟩
abbrev S2x1024x1024 : Shape := ⟨3, ![2, 1024, 1024]⟩
abbrev S1x2048x1024 : Shape := ⟨3, ![1, 2048, 1024]⟩
abbrev S1x1024x1024 : Shape := ⟨3, ![1, 1024, 1024]⟩
abbrev S1x1 : Shape := ⟨2, ![1, 1]⟩
abbrev S1x64x1024 : Shape := ⟨3, ![1, 64, 1024]⟩
abbrev S64x1024 : Shape := ⟨2, ![64, 1024]⟩
abbrev S2x2048x16x64 : Shape := ⟨4, ![2, 2048, 16, 64]⟩
abbrev S1x256x1024 : Shape := ⟨3, ![1, 256, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x128 : Shape := ⟨2, ![1, 128]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩
abbrev S512x64 : Shape := ⟨2, ![512, 64]⟩
abbrev S256x512 : Shape := ⟨2, ![256, 512]⟩
abbrev S1x64 : Shape := ⟨2, ![1, 64]⟩
abbrev S128x64 : Shape := ⟨2, ![128, 64]⟩

abbrev nBuf : Space → Nat
  | .hbm => 165
  | .vmem => 44
  | .smem => 2
  | _ => 0

abbrev hbmTy0_0 (i : Nat) : BufTy := match i % 128 with
  | 0 => ⟨S2048x2x1024, .f32⟩
  | 1 => ⟨S2048x2x3, .f32⟩
  | 2 => ⟨S1024x3072, .f32⟩
  | 3 => ⟨S3072, .f32⟩
  | 4 => ⟨S1027x1024, .f32⟩
  | 5 => ⟨S1024, .f32⟩
  | 6 => ⟨S1024x1024, .f32⟩
  | 7 => ⟨S1024, .f32⟩
  | 8 => ⟨S3072x3, .f32⟩
  | 9 => ⟨S3, .f32⟩
  | 10 => ⟨S2048x2x3072, .f32⟩
  | 11 => ⟨S1x1x3072, .f32⟩
  | 12 => ⟨S2048x2x3072, .f32⟩
  | 13 => ⟨S2048x2x3072, .f32⟩
  | 14 => ⟨S2048x2x16x192, .f32⟩
  | 15 => ⟨S2x16x2048x192, .f32⟩
  | 16 => ⟨S2x16x2048x64, .f32⟩
  | 17 => ⟨S2x16x2048x64, .f32⟩
  | 18 => ⟨S2x16x2048x64, .f32⟩
  | 19 => ⟨S127, .i32⟩
  | 20 => ⟨S_, .i32⟩
  | 21 => ⟨S127, .i32⟩
  | 22 => ⟨S127, .i32⟩
  | 23 => ⟨S127x1, .i32⟩
  | 24 => ⟨S32, .i32⟩
  | 25 => ⟨S1x32, .i32⟩
  | 26 => ⟨S127x32, .i32⟩
  | 27 => ⟨S127x32, .i32⟩
  | 28 => ⟨S127x32, .i32⟩
  | 29 => ⟨S2048x2x16x64, .f32⟩
  | 30 => ⟨S2048x2x1024, .f32⟩
  | 31 => ⟨S2048x2x16x64, .f32⟩
  | 32 => ⟨S2048x2x1024, .f32⟩
  | 33 => ⟨S_, .i32⟩
  | 34 => ⟨S127x32, .i32⟩
  | 35 => ⟨S127x32, .i1⟩
  | 36 => ⟨S_, .i32⟩
  | 37 => ⟨S127x32, .i32⟩
  | 38 => ⟨S127x32, .i32⟩
  | 39 => ⟨S127x32, .i32⟩
  | 40 => ⟨S127x32x1, .i32⟩
  | 41 => ⟨S127x32x2x3, .f32⟩
  | 42 => ⟨S_, .i32⟩
  | 43 => ⟨S127x32, .i32⟩
  | 44 => ⟨S127x32, .i1⟩
  | 45 => ⟨S_, .i32⟩
  | 46 => ⟨S127x32, .i32⟩
  | 47 => ⟨S127x32, .i32⟩
  | 48 => ⟨S127x32, .i32⟩
  | 49 => ⟨S127x32x1, .i32⟩
  | 50 => ⟨S127x32x2x1024, .f32⟩
  | 51 => ⟨S127x32x2x1027, .f32⟩
  | 52 => ⟨S127x32x2x1024, .f32⟩
  | 53 => ⟨S1x1x1x1024, .f32⟩
  | 54 => ⟨S127x32x2x1024, .f32⟩
  | 55 => ⟨S127x32x2x1024, .f32⟩
  | 56 => ⟨S_, .f32⟩
  | 57 => ⟨S127x32x2x1024, .f32⟩
  | 58 => ⟨S127x32x2x1024, .f32⟩
  | 59 => ⟨S127x32x2x1024, .f32⟩
  | 60 => ⟨S1x1x1x1024, .f32⟩
  | 61 => ⟨S127x32x2x1024, .f32⟩
  | 62 => ⟨S127x32x2x1024, .f32⟩
  | 63 => ⟨S_, .f32⟩
  | 64 => ⟨S127x2x1024, .f32⟩
  | 65 => ⟨S_, .f32⟩
  | 66 => ⟨S127x2x1024, .f32⟩
  | 67 => ⟨S127x2x1024, .f32⟩
  | 68 => ⟨S127x2x16x64, .f32⟩
  | 69 => ⟨S2x16x127x64, .f32⟩
  | 70 => ⟨S_, .f32⟩
  | 71 => ⟨S2x2048x64, .f32⟩
  | 72 => ⟨S_, .f32⟩
  | 73 => ⟨S2x2048x64, .f32⟩
  | 74 => ⟨S2x2048x64, .f32⟩
  | 75 => ⟨S_, .f32⟩
  | 76 => ⟨S2x127x64, .f32⟩
  | 77 => ⟨S_, .f32⟩
  | 78 => ⟨S2x127x64, .f32⟩
  | 79 => ⟨S2x127x64, .f32⟩
  | 80 => ⟨S2x64x127, .f32⟩
  | 81 => ⟨S2x2048x127, .f32⟩
  | 82 => ⟨S_, .f32⟩
  | 83 => ⟨S2x2048x127, .f32⟩
  | 84 => ⟨S2x2048x127, .f32⟩
  | 85 => ⟨S_, .f32⟩
  | 86 => ⟨S2x2048, .f32⟩
  | 87 => ⟨S_, .f32⟩
  | 88 => ⟨S2x2048, .f32⟩
  | 89 => ⟨S2x2048, .f32⟩
  | 90 => ⟨S2x2048x1, .f32⟩
  | 91 => ⟨S2x2048x127, .f32⟩
  | 92 => ⟨S2x2048x127, .f32⟩
  | 93 => ⟨S2x2048x127, .f32⟩
  | 94 => ⟨S_, .f32⟩
  | 95 => ⟨S2x2048, .f32⟩
  | 96 => ⟨S2x2048x1, .f32⟩
  | 97 => ⟨S2x2048x127, .f32⟩
  | 98 => ⟨S2x2048x127, .f32⟩
  | 99 => ⟨S_, .f32⟩
  | 100 => ⟨S2x2048, .f32⟩
  | 101 => ⟨S_, .f32⟩
  | 102 => ⟨S2x2048, .f32⟩
  | 103 => ⟨S2x2048, .f32⟩
  | 104 => ⟨S2x16, .f32⟩
  | 105 => ⟨S2x16, .i32⟩
  | 106 => ⟨S2x2048x1024, .f32⟩
  | 107 => ⟨S2x2048x1024, .f32⟩
  | 108 => ⟨S2x127x16x64, .f32⟩
  | 109 => ⟨S2x127x1024, .f32⟩
  | 110 => ⟨S_, .f32⟩
  | 111 => ⟨S2x1x1024, .f32⟩
  | 112 => ⟨S2x128x1024, .f32⟩
  | 113 => ⟨S_, .f32⟩
  | 114 => ⟨S2x16x64, .f32⟩
  | 115 => ⟨S_, .f32⟩
  | 116 => ⟨S2x16x64, .f32⟩
  | 117 => ⟨S2x16x64, .f32⟩
  | 118 => ⟨S2x1x1024, .f32⟩
  | 119 => ⟨S_, .f32⟩
  | 120 => ⟨S4096x128, .f32⟩
  | 121 => ⟨S2x2048x3, .f32⟩
  | 122 => ⟨S4096x3, .f32⟩
  | 123 => ⟨S_, .i32⟩
  | 124 => ⟨S1, .i32⟩
  | 125 => ⟨S4096x128, .f32⟩
  | 126 => ⟨S1024x1024, .f32⟩
  | 127 => ⟨S_, .f32⟩
  | _ => ⟨S2048x2x1024, .f32⟩

abbrev hbmTy0_1 (i : Nat) : BufTy := match i % 128 with
  | 0 => ⟨S128x1024, .f32⟩
  | 1 => ⟨S3x1024, .f32⟩
  | 2 => ⟨S_, .i32⟩
  | 3 => ⟨S1, .i32⟩
  | 4 => ⟨S128x1024, .f32⟩
  | 5 => ⟨S4096x1024, .f32⟩
  | 6 => ⟨S1x1024, .f32⟩
  | 7 => ⟨S256x1024, .f32⟩
  | 8 => ⟨S2x128x1024, .f32⟩
  | 9 => ⟨S1x1024, .f32⟩
  | 10 => ⟨S2x128x1024, .f32⟩
  | 11 => ⟨S_, .f32⟩
  | 12 => ⟨S8x1024, .f32⟩
  | 13 => ⟨S1024x3, .f32⟩
  | 14 => ⟨S3x1024, .f32⟩
  | 15 => ⟨S_, .i32⟩
  | 16 => ⟨S1, .i32⟩
  | 17 => ⟨S8x1024, .f32⟩
  | 18 => ⟨S_, .f32⟩
  | 19 => ⟨S8x1024, .f32⟩
  | 20 => ⟨S1024x3, .f32⟩
  | 21 => ⟨S3x1024, .f32⟩
  | 22 => ⟨S_, .i32⟩
  | 23 => ⟨S1, .i32⟩
  | 24 => ⟨S8x1024, .f32⟩
  | 25 => ⟨S_, .f32⟩
  | 26 => ⟨S8x1024, .f32⟩
  | 27 => ⟨S1024x3, .f32⟩
  | 28 => ⟨S3x1024, .f32⟩
  | 29 => ⟨S_, .i32⟩
  | 30 => ⟨S1, .i32⟩
  | 31 => ⟨S8x1024, .f32⟩
  | 32 => ⟨S2x1024x1024, .f32⟩
  | 33 => ⟨S2x1024x1024, .f32⟩
  | 34 => ⟨S2x2048x16x64, .f32⟩
  | 35 => ⟨S2x2048x1024, .f32⟩
  | 36 => ⟨S2x2048x1024, .f32⟩
  | _ => ⟨S2048x2x1024, .f32⟩

abbrev hbmTy (i : Nat) : BufTy := match i / 128 with
  | 0 => hbmTy0_0 i
  | 1 => hbmTy0_1 i
  | _ => ⟨S2048x2x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S1024x1024, .f32⟩
  | .local _ .vmem, ⟨5, _⟩ => ⟨S128x1024, .f32⟩
  | .local _ .vmem, ⟨6, _⟩ => ⟨S1x1024, .f32⟩
  | .local _ .vmem, ⟨7, _⟩ => ⟨S8x1024, .f32⟩
  | .local _ .vmem, ⟨8, _⟩ => ⟨S8x1024, .f32⟩
  | .local _ .vmem, ⟨9, _⟩ => ⟨S1x128x1024, .f32⟩
  | .local _ .vmem, ⟨10, _⟩ => ⟨S1x128x1024, .f32⟩
  | .local _ .vmem, ⟨11, _⟩ => ⟨S1024x1024, .f32⟩
  | .local _ .vmem, ⟨12, _⟩ => ⟨S1x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x2048x1024, .f32⟩
  | .local _ .vmem, ⟨16, _⟩ => ⟨S1x2048x1024, .f32⟩
  | .local _ .vmem, ⟨17, _⟩ => ⟨S1x2048x1024, .f32⟩
  | .local _ .vmem, ⟨18, _⟩ => ⟨S1x2048x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x1024x1024, .f32⟩
  | .local _ .vmem, ⟨26, _⟩ => ⟨S1x1024x1024, .f32⟩
  | .local _ .vmem, ⟨27, _⟩ => ⟨S1x1024x1024, .f32⟩
  | .local _ .vmem, ⟨28, _⟩ => ⟨S1x1024x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .f32⟩
  | .local _ .vmem, ⟨32, _⟩ => ⟨S1x512x1024, .f32⟩
  | .local _ .vmem, ⟨33, _⟩ => ⟨S1x128x1024, .f32⟩
  | .local _ .vmem, ⟨34, _⟩ => ⟨S1x128x1024, .f32⟩
  | .local _ .vmem, ⟨35, _⟩ => ⟨S1x128x1024, .f32⟩
  | .local _ .vmem, ⟨36, _⟩ => ⟨S1x128x1024, .f32⟩
  | .local _ .vmem, ⟨37, _⟩ => ⟨S1x1x1024, .f32⟩
  | .local _ .vmem, ⟨38, _⟩ => ⟨S1x1x1024, .f32⟩
  | .local _ .vmem, ⟨39, _⟩ => ⟨S8x1024, .f32⟩
  | .local _ .vmem, ⟨40, _⟩ => ⟨S8x1024, .f32⟩
  | .local _ .vmem, ⟨41, _⟩ => ⟨S8x1024, .f32⟩
  | .local _ .vmem, ⟨42, _⟩ => ⟨S1x256x1024, .f32⟩
  | .local _ .vmem, ⟨43, _⟩ => ⟨S1x256x1024, .f32⟩
  | .local _ .smem, ⟨0, _⟩ => ⟨S2x16, .i32⟩
  | .local _ .smem, ⟨1, _⟩ => ⟨S3, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_values : Ref sig .tc := ⟨.hbm, 104, rfl⟩
abbrev main_indices : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_c_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_cst_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_cst_26 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_27 : Ref sig .tc := ⟨.hbm, 157, rfl⟩
abbrev main_v114 : Ref sig .tc := ⟨.hbm, 158, rfl⟩
abbrev main_v115 : Ref sig .tc := ⟨.hbm, 159, rfl⟩
abbrev main_v116_0 : Ref sig .tc := ⟨.hbm, 160, rfl⟩
abbrev main_v116_1 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg7_1 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg12_0 : Ref sig .tc := ⟨.vmem, 42, rfl⟩
abbrev cc3_stg12_1 : Ref sig .tc := ⟨.vmem, 43, rfl⟩
abbrev cc2_stg0_0 : Ref sig .tc := ⟨.smem, 0, rfl⟩
abbrev cc3_stg11_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem12_0 : DmaSem sig := 44
abbrev cc3_sem12_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (v1 : BitVec 32) : Fin 3 → Nat :=
  let c0_1 : Index := 0#32
  let c32_i32 : BitVec 32 := 32#32
  let v2 : BitVec 1 := Scalar.cmpi .slt v1 c32_i32
  let c64_i32 : BitVec 32 := 64#32
  let v3 : BitVec 32 := Scalar.muli v1 c64_i32
  let c1984_i32 : BitVec 32 := 1984#32
  let v4 : BitVec 32 := Scalar.select v2 v3 c1984_i32
  let v6 : Index := Scalar.indexCast v4
  let c0_2 : Index := 0#32
  ![0, v6.toNat, 0]

def k2_chk1 (v1 : BitVec 32) : Prop :=
  (∀ a, (k2_off2 v1) a + S1x64x1024.size a ≤ S1x2048x1024.size a)
theorem k2_off2_inb : ∀ (v1 : BitVec 32) (k2_hw1 : k2_chk1 v1), ∀ a, (k2_off2 v1) a + S1x64x1024.size a ≤ S1x2048x1024.size a := fun v1 k2_hw1 => k2_hw1

def k2_off3 (i : grid2.Coords) : Fin 2 → Nat :=
  let arg0 : BitVec 32 := BitVec.ofNat 32 (i 0).val
  let v26 : Index := Scalar.indexCast arg0
  let c1 : Index := 1#32
  ![v26.toNat, 1]
def k2_off4 (v27 : BitVec 32) : Fin 3 → Nat :=
  let c0_15 : Index := 0#32
  let c32_i32_11 : BitVec 32 := 32#32
  let v28 : BitVec 1 := Scalar.cmpi .slt v27 c32_i32_11
  let c64_i32_12 : BitVec 32 := 64#32
  let v29 : BitVec 32 := Scalar.muli v27 c64_i32_12
  let c1984_i32_13 : BitVec 32 := 1984#32
  let v30 : BitVec 32 := Scalar.select v28 v29 c1984_i32_13
  let v32 : Index := Scalar.indexCast v30
  let c0_16 : Index := 0#32
  ![0, v32.toNat, 0]

def k2_chk2 (v27 : BitVec 32) : Prop :=
  (∀ a, (k2_off4 v27) a + S1x64x1024.size a ≤ S1x2048x1024.size a)
theorem k2_off4_inb : ∀ (v27 : BitVec 32) (k2_hw2 : k2_chk2 v27), ∀ a, (k2_off4 v27) a + S1x64x1024.size a ≤ S1x2048x1024.size a := fun v27 k2_hw2 => k2_hw2

def k2_off5 (i : grid2.Coords) : Fin 2 → Nat :=
  let arg0 : BitVec 32 := BitVec.ofNat 32 (i 0).val
  let v52 : Index := Scalar.indexCast arg0
  let c2 : Index := 2#32
  ![v52.toNat, 2]
def k2_off6 (v53 : BitVec 32) : Fin 3 → Nat :=
  let c0_28 : Index := 0#32
  let c32_i32_24 : BitVec 32 := 32#32
  let v54 : BitVec 1 := Scalar.cmpi .slt v53 c32_i32_24
  let c64_i32_25 : BitVec 32 := 64#32
  let v55 : BitVec 32 := Scalar.muli v53 c64_i32_25
  let c1984_i32_26 : BitVec 32 := 1984#32
  let v56 : BitVec 32 := Scalar.select v54 v55 c1984_i32_26
  let v58 : Index := Scalar.indexCast v56
  let c0_29 : Index := 0#32
  ![0, v58.toNat, 0]

def k2_chk3 (v53 : BitVec 32) : Prop :=
  (∀ a, (k2_off6 v53) a + S1x64x1024.size a ≤ S1x2048x1024.size a)
theorem k2_off6_inb : ∀ (v53 : BitVec 32) (k2_hw3 : k2_chk3 v53), ∀ a, (k2_off6 v53) a + S1x64x1024.size a ≤ S1x2048x1024.size a := fun v53 k2_hw3 => k2_hw3

def k2_off7 (i : grid2.Coords) : Fin 2 → Nat :=
  let arg0 : BitVec 32 := BitVec.ofNat 32 (i 0).val
  let v78 : Index := Scalar.indexCast arg0
  let c3 : Index := 3#32
  ![v78.toNat, 3]
def k2_off8 (v79 : BitVec 32) : Fin 3 → Nat :=
  let c0_41 : Index := 0#32
  let c32_i32_37 : BitVec 32 := 32#32
  let v80 : BitVec 1 := Scalar.cmpi .slt v79 c32_i32_37
  let c64_i32_38 : BitVec 32 := 64#32
  let v81 : BitVec 32 := Scalar.muli v79 c64_i32_38
  let c1984_i32_39 : BitVec 32 := 1984#32
  let v82 : BitVec 32 := Scalar.select v80 v81 c1984_i32_39
  let v84 : Index := Scalar.indexCast v82
  let c0_42 : Index := 0#32
  ![0, v84.toNat, 0]

def k2_chk4 (v79 : BitVec 32) : Prop :=
  (∀ a, (k2_off8 v79) a + S1x64x1024.size a ≤ S1x2048x1024.size a)
theorem k2_off8_inb : ∀ (v79 : BitVec 32) (k2_hw4 : k2_chk4 v79), ∀ a, (k2_off8 v79) a + S1x64x1024.size a ≤ S1x2048x1024.size a := fun v79 k2_hw4 => k2_hw4

def k2_off9 (i : grid2.Coords) : Fin 2 → Nat :=
  let arg0 : BitVec 32 := BitVec.ofNat 32 (i 0).val
  let v104 : Index := Scalar.indexCast arg0
  let c4 : Index := 4#32
  ![v104.toNat, 4]
def k2_off10 (v105 : BitVec 32) : Fin 3 → Nat :=
  let c0_54 : Index := 0#32
  let c32_i32_50 : BitVec 32 := 32#32
  let v106 : BitVec 1 := Scalar.cmpi .slt v105 c32_i32_50
  let c64_i32_51 : BitVec 32 := 64#32
  let v107 : BitVec 32 := Scalar.muli v105 c64_i32_51
  let c1984_i32_52 : BitVec 32 := 1984#32
  let v108 : BitVec 32 := Scalar.select v106 v107 c1984_i32_52
  let v110 : Index := Scalar.indexCast v108
  let c0_55 : Index := 0#32
  ![0, v110.toNat, 0]

def k2_chk5 (v105 : BitVec 32) : Prop :=
  (∀ a, (k2_off10 v105) a + S1x64x1024.size a ≤ S1x2048x1024.size a)
theorem k2_off10_inb : ∀ (v105 : BitVec 32) (k2_hw5 : k2_chk5 v105), ∀ a, (k2_off10 v105) a + S1x64x1024.size a ≤ S1x2048x1024.size a := fun v105 k2_hw5 => k2_hw5

def k2_off11 (i : grid2.Coords) : Fin 2 → Nat :=
  let arg0 : BitVec 32 := BitVec.ofNat 32 (i 0).val
  let v130 : Index := Scalar.indexCast arg0
  let c5 : Index := 5#32
  ![v130.toNat, 5]
def k2_off12 (v131 : BitVec 32) : Fin 3 → Nat :=
  let c0_67 : Index := 0#32
  let c32_i32_63 : BitVec 32 := 32#32
  let v132 : BitVec 1 := Scalar.cmpi .slt v131 c32_i32_63
  let c64_i32_64 : BitVec 32 := 64#32
  let v133 : BitVec 32 := Scalar.muli v131 c64_i32_64
  let c1984_i32_65 : BitVec 32 := 1984#32
  let v134 : BitVec 32 := Scalar.select v132 v133 c1984_i32_65
  let v136 : Index := Scalar.indexCast v134
  let c0_68 : Index := 0#32
  ![0, v136.toNat, 0]

def k2_chk6 (v131 : BitVec 32) : Prop :=
  (∀ a, (k2_off12 v131) a + S1x64x1024.size a ≤ S1x2048x1024.size a)
theorem k2_off12_inb : ∀ (v131 : BitVec 32) (k2_hw6 : k2_chk6 v131), ∀ a, (k2_off12 v131) a + S1x64x1024.size a ≤ S1x2048x1024.size a := fun v131 k2_hw6 => k2_hw6

def k2_off13 (i : grid2.Coords) : Fin 2 → Nat :=
  let arg0 : BitVec 32 := BitVec.ofNat 32 (i 0).val
  let v156 : Index := Scalar.indexCast arg0
  let c6 : Index := 6#32
  ![v156.toNat, 6]
def k2_off14 (v157 : BitVec 32) : Fin 3 → Nat :=
  let c0_80 : Index := 0#32
  let c32_i32_76 : BitVec 32 := 32#32
  let v158 : BitVec 1 := Scalar.cmpi .slt v157 c32_i32_76
  let c64_i32_77 : BitVec 32 := 64#32
  let v159 : BitVec 32 := Scalar.muli v157 c64_i32_77
  let c1984_i32_78 : BitVec 32 := 1984#32
  let v160 : BitVec 32 := Scalar.select v158 v159 c1984_i32_78
  let v162 : Index := Scalar.indexCast v160
  let c0_81 : Index := 0#32
  ![0, v162.toNat, 0]

def k2_chk7 (v157 : BitVec 32) : Prop :=
  (∀ a, (k2_off14 v157) a + S1x64x1024.size a ≤ S1x2048x1024.size a)
theorem k2_off14_inb : ∀ (v157 : BitVec 32) (k2_hw7 : k2_chk7 v157), ∀ a, (k2_off14 v157) a + S1x64x1024.size a ≤ S1x2048x1024.size a := fun v157 k2_hw7 => k2_hw7

def k2_off15 (i : grid2.Coords) : Fin 2 → Nat :=
  let arg0 : BitVec 32 := BitVec.ofNat 32 (i 0).val
  let v182 : Index := Scalar.indexCast arg0
  let c7 : Index := 7#32
  ![v182.toNat, 7]
def k2_off16 (v183 : BitVec 32) : Fin 3 → Nat :=
  let c0_93 : Index := 0#32
  let c32_i32_89 : BitVec 32 := 32#32
  let v184 : BitVec 1 := Scalar.cmpi .slt v183 c32_i32_89
  let c64_i32_90 : BitVec 32 := 64#32
  let v185 : BitVec 32 := Scalar.muli v183 c64_i32_90
  let c1984_i32_91 : BitVec 32 := 1984#32
  let v186 : BitVec 32 := Scalar.select v184 v185 c1984_i32_91
  let v188 : Index := Scalar.indexCast v186
  let c0_94 : Index := 0#32
  ![0, v188.toNat, 0]

def k2_chk8 (v183 : BitVec 32) : Prop :=
  (∀ a, (k2_off16 v183) a + S1x64x1024.size a ≤ S1x2048x1024.size a)
theorem k2_off16_inb : ∀ (v183 : BitVec 32) (k2_hw8 : k2_chk8 v183), ∀ a, (k2_off16 v183) a + S1x64x1024.size a ≤ S1x2048x1024.size a := fun v183 k2_hw8 => k2_hw8

def k2_off17 (i : grid2.Coords) : Fin 2 → Nat :=
  let arg0 : BitVec 32 := BitVec.ofNat 32 (i 0).val
  let v208 : Index := Scalar.indexCast arg0
  let c8 : Index := 8#32
  ![v208.toNat, 8]
def k2_off18 (v209 : BitVec 32) : Fin 3 → Nat :=
  let c0_106 : Index := 0#32
  let c32_i32_102 : BitVec 32 := 32#32
  let v210 : BitVec 1 := Scalar.cmpi .slt v209 c32_i32_102
  let c64_i32_103 : BitVec 32 := 64#32
  let v211 : BitVec 32 := Scalar.muli v209 c64_i32_103
  let c1984_i32_104 : BitVec 32 := 1984#32
  let v212 : BitVec 32 := Scalar.select v210 v211 c1984_i32_104
  let v214 : Index := Scalar.indexCast v212
  let c0_107 : Index := 0#32
  ![0, v214.toNat, 0]

def k2_chk9 (v209 : BitVec 32) : Prop :=
  (∀ a, (k2_off18 v209) a + S1x64x1024.size a ≤ S1x2048x1024.size a)
theorem k2_off18_inb : ∀ (v209 : BitVec 32) (k2_hw9 : k2_chk9 v209), ∀ a, (k2_off18 v209) a + S1x64x1024.size a ≤ S1x2048x1024.size a := fun v209 k2_hw9 => k2_hw9

def k2_off19 (i : grid2.Coords) : Fin 2 → Nat :=
  let arg0 : BitVec 32 := BitVec.ofNat 32 (i 0).val
  let v234 : Index := Scalar.indexCast arg0
  let c9 : Index := 9#32
  ![v234.toNat, 9]
def k2_off20 (v235 : BitVec 32) : Fin 3 → Nat :=
  let c0_119 : Index := 0#32
  let c32_i32_115 : BitVec 32 := 32#32
  let v236 : BitVec 1 := Scalar.cmpi .slt v235 c32_i32_115
  let c64_i32_116 : BitVec 32 := 64#32
  let v237 : BitVec 32 := Scalar.muli v235 c64_i32_116
  let c1984_i32_117 : BitVec 32 := 1984#32
  let v238 : BitVec 32 := Scalar.select v236 v237 c1984_i32_117
  let v240 : Index := Scalar.indexCast v238
  let c0_120 : Index := 0#32
  ![0, v240.toNat, 0]

def k2_chk10 (v235 : BitVec 32) : Prop :=
  (∀ a, (k2_off20 v235) a + S1x64x1024.size a ≤ S1x2048x1024.size a)
theorem k2_off20_inb : ∀ (v235 : BitVec 32) (k2_hw10 : k2_chk10 v235), ∀ a, (k2_off20 v235) a + S1x64x1024.size a ≤ S1x2048x1024.size a := fun v235 k2_hw10 => k2_hw10

def k2_off21 (i : grid2.Coords) : Fin 2 → Nat :=
  let arg0 : BitVec 32 := BitVec.ofNat 32 (i 0).val
  let v260 : Index := Scalar.indexCast arg0
  let c10 : Index := 10#32
  ![v260.toNat, 10]
def k2_off22 (v261 : BitVec 32) : Fin 3 → Nat :=
  let c0_132 : Index := 0#32
  let c32_i32_128 : BitVec 32 := 32#32
  let v262 : BitVec 1 := Scalar.cmpi .slt v261 c32_i32_128
  let c64_i32_129 : BitVec 32 := 64#32
  let v263 : BitVec 32 := Scalar.muli v261 c64_i32_129
  let c1984_i32_130 : BitVec 32 := 1984#32
  let v264 : BitVec 32 := Scalar.select v262 v263 c1984_i32_130
  let v266 : Index := Scalar.indexCast v264
  let c0_133 : Index := 0#32
  ![0, v266.toNat, 0]

def k2_chk11 (v261 : BitVec 32) : Prop :=
  (∀ a, (k2_off22 v261) a + S1x64x1024.size a ≤ S1x2048x1024.size a)
theorem k2_off22_inb : ∀ (v261 : BitVec 32) (k2_hw11 : k2_chk11 v261), ∀ a, (k2_off22 v261) a + S1x64x1024.size a ≤ S1x2048x1024.size a := fun v261 k2_hw11 => k2_hw11

def k2_off23 (i : grid2.Coords) : Fin 2 → Nat :=
  let arg0 : BitVec 32 := BitVec.ofNat 32 (i 0).val
  let v286 : Index := Scalar.indexCast arg0
  let c11 : Index := 11#32
  ![v286.toNat, 11]
def k2_off24 (v287 : BitVec 32) : Fin 3 → Nat :=
  let c0_145 : Index := 0#32
  let c32_i32_141 : BitVec 32 := 32#32
  let v288 : BitVec 1 := Scalar.cmpi .slt v287 c32_i32_141
  let c64_i32_142 : BitVec 32 := 64#32
  let v289 : BitVec 32 := Scalar.muli v287 c64_i32_142
  let c1984_i32_143 : BitVec 32 := 1984#32
  let v290 : BitVec 32 := Scalar.select v288 v289 c1984_i32_143
  let v292 : Index := Scalar.indexCast v290
  let c0_146 : Index := 0#32
  ![0, v292.toNat, 0]

def k2_chk12 (v287 : BitVec 32) : Prop :=
  (∀ a, (k2_off24 v287) a + S1x64x1024.size a ≤ S1x2048x1024.size a)
theorem k2_off24_inb : ∀ (v287 : BitVec 32) (k2_hw12 : k2_chk12 v287), ∀ a, (k2_off24 v287) a + S1x64x1024.size a ≤ S1x2048x1024.size a := fun v287 k2_hw12 => k2_hw12

def k2_off25 (i : grid2.Coords) : Fin 2 → Nat :=
  let arg0 : BitVec 32 := BitVec.ofNat 32 (i 0).val
  let v312 : Index := Scalar.indexCast arg0
  let c12 : Index := 12#32
  ![v312.toNat, 12]
def k2_off26 (v313 : BitVec 32) : Fin 3 → Nat :=
  let c0_158 : Index := 0#32
  let c32_i32_154 : BitVec 32 := 32#32
  let v314 : BitVec 1 := Scalar.cmpi .slt v313 c32_i32_154
  let c64_i32_155 : BitVec 32 := 64#32
  let v315 : BitVec 32 := Scalar.muli v313 c64_i32_155
  let c1984_i32_156 : BitVec 32 := 1984#32
  let v316 : BitVec 32 := Scalar.select v314 v315 c1984_i32_156
  let v318 : Index := Scalar.indexCast v316
  let c0_159 : Index := 0#32
  ![0, v318.toNat, 0]

def k2_chk13 (v313 : BitVec 32) : Prop :=
  (∀ a, (k2_off26 v313) a + S1x64x1024.size a ≤ S1x2048x1024.size a)
theorem k2_off26_inb : ∀ (v313 : BitVec 32) (k2_hw13 : k2_chk13 v313), ∀ a, (k2_off26 v313) a + S1x64x1024.size a ≤ S1x2048x1024.size a := fun v313 k2_hw13 => k2_hw13

def k2_off27 (i : grid2.Coords) : Fin 2 → Nat :=
  let arg0 : BitVec 32 := BitVec.ofNat 32 (i 0).val
  let v338 : Index := Scalar.indexCast arg0
  let c13 : Index := 13#32
  ![v338.toNat, 13]
def k2_off28 (v339 : BitVec 32) : Fin 3 → Nat :=
  let c0_171 : Index := 0#32
  let c32_i32_167 : BitVec 32 := 32#32
  let v340 : BitVec 1 := Scalar.cmpi .slt v339 c32_i32_167
  let c64_i32_168 : BitVec 32 := 64#32
  let v341 : BitVec 32 := Scalar.muli v339 c64_i32_168
  let c1984_i32_169 : BitVec 32 := 1984#32
  let v342 : BitVec 32 := Scalar.select v340 v341 c1984_i32_169
  let v344 : Index := Scalar.indexCast v342
  let c0_172 : Index := 0#32
  ![0, v344.toNat, 0]

def k2_chk14 (v339 : BitVec 32) : Prop :=
  (∀ a, (k2_off28 v339) a + S1x64x1024.size a ≤ S1x2048x1024.size a)
theorem k2_off28_inb : ∀ (v339 : BitVec 32) (k2_hw14 : k2_chk14 v339), ∀ a, (k2_off28 v339) a + S1x64x1024.size a ≤ S1x2048x1024.size a := fun v339 k2_hw14 => k2_hw14

def k2_off29 (i : grid2.Coords) : Fin 2 → Nat :=
  let arg0 : BitVec 32 := BitVec.ofNat 32 (i 0).val
  let v364 : Index := Scalar.indexCast arg0
  let c14 : Index := 14#32
  ![v364.toNat, 14]
def k2_off30 (v365 : BitVec 32) : Fin 3 → Nat :=
  let c0_184 : Index := 0#32
  let c32_i32_180 : BitVec 32 := 32#32
  let v366 : BitVec 1 := Scalar.cmpi .slt v365 c32_i32_180
  let c64_i32_181 : BitVec 32 := 64#32
  let v367 : BitVec 32 := Scalar.muli v365 c64_i32_181
  let c1984_i32_182 : BitVec 32 := 1984#32
  let v368 : BitVec 32 := Scalar.select v366 v367 c1984_i32_182
  let v370 : Index := Scalar.indexCast v368
  let c0_185 : Index := 0#32
  ![0, v370.toNat, 0]

def k2_chk15 (v365 : BitVec 32) : Prop :=
  (∀ a, (k2_off30 v365) a + S1x64x1024.size a ≤ S1x2048x1024.size a)
theorem k2_off30_inb : ∀ (v365 : BitVec 32) (k2_hw15 : k2_chk15 v365), ∀ a, (k2_off30 v365) a + S1x64x1024.size a ≤ S1x2048x1024.size a := fun v365 k2_hw15 => k2_hw15

def k2_off31 (i : grid2.Coords) : Fin 2 → Nat :=
  let arg0 : BitVec 32 := BitVec.ofNat 32 (i 0).val
  let v390 : Index := Scalar.indexCast arg0
  let c15 : Index := 15#32
  ![v390.toNat, 15]
def k2_off32 (v391 : BitVec 32) : Fin 3 → Nat :=
  let c0_197 : Index := 0#32
  let c32_i32_193 : BitVec 32 := 32#32
  let v392 : BitVec 1 := Scalar.cmpi .slt v391 c32_i32_193
  let c64_i32_194 : BitVec 32 := 64#32
  let v393 : BitVec 32 := Scalar.muli v391 c64_i32_194
  let c1984_i32_195 : BitVec 32 := 1984#32
  let v394 : BitVec 32 := Scalar.select v392 v393 c1984_i32_195
  let v396 : Index := Scalar.indexCast v394
  let c0_198 : Index := 0#32
  ![0, v396.toNat, 0]

def k2_chk16 (v391 : BitVec 32) : Prop :=
  (∀ a, (k2_off32 v391) a + S1x64x1024.size a ≤ S1x2048x1024.size a)
theorem k2_off32_inb : ∀ (v391 : BitVec 32) (k2_hw16 : k2_chk16 v391), ∀ a, (k2_off32 v391) a + S1x64x1024.size a ≤ S1x2048x1024.size a := fun v391 k2_hw16 => k2_hw16

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S2x16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc3_transform_4 (i : grid3.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_12 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S1x1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 1 → Memref sig .tc .vmem S8x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S8x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S8x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .smem S3 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 2 → Memref sig .tc .vmem S1x256x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]
-- ==== ReferenceIdeal.lean ====
abbrev S2048x2x1024 : Shape := ⟨3, ![2048, 2, 1024]⟩
abbrev S2048x2x3 : Shape := ⟨3, ![2048, 2, 3]⟩
abbrev S1024x3072 : Shape := ⟨2, ![1024, 3072]⟩
abbrev S3072 : Shape := ⟨1, ![3072]⟩
abbrev S1027x1024 : Shape := ⟨2, ![1027, 1024]⟩
abbrev S1024 : Shape := ⟨1, ![1024]⟩
abbrev S1024x1024 : Shape := ⟨2, ![1024, 1024]⟩
abbrev S3072x3 : Shape := ⟨2, ![3072, 3]⟩
abbrev S3 : Shape := ⟨1, ![3]⟩
abbrev S2048x2x3072 : Shape := ⟨3, ![2048, 2, 3072]⟩
abbrev S1x1x3072 : Shape := ⟨3, ![1, 1, 3072]⟩
abbrev S2048x2x16x192 : Shape := ⟨4, ![2048, 2, 16, 192]⟩
abbrev S2x16x2048x192 : Shape := ⟨4, ![2, 16, 2048, 192]⟩
abbrev S2x16x2048x64 : Shape := ⟨4, ![2, 16, 2048, 64]⟩
abbrev S127 : Shape := ⟨1, ![127]⟩
abbrev S_ : Shape := ⟨0, ![]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S2048x2x16x64 : Shape := ⟨4, ![2048, 2, 16, 64]⟩
abbrev S127x32x1 : Shape := ⟨3, ![127, 32, 1]⟩
abbrev S127x32x2x3 : Shape := ⟨4, ![127, 32, 2, 3]⟩
abbrev S127x32x2x1024 : Shape := ⟨4, ![127, 32, 2, 1024]⟩
abbrev S127x32x2x1027 : Shape := ⟨4, ![127, 32, 2, 1027]⟩
abbrev S1x1x1x1024 : Shape := ⟨4, ![1, 1, 1, 1024]⟩
abbrev S127x2x1024 : Shape := ⟨3, ![127, 2, 1024]⟩
abbrev S127x2x16x64 : Shape := ⟨4, ![127, 2, 16, 64]⟩
abbrev S2x16x127x64 : Shape := ⟨4, ![2, 16, 127, 64]⟩
abbrev S2x16x64 : Shape := ⟨3, ![2, 16, 64]⟩
abbrev S2x16x1x64 : Shape := ⟨4, ![2, 16, 1, 64]⟩
abbrev S2x16x64x127 : Shape := ⟨4, ![2, 16, 64, 127]⟩
abbrev S2x16x1x127 : Shape := ⟨4, ![2, 16, 1, 127]⟩
abbrev S2x16x1 : Shape := ⟨3, ![2, 16, 1]⟩
abbrev S2x16x1x1 : Shape := ⟨4, ![2, 16, 1, 1]⟩
abbrev S2x2048x64 : Shape := ⟨3, ![2, 2048, 64]⟩
abbrev S2x127x64 : Shape := ⟨3, ![2, 127, 64]⟩
abbrev S2x64x127 : Shape := ⟨3, ![2, 64, 127]⟩
abbrev S2x2048x127 : Shape := ⟨3, ![2, 2048, 127]⟩
abbrev S2x2048 : Shape := ⟨2, ![2, 2048]⟩
abbrev S2x2048x1 : Shape := ⟨3, ![2, 2048, 1]⟩
abbrev S2x16 : Shape := ⟨2, ![2, 16]⟩
abbrev S64 : Shape := ⟨1, ![64]⟩
abbrev S1x1x64 : Shape := ⟨3, ![1, 1, 64]⟩
abbrev S2x1024 : Shape := ⟨2, ![2, 1024]⟩
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S4096x8 : Shape := ⟨2, ![4096, 8]⟩
abbrev S32x2048x64 : Shape := ⟨3, ![32, 2048, 64]⟩
abbrev S2x16x1024 : Shape := ⟨3, ![2, 16, 1024]⟩
abbrev S32x1024 : Shape := ⟨2, ![32, 1024]⟩
abbrev S32x1024x1 : Shape := ⟨3, ![32, 1024, 1]⟩
abbrev S32x1024x64 : Shape := ⟨3, ![32, 1024, 64]⟩
abbrev S32x1024x64x1 : Shape := ⟨4, ![32, 1024, 64, 1]⟩
abbrev S1 : Shape := ⟨1, ![1]⟩
abbrev S1x1x1x1 : Shape := ⟨4, ![1, 1, 1, 1]⟩
abbrev S32x64x1024 : Shape := ⟨3, ![32, 64, 1024]⟩
abbrev S32x2048x1024 : Shape := ⟨3, ![32, 2048, 1024]⟩
abbrev S32x2048 : Shape := ⟨2, ![32, 2048]⟩
abbrev S32x2048x1 : Shape := ⟨3, ![32, 2048, 1]⟩
abbrev S2x16x512x64 : Shape := ⟨4, ![2, 16, 512, 64]⟩
abbrev S2x16x64x512 : Shape := ⟨4, ![2, 16, 64, 512]⟩
abbrev S2x16x2048x512 : Shape := ⟨4, ![2, 16, 2048, 512]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S2x2048x1024 : Shape := ⟨3, ![2, 2048, 1024]⟩
abbrev S2x2048x3072 : Shape := ⟨3, ![2, 2048, 3072]⟩
abbrev S2x2048x3 : Shape := ⟨3, ![2, 2048, 3]⟩
abbrev S1x1x3 : Shape := ⟨3, ![1, 1, 3]⟩

abbrev nBuf : Space → Nat
  | .hbm => 321
  | .vmem => 0
  | .smem => 0
  | _ => 0

abbrev hbmTy0_0 (i : Nat) : BufTy := match i % 128 with
  | 0 => ⟨S2048x2x1024, .f32⟩
  | 1 => ⟨S2048x2x3, .f32⟩
  | 2 => ⟨S1024x3072, .f32⟩
  | 3 => ⟨S3072, .f32⟩
  | 4 => ⟨S1027x1024, .f32⟩
  | 5 => ⟨S1024, .f32⟩
  | 6 => ⟨S1024x1024, .f32⟩
  | 7 => ⟨S1024, .f32⟩
  | 8 => ⟨S3072x3, .f32⟩
  | 9 => ⟨S3, .f32⟩
  | 10 => ⟨S2048x2x3072, .f32⟩
  | 11 => ⟨S1x1x3072, .f32⟩
  | 12 => ⟨S2048x2x3072, .f32⟩
  | 13 => ⟨S2048x2x3072, .f32⟩
  | 14 => ⟨S2048x2x16x192, .f32⟩
  | 15 => ⟨S2x16x2048x192, .f32⟩
  | 16 => ⟨S2x16x2048x64, .f32⟩
  | 17 => ⟨S2x16x2048x64, .f32⟩
  | 18 => ⟨S2x16x2048x64, .f32⟩
  | 19 => ⟨S127, .i32⟩
  | 20 => ⟨S_, .i32⟩
  | 21 => ⟨S127, .i32⟩
  | 22 => ⟨S127, .i32⟩
  | 23 => ⟨S127x1, .i32⟩
  | 24 => ⟨S32, .i32⟩
  | 25 => ⟨S1x32, .i32⟩
  | 26 => ⟨S127x32, .i32⟩
  | 27 => ⟨S127x32, .i32⟩
  | 28 => ⟨S127x32, .i32⟩
  | 29 => ⟨S2048x2x16x64, .f32⟩
  | 30 => ⟨S2048x2x1024, .f32⟩
  | 31 => ⟨S2048x2x16x64, .f32⟩
  | 32 => ⟨S2048x2x1024, .f32⟩
  | 33 => ⟨S_, .i32⟩
  | 34 => ⟨S127x32, .i32⟩
  | 35 => ⟨S127x32, .i1⟩
  | 36 => ⟨S_, .i32⟩
  | 37 => ⟨S127x32, .i32⟩
  | 38 => ⟨S127x32, .i32⟩
  | 39 => ⟨S127x32, .i32⟩
  | 40 => ⟨S127x32x1, .i32⟩
  | 41 => ⟨S127x32x2x3, .f32⟩
  | 42 => ⟨S_, .i32⟩
  | 43 => ⟨S127x32, .i32⟩
  | 44 => ⟨S127x32, .i1⟩
  | 45 => ⟨S_, .i32⟩
  | 46 => ⟨S127x32, .i32⟩
  | 47 => ⟨S127x32, .i32⟩
  | 48 => ⟨S127x32, .i32⟩
  | 49 => ⟨S127x32x1, .i32⟩
  | 50 => ⟨S127x32x2x1024, .f32⟩
  | 51 => ⟨S127x32x2x1027, .f32⟩
  | 52 => ⟨S127x32x2x1024, .f32⟩
  | 53 => ⟨S1x1x1x1024, .f32⟩
  | 54 => ⟨S127x32x2x1024, .f32⟩
  | 55 => ⟨S127x32x2x1024, .f32⟩
  | 56 => ⟨S_, .f32⟩
  | 57 => ⟨S127x32x2x1024, .f32⟩
  | 58 => ⟨S127x32x2x1024, .f32⟩
  | 59 => ⟨S127x32x2x1024, .f32⟩
  | 60 => ⟨S1x1x1x1024, .f32⟩
  | 61 => ⟨S127x32x2x1024, .f32⟩
  | 62 => ⟨S127x32x2x1024, .f32⟩
  | 63 => ⟨S_, .f32⟩
  | 64 => ⟨S127x2x1024, .f32⟩
  | 65 => ⟨S_, .f32⟩
  | 66 => ⟨S127x2x1024, .f32⟩
  | 67 => ⟨S127x2x1024, .f32⟩
  | 68 => ⟨S127x2x16x64, .f32⟩
  | 69 => ⟨S2x16x127x64, .f32⟩
  | 70 => ⟨S_, .i32⟩
  | 71 => ⟨S127x32, .i32⟩
  | 72 => ⟨S127x32, .i1⟩
  | 73 => ⟨S_, .i32⟩
  | 74 => ⟨S127x32, .i32⟩
  | 75 => ⟨S127x32, .i32⟩
  | 76 => ⟨S127x32, .i32⟩
  | 77 => ⟨S127x32x1, .i32⟩
  | 78 => ⟨S127x32x2x1024, .f32⟩
  | 79 => ⟨S127x32x2x1027, .f32⟩
  | 80 => ⟨S127x32x2x1024, .f32⟩
  | 81 => ⟨S1x1x1x1024, .f32⟩
  | 82 => ⟨S127x32x2x1024, .f32⟩
  | 83 => ⟨S127x32x2x1024, .f32⟩
  | 84 => ⟨S_, .f32⟩
  | 85 => ⟨S127x32x2x1024, .f32⟩
  | 86 => ⟨S127x32x2x1024, .f32⟩
  | 87 => ⟨S127x32x2x1024, .f32⟩
  | 88 => ⟨S1x1x1x1024, .f32⟩
  | 89 => ⟨S127x32x2x1024, .f32⟩
  | 90 => ⟨S127x32x2x1024, .f32⟩
  | 91 => ⟨S_, .f32⟩
  | 92 => ⟨S127x2x1024, .f32⟩
  | 93 => ⟨S_, .f32⟩
  | 94 => ⟨S127x2x1024, .f32⟩
  | 95 => ⟨S127x2x1024, .f32⟩
  | 96 => ⟨S127x2x16x64, .f32⟩
  | 97 => ⟨S2x16x127x64, .f32⟩
  | 98 => ⟨S_, .f32⟩
  | 99 => ⟨S2x16x64, .f32⟩
  | 100 => ⟨S2x16x1x64, .f32⟩
  | 101 => ⟨S_, .f32⟩
  | 102 => ⟨S2x16x1x64, .f32⟩
  | 103 => ⟨S2x16x1x64, .f32⟩
  | 104 => ⟨S2x16x64x127, .f32⟩
  | 105 => ⟨S2x16x1x127, .f32⟩
  | 106 => ⟨S_, .f32⟩
  | 107 => ⟨S2x16x1x127, .f32⟩
  | 108 => ⟨S2x16x1x127, .f32⟩
  | 109 => ⟨S_, .f32⟩
  | 110 => ⟨S2x16x1, .f32⟩
  | 111 => ⟨S_, .f32⟩
  | 112 => ⟨S2x16x1, .f32⟩
  | 113 => ⟨S2x16x1, .f32⟩
  | 114 => ⟨S2x16x1x1, .f32⟩
  | 115 => ⟨S2x16x1x127, .f32⟩
  | 116 => ⟨S2x16x1x127, .f32⟩
  | 117 => ⟨S2x16x1x127, .f32⟩
  | 118 => ⟨S_, .f32⟩
  | 119 => ⟨S2x16x1, .f32⟩
  | 120 => ⟨S2x16x1x1, .f32⟩
  | 121 => ⟨S2x16x1x127, .f32⟩
  | 122 => ⟨S2x16x1x127, .f32⟩
  | 123 => ⟨S2x16x1x64, .f32⟩
  | 124 => ⟨S_, .f32⟩
  | 125 => ⟨S2x2048x64, .f32⟩
  | 126 => ⟨S_, .f32⟩
  | 127 => ⟨S2x2048x64, .f32⟩
  | _ => ⟨S2048x2x1024, .f32⟩

abbrev hbmTy0_1 (i : Nat) : BufTy := match i % 128 with
  | 0 => ⟨S2x2048x64, .f32⟩
  | 1 => ⟨S_, .f32⟩
  | 2 => ⟨S2x127x64, .f32⟩
  | 3 => ⟨S_, .f32⟩
  | 4 => ⟨S2x127x64, .f32⟩
  | 5 => ⟨S2x127x64, .f32⟩
  | 6 => ⟨S2x64x127, .f32⟩
  | 7 => ⟨S2x2048x127, .f32⟩
  | 8 => ⟨S_, .f32⟩
  | 9 => ⟨S2x2048x127, .f32⟩
  | 10 => ⟨S2x2048x127, .f32⟩
  | 11 => ⟨S_, .f32⟩
  | 12 => ⟨S2x2048, .f32⟩
  | 13 => ⟨S_, .f32⟩
  | 14 => ⟨S2x2048, .f32⟩
  | 15 => ⟨S2x2048, .f32⟩
  | 16 => ⟨S2x2048x1, .f32⟩
  | 17 => ⟨S2x2048x127, .f32⟩
  | 18 => ⟨S2x2048x127, .f32⟩
  | 19 => ⟨S2x2048x127, .f32⟩
  | 20 => ⟨S_, .f32⟩
  | 21 => ⟨S2x2048, .f32⟩
  | 22 => ⟨S2x2048x1, .f32⟩
  | 23 => ⟨S2x2048x127, .f32⟩
  | 24 => ⟨S2x2048x127, .f32⟩
  | 25 => ⟨S_, .f32⟩
  | 26 => ⟨S2x2048, .f32⟩
  | 27 => ⟨S_, .f32⟩
  | 28 => ⟨S2x2048, .f32⟩
  | 29 => ⟨S2x2048, .f32⟩
  | 30 => ⟨S2x16, .f32⟩
  | 31 => ⟨S2x16, .i32⟩
  | 32 => ⟨S_, .i32⟩
  | 33 => ⟨S2x16, .i32⟩
  | 34 => ⟨S2x16, .i32⟩
  | 35 => ⟨S2x16x1, .i32⟩
  | 36 => ⟨S64, .i32⟩
  | 37 => ⟨S1x1x64, .i32⟩
  | 38 => ⟨S2x16x64, .i32⟩
  | 39 => ⟨S2x16x64, .i32⟩
  | 40 => ⟨S2x16x64, .i32⟩
  | 41 => ⟨S2x1024, .i32⟩
  | 42 => ⟨S_, .i32⟩
  | 43 => ⟨S_, .i32⟩
  | 44 => ⟨S_, .i32⟩
  | 45 => ⟨S2x1024, .i32⟩
  | 46 => ⟨S2x1024, .i32⟩
  | 47 => ⟨S_, .i32⟩
  | 48 => ⟨S2x1024, .i32⟩
  | 49 => ⟨S2x1024, .i32⟩
  | 50 => ⟨S4096x3, .f32⟩
  | 51 => ⟨S4096x1x3, .f32⟩
  | 52 => ⟨S1x4096x3, .f32⟩
  | 53 => ⟨S4096x4096x3, .f32⟩
  | 54 => ⟨S4096x4096x3, .f32⟩
  | 55 => ⟨S4096x4096x3, .f32⟩
  | 56 => ⟨S4096x4096x3, .f32⟩
  | 57 => ⟨S_, .f32⟩
  | 58 => ⟨S4096x4096, .f32⟩
  | 59 => ⟨S4096x4096, .f32⟩
  | 60 => ⟨S4096x8, .f32⟩
  | 61 => ⟨S4096x8, .i32⟩
  | 62 => ⟨S32x2048x64, .f32⟩
  | 63 => ⟨S32x2048x64, .f32⟩
  | 64 => ⟨S2x16x1024, .i32⟩
  | 65 => ⟨S32x1024, .i32⟩
  | 66 => ⟨S32x1024x1, .i32⟩
  | 67 => ⟨S32x1024x64, .i32⟩
  | 68 => ⟨S_, .i32⟩
  | 69 => ⟨S32x1024x64, .i32⟩
  | 70 => ⟨S32x1024x64, .i1⟩
  | 71 => ⟨S_, .i32⟩
  | 72 => ⟨S32x1024x64, .i32⟩
  | 73 => ⟨S32x1024x64, .i32⟩
  | 74 => ⟨S32x1024x64, .i32⟩
  | 75 => ⟨S32x1024x64x1, .i32⟩
  | 76 => ⟨S1, .i32⟩
  | 77 => ⟨S_, .i32⟩
  | 78 => ⟨S32x1024x64x1, .i32⟩
  | 79 => ⟨S32x1024x64x1, .i1⟩
  | 80 => ⟨S1x1x1x1, .i32⟩
  | 81 => ⟨S32x1024x64x1, .i32⟩
  | 82 => ⟨S32x1024x64x1, .i1⟩
  | 83 => ⟨S32x1024x64x1, .i1⟩
  | 84 => ⟨S_, .i1⟩
  | 85 => ⟨S32x1024x64, .i1⟩
  | 86 => ⟨S32x1024x64, .f32⟩
  | 87 => ⟨S_, .f32⟩
  | 88 => ⟨S32x1024x64, .f32⟩
  | 89 => ⟨S32x1024x64, .f32⟩
  | 90 => ⟨S_, .i32⟩
  | 91 => ⟨S32x1024x64, .i32⟩
  | 92 => ⟨S32x1024x64, .i1⟩
  | 93 => ⟨S_, .i32⟩
  | 94 => ⟨S32x1024x64, .i32⟩
  | 95 => ⟨S32x1024x64, .i32⟩
  | 96 => ⟨S32x1024x64, .i32⟩
  | 97 => ⟨S32x1024x64x1, .i32⟩
  | 98 => ⟨S1, .i32⟩
  | 99 => ⟨S_, .i32⟩
  | 100 => ⟨S32x1024x64x1, .i32⟩
  | 101 => ⟨S32x1024x64x1, .i1⟩
  | 102 => ⟨S1x1x1x1, .i32⟩
  | 103 => ⟨S32x1024x64x1, .i32⟩
  | 104 => ⟨S32x1024x64x1, .i1⟩
  | 105 => ⟨S32x1024x64x1, .i1⟩
  | 106 => ⟨S_, .i1⟩
  | 107 => ⟨S32x1024x64, .i1⟩
  | 108 => ⟨S32x1024x64, .f32⟩
  | 109 => ⟨S_, .f32⟩
  | 110 => ⟨S32x1024x64, .f32⟩
  | 111 => ⟨S32x1024x64, .f32⟩
  | 112 => ⟨S32x2048x64, .f32⟩
  | 113 => ⟨S32x64x1024, .f32⟩
  | 114 => ⟨S32x2048x1024, .f32⟩
  | 115 => ⟨S_, .f32⟩
  | 116 => ⟨S32x2048x1024, .f32⟩
  | 117 => ⟨S32x2048x1024, .f32⟩
  | 118 => ⟨S_, .f32⟩
  | 119 => ⟨S32x2048, .f32⟩
  | 120 => ⟨S_, .f32⟩
  | 121 => ⟨S32x2048, .f32⟩
  | 122 => ⟨S32x2048, .f32⟩
  | 123 => ⟨S32x2048x1, .f32⟩
  | 124 => ⟨S32x2048x1024, .f32⟩
  | 125 => ⟨S32x2048x1024, .f32⟩
  | 126 => ⟨S32x2048x1024, .f32⟩
  | 127 => ⟨S_, .f32⟩
  | _ => ⟨S2048x2x1024, .f32⟩

abbrev hbmTy0_2 (i : Nat) : BufTy := match i % 128 with
  | 0 => ⟨S32x2048, .f32⟩
  | 1 => ⟨S32x2048x1, .f32⟩
  | 2 => ⟨S32x2048x1024, .f32⟩
  | 3 => ⟨S32x2048x1024, .f32⟩
  | 4 => ⟨S32x2048x64, .f32⟩
  | 5 => ⟨S2x16x2048x64, .f32⟩
  | 6 => ⟨S2x16x512x64, .f32⟩
  | 7 => ⟨S2x16x512x64, .f32⟩
  | 8 => ⟨S2x16x64x512, .f32⟩
  | 9 => ⟨S2x16x2048x512, .f32⟩
  | 10 => ⟨S_, .f32⟩
  | 11 => ⟨S2x16x2048x512, .f32⟩
  | 12 => ⟨S2x16x2048x512, .f32⟩
  | 13 => ⟨S_, .f32⟩
  | 14 => ⟨S2x16x2048, .f32⟩
  | 15 => ⟨S_, .f32⟩
  | 16 => ⟨S2x16x2048, .f32⟩
  | 17 => ⟨S2x16x2048, .f32⟩
  | 18 => ⟨S2x16x2048x1, .f32⟩
  | 19 => ⟨S2x16x2048x512, .f32⟩
  | 20 => ⟨S2x16x2048x512, .f32⟩
  | 21 => ⟨S2x16x2048x512, .f32⟩
  | 22 => ⟨S_, .f32⟩
  | 23 => ⟨S2x16x2048, .f32⟩
  | 24 => ⟨S2x16x2048x1, .f32⟩
  | 25 => ⟨S2x16x2048x512, .f32⟩
  | 26 => ⟨S2x16x2048x512, .f32⟩
  | 27 => ⟨S2x16x2048x64, .f32⟩
  | 28 => ⟨S2x16x2048x64, .f32⟩
  | 29 => ⟨S2x2048x16x64, .f32⟩
  | 30 => ⟨S2x2048x1024, .f32⟩
  | 31 => ⟨S2x2048x16x64, .f32⟩
  | 32 => ⟨S2x2048x1024, .f32⟩
  | 33 => ⟨S2x2048x16x64, .f32⟩
  | 34 => ⟨S2x2048x1024, .f32⟩
  | 35 => ⟨S2x2048x3072, .f32⟩
  | 36 => ⟨S2x2048x3, .f32⟩
  | 37 => ⟨S1x1x3, .f32⟩
  | 38 => ⟨S2x2048x3, .f32⟩
  | 39 => ⟨S2x2048x3, .f32⟩
  | 40 => ⟨S_, .f32⟩
  | 41 => ⟨S2x2048, .f32⟩
  | 42 => ⟨S_, .f32⟩
  | 43 => ⟨S2x2048, .f32⟩
  | 44 => ⟨S2x2048, .f32⟩
  | 45 => ⟨S2x2048x1, .f32⟩
  | 46 => ⟨S2x2048x3, .f32⟩
  | 47 => ⟨S2x2048x3, .f32⟩
  | 48 => ⟨S2x2048x3, .f32⟩
  | 49 => ⟨S_, .f32⟩
  | 50 => ⟨S2x2048, .f32⟩
  | 51 => ⟨S2x2048x1, .f32⟩
  | 52 => ⟨S2x2048x3, .f32⟩
  | 53 => ⟨S2x2048x3, .f32⟩
  | 54 => ⟨S2x2048x1, .f32⟩
  | 55 => ⟨S2x2048x1024, .f32⟩
  | 56 => ⟨S2x2048x1024, .f32⟩
  | 57 => ⟨S2x2048x1, .f32⟩
  | 58 => ⟨S2x2048x1024, .f32⟩
  | 59 => ⟨S2x2048x1024, .f32⟩
  | 60 => ⟨S2x2048x1024, .f32⟩
  | 61 => ⟨S2x2048x1, .f32⟩
  | 62 => ⟨S2x2048x1024, .f32⟩
  | 63 => ⟨S2x2048x1024, .f32⟩
  | 64 => ⟨S2x2048x1024, .f32⟩
  | _ => ⟨S2048x2x1024, .f32⟩

abbrev hbmTy (i : Nat) : BufTy := match i / 128 with
  | 0 => hbmTy0_0 i
  | 1 => hbmTy0_1 i
  | 2 => hbmTy0_2 i
  | _ => ⟨S2048x2x1024, .f32⟩

abbrev bufTy : (tb : Table) → Fin (tcTables nBuf tb) → BufTy
  | .hbm, ⟨i, _⟩ => hbmTy i
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_c_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_cst_16 : Ref sig .tc := ⟨.hbm, 126, rfl⟩
abbrev main_v94 : Ref sig .tc := ⟨.hbm, 127, rfl⟩
abbrev main_v95 : Ref sig .tc := ⟨.hbm, 128, rfl⟩
abbrev main_cst_17 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_v102 : Ref sig .tc := ⟨.hbm, 138, rfl⟩
abbrev main_cst_20 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_23 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩
abbrev main_v116 : Ref sig .tc := ⟨.hbm, 157, rfl⟩
abbrev main_values : Ref sig .tc := ⟨.hbm, 158, rfl⟩
abbrev main_indices : Ref sig .tc := ⟨.hbm, 159, rfl⟩
abbrev main_c_25 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_26 : Ref sig .tc := ⟨.hbm, 170, rfl⟩
abbrev main_c_27 : Ref sig .tc := ⟨.hbm, 171, rfl⟩
abbrev main_call2_v0 : Ref sig .tc := ⟨.hbm, 172, rfl⟩
abbrev main_call2_v1 : Ref sig .tc := ⟨.hbm, 173, rfl⟩
abbrev main_call2_v2 : Ref sig .tc := ⟨.hbm, 174, rfl⟩
abbrev main_call2_v3 : Ref sig .tc := ⟨.hbm, 175, rfl⟩
abbrev main_call2_v4 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_28 : Ref sig .tc := ⟨.hbm, 185, rfl⟩
abbrev main_v134 : Ref sig .tc := ⟨.hbm, 186, rfl⟩
abbrev main_v135 : Ref sig .tc := ⟨.hbm, 187, rfl⟩
abbrev main_values_29 : Ref sig .tc := ⟨.hbm, 188, rfl⟩
abbrev main_indices_30 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call3_c : Ref sig .tc := ⟨.hbm, 196, rfl⟩
abbrev main_call3_v0 : Ref sig .tc := ⟨.hbm, 197, rfl⟩
abbrev main_call3_v1 : Ref sig .tc := ⟨.hbm, 198, rfl⟩
abbrev main_call3_c_0 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_call3_v5 : Ref sig .tc := ⟨.hbm, 203, rfl⟩
abbrev main_call3_c_1 : Ref sig .tc := ⟨.hbm, 204, rfl⟩
abbrev main_call3_c_2 : Ref sig .tc := ⟨.hbm, 205, rfl⟩
abbrev main_call3_v6 : Ref sig .tc := ⟨.hbm, 206, rfl⟩
abbrev main_call3_v7 : Ref sig .tc := ⟨.hbm, 207, rfl⟩
abbrev main_call3_v8 : Ref sig .tc := ⟨.hbm, 208, rfl⟩
abbrev main_call3_v9 : Ref sig .tc := ⟨.hbm, 209, rfl⟩
abbrev main_call3_v10 : Ref sig .tc := ⟨.hbm, 210, rfl⟩
abbrev main_call3_v11 : Ref sig .tc := ⟨.hbm, 211, rfl⟩
abbrev main_call3_c_3 : Ref sig .tc := ⟨.hbm, 212, rfl⟩
abbrev main_call3_v12 : Ref sig .tc := ⟨.hbm, 213, rfl⟩
abbrev main_call3_v13 : Ref sig .tc := ⟨.hbm, 214, rfl⟩
abbrev main_call3_cst : Ref sig .tc := ⟨.hbm, 215, rfl⟩
abbrev main_call3_v14 : Ref sig .tc := ⟨.hbm, 216, rfl⟩
abbrev main_v142 : Ref sig .tc := ⟨.hbm, 217, rfl⟩
abbrev main_call4_c : Ref sig .tc := ⟨.hbm, 218, rfl⟩
abbrev main_call4_v0 : Ref sig .tc := ⟨.hbm, 219, rfl⟩
abbrev main_call4_v1 : Ref sig .tc := ⟨.hbm, 220, rfl⟩
abbrev main_call4_c_0 : Ref sig .tc := ⟨.hbm, 221, rfl⟩
abbrev main_call4_v2 : Ref sig .tc := ⟨.hbm, 222, rfl⟩
abbrev main_call4_v3 : Ref sig .tc := ⟨.hbm, 223, rfl⟩
abbrev main_call4_v4 : Ref sig .tc := ⟨.hbm, 224, rfl⟩
abbrev main_call4_v5 : Ref sig .tc := ⟨.hbm, 225, rfl⟩
abbrev main_call4_c_1 : Ref sig .tc := ⟨.hbm, 226, rfl⟩
abbrev main_call4_c_2 : Ref sig .tc := ⟨.hbm, 227, rfl⟩
abbrev main_call4_v6 : Ref sig .tc := ⟨.hbm, 228, rfl⟩
abbrev main_call4_v7 : Ref sig .tc := ⟨.hbm, 229, rfl⟩
abbrev main_call4_v8 : Ref sig .tc := ⟨.hbm, 230, rfl⟩
abbrev main_call4_v9 : Ref sig .tc := ⟨.hbm, 231, rfl⟩
abbrev main_call4_v10 : Ref sig .tc := ⟨.hbm, 232, rfl⟩
abbrev main_call4_v11 : Ref sig .tc := ⟨.hbm, 233, rfl⟩
abbrev main_call4_c_3 : Ref sig .tc := ⟨.hbm, 234, rfl⟩
abbrev main_call4_v12 : Ref sig .tc := ⟨.hbm, 235, rfl⟩
abbrev main_call4_v13 : Ref sig .tc := ⟨.hbm, 236, rfl⟩
abbrev main_call4_cst : Ref sig .tc := ⟨.hbm, 237, rfl⟩
abbrev main_call4_v14 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_cst_31 : Ref sig .tc := ⟨.hbm, 243, rfl⟩
abbrev main_v147 : Ref sig .tc := ⟨.hbm, 244, rfl⟩
abbrev main_v148 : Ref sig .tc := ⟨.hbm, 245, rfl⟩
abbrev main_cst_32 : Ref sig .tc := ⟨.hbm, 246, rfl⟩
abbrev main_v149 : Ref sig .tc := ⟨.hbm, 247, rfl⟩
abbrev main_cst_33 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_cst_34 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_cst_35 : Ref sig .tc := ⟨.hbm, 266, rfl⟩
abbrev main_v166 : Ref sig .tc := ⟨.hbm, 267, rfl⟩
abbrev main_v167 : Ref sig .tc := ⟨.hbm, 268, rfl⟩
abbrev main_cst_36 : Ref sig .tc := ⟨.hbm, 269, rfl⟩
abbrev main_v168 : Ref sig .tc := ⟨.hbm, 270, rfl⟩
abbrev main_cst_37 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_cst_38 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_cst_39 : Ref sig .tc := ⟨.hbm, 296, rfl⟩
abbrev main_v192 : Ref sig .tc := ⟨.hbm, 297, rfl⟩
abbrev main_cst_40 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_cst_41 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩

abbrev nD : Nat := 1
abbrev τ : Topo := Topo.v7x

variable {F : FTy → Type} [FloatOps F]
-- ==== Proof.R.TableRange.lean ====
/- The positions that a top-k returns are positions of the sorted axis: every index word is smaller than the axis. -/
module

public import Idealize.ShloMosaic.Lib.SortFacts

@[expose] public section

noncomputable section

namespace Cert.TableRange

open Idealize.ShloMosaic

/-- Sixteen places per row, out of 2048: each index word of the top-k is smaller than 2048, whatever is sorted. -/
theorem topK_lt {α : Type} (gt : α → α → BitVec 1) (x : (⟨2, ![2, 2048]⟩ : Shape).Idx → α)
    (h : (⟨2, ![2, 2048]⟩ : Shape).Slices (fun _ => 0) ⟨2, ![2, 16]⟩) (j : (⟨2, ![2, 16]⟩ : Shape).Idx) :
    ((Host.topK ⟨2, ![2, 16]⟩ 1 gt x h).2 j).toNat < 2048 := by
  have key : ∀ k : Fin 2048, (BitVec.ofNat 32 k.val).toNat < 2048 := fun k => by
    rw [BitVec.toNat_ofNat]; have := k.isLt; omega
  simp only [Host.topK, extractStridedSlice, Host.sort2, iotaInDim]
  split_ifs with h1
  · exact key _
  · exact absurd (by decide) h1

end Cert.TableRange

end
-- ==== Proof.R.KernelIdealK0.lean ====
/- Custom call 0 of `KernelIdeal` as a region of the pipelined program: the windows' blocks, the kernel's run on any staging
   memrefs, the proof data and the body obligation, for any index type, level type, algebra, variants, entry contents and
   owed tally. The launch set-up follows the library's form for a kernel whose stores tile its output block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Reg.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 5, through which its contents are stated (`View.read_writes_of_cover`: the
    choice does not matter). -/
abbrev VO0_5 : View sig .tc .vmem S8x1024 .f32 := (Memref.whole cc0_stg5_0 : Memref sig .tc .vmem S8x1024 .f32).view
/-- Each window's current staging memref at point `t`, spelled as the pipeline passes it (`bodyAt0`), and its wholeness. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S1024x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S8x1024 .f32) (harg6 : arg6.IsWhole)
    (x0 : Vec F S128x1024 .f32) (x1 : Vec F S128x128 .f32) (x2 : Vec F S1024x1024 .f32) (x3 : Vec F S128x1024 .f32) (x4 : Vec F S1x1024 .f32) :
    { L5 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) 𝒱₀ c none) E (cc0__compress1_body i arg1 harg1 arg2 harg2 arg3 harg3 arg4 harg4 arg5 harg5 arg6 harg6) K } := by
  refine ⟨?_, fun E K => ?run⟩
  case run =>
    simp only [cc0__compress1_body_eq_skeleton]; unfold cc0__compress1_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for output 5 tile its block (1 store of `S8x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S1024x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S8x1024 .f32) (harg6 : arg6.IsWhole)
    (x0 : Vec F S128x1024 .f32) (x1 : Vec F S128x128 .f32) (x2 : Vec F S1024x1024 .f32) (x3 : Vec F S128x1024 .f32) (x4 : Vec F S1x1024 .f32) (y : S8x1024.Idx) :
    ∃ pc ∈ (kernelRun0_A (Ix := Ix) (U := U) (Lvl := Lvl) 𝒱₀ c i arg1 harg1 arg2 harg2 arg3 harg3 arg4 harg4 arg5 harg5 arg6 harg6 x0 x1 x2 x3 x4).1, y ∈ pc.1.set :=
  View.cover_of_tiledL (kernelRun0_A (Ix := Ix) (U := U) (Lvl := Lvl) 𝒱₀ c i arg1 harg1 arg2 harg2 arg3 harg3 arg4 harg4 arg5 harg5 arg6 harg6 x0 x1 x2 x3 x4).1 S8x1024.size (by sl_kernel_rfl) y

/-- What the run leaves in output 5's staging buffer: its pieces read back over junk. -/
def out0_A_5 (c : Dev nD) (i : grid0.Coords) (arg1 : Memref sig .tc .vmem S128x1024 .f32) (harg1 : arg1.IsWhole) (arg2 : Memref sig .tc .vmem S128x128 .f32) (harg2 : arg2.IsWhole) (arg3 : Memref sig .tc .vmem S1024x1024 .f32) (harg3 : arg3.IsWhole) (arg4 : Memref sig .tc .vmem S128x1024 .f32) (harg4 : arg4.IsWhole) (arg5 : Memref sig .tc .vmem S1x1024 .f32) (harg5 : arg5.IsWhole) (arg6 : Memref sig .tc .vmem S8x1024 .f32) (harg6 : arg6.IsWhole)
    (x0 : Vec F S128x1024 .f32) (x1 : Vec F S128x128 .f32) (x2 : Vec F S1024x1024 .f32) (x3 : Vec F S128x1024 .f32) (x4 : Vec F S1x1024 .f32) : Vec F S8x1024 .f32 :=
  VO0_5.read (Elt F) (VO0_5.writes (Elt F) VO0_5.junk (kernelRun0_A (Ix := Ix) (U := U) (Lvl := Lvl) 𝒱₀ c i arg1 harg1 arg2 harg2 arg3 harg3 arg4 harg4 arg5 harg5 arg6 harg6 x0 x1 x2 x3 x4).1)

/-! ## What the outputs hold after each point -/

/-- What the outputs' staging buffers hold after the body at point `t`: the run's contents at
    the point's memrefs and input blocks. -/
def outsAt0 (c : Dev nD) (t : Fin cfg0.N) : Vec F S8x1024 .f32 :=
  out0_A_5 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t) (iblk V c 2 t) (iblk V c 3 t) (iblk V c 4 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = iblk V c 3 t := by dsimp only [dat]
theorem after0_4 (c : Dev nD) (t : Fin cfg0.N) : (𝕕 c).after 4 t = iblk V c 4 t := by dsimp only [dat]
theorem after0_5 (c : Dev nD) (t : Fin cfg0.N) : (𝕕 c).after 5 t = (outsAt0 (Ix := Ix) (U := U) (Lvl := Lvl) 𝒱₀ V c t) := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
theorem before0_1 (c : Dev nD) (t : Fin cfg0.N) (d) : (𝕕 c).before 1 t d = iblk V c 1 t :=
  before0_1_of V (𝕕 c) (A_eq 𝒱₀ V D c 1) (after0_1 𝒱₀ V D c) t d
theorem before0_2 (c : Dev nD) (t : Fin cfg0.N) (d) : (𝕕 c).before 2 t d = iblk V c 2 t :=
  before0_2_of V (𝕕 c) (A_eq 𝒱₀ V D c 2) (after0_2 𝒱₀ V D c) t d
theorem before0_3 (c : Dev nD) (t : Fin cfg0.N) (d) : (𝕕 c).before 3 t d = iblk V c 3 t :=
  before0_3_of V (𝕕 c) (A_eq 𝒱₀ V D c 3) (after0_3 𝒱₀ V D c) t d
theorem before0_4 (c : Dev nD) (t : Fin cfg0.N) (d) : (𝕕 c).before 4 t d = iblk V c 4 t :=
  before0_4_of V (𝕕 c) (A_eq 𝒱₀ V D c 4) (after0_4 𝒱₀ V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3, before0_4]
  rw [show (𝕕 c).Φ t.succ = (𝕕 c).Φ t.castSucc from rfl,
    show (𝕕 c).owesAt ι t.succ = (𝕕 c).owesAt ι t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A (Ix := Ix) (U := U) (Lvl := Lvl) 𝒱₀ c (grid0.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 (Ix := Ix) (U := U) (Lvl := Lvl) 𝒱₀ c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Reg.K0

end
-- ==== Proof.R.KernelIdealK1.lean ====
/- Custom call 1 of `KernelIdeal` as a region of the pipelined program: the windows' blocks, the kernel's run on any staging
   memrefs, the proof data and the body obligation, for any index type, level type, algebra, variants, entry contents and
   owed tally. The launch set-up follows the library's form for a kernel whose stores tile its output block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Reg.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Ix ℕ U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO1_3 : View sig .tc .vmem S1x128x1024 .f32 := (Memref.whole cc1_stg3_0 : Memref sig .tc .vmem S1x128x1024 .f32).view
/-- Each window's current staging memref at point `t`, spelled as the pipeline passes it (`bodyAt1`), and its wholeness. -/
abbrev ms1_0 (t : Fin cfg1.N) : Memref sig .tc .vmem S1x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x1024 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x128x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x128x1024 .f32) (harg4 : arg4.IsWhole)
    (x0 : Vec F S1x128x1024 .f32) (x1 : Vec F S1024x1024 .f32) (x2 : Vec F S1x1024 .f32) :
    { L3 : List (View.Piece (Elt F) S1x128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) 𝒱₀ c none) E (cc1__compress2_body i arg1 harg1 arg2 harg2 arg3 harg3 arg4 harg4) K } := by
  refine ⟨?_, fun E K => ?run⟩
  case run =>
    simp only [cc1__compress2_body_eq_skeleton]; unfold cc1__compress2_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (1 store of `S1x128x1024`, checked by the kernel's evaluation: Lib/Ring.lean `Piece.tiledL`, linear in the pieces, through a loop's `@[irreducible]` trip theorem too), so they cover it. -/
theorem cover1_A_3 (c : Dev nD) (i : grid1.Coords) (arg1 : Memref sig .tc .vmem S1x128x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x128x1024 .f32) (harg4 : arg4.IsWhole)
    (x0 : Vec F S1x128x1024 .f32) (x1 : Vec F S1024x1024 .f32) (x2 : Vec F S1x1024 .f32) (y : S1x128x1024.Idx) :
    ∃ pc ∈ (kernelRun1_A (Ix := Ix) (U := U) (Lvl := Lvl) 𝒱₀ c i arg1 harg1 arg2 harg2 arg3 harg3 arg4 harg4 x0 x1 x2).1, y ∈ pc.1.set :=
  View.cover_of_tiledL (kernelRun1_A (Ix := Ix) (U := U) (Lvl := Lvl) 𝒱₀ c i arg1 harg1 arg2 harg2 arg3 harg3 arg4 harg4 x0 x1 x2).1 S1x128x1024.size (by sl_kernel_rfl) y

/-- What the run leaves in output 3's staging buffer: its pieces read back over junk. -/
def out1_A_3 (c : Dev nD) (i : grid1.Coords) (arg1 : Memref sig .tc .vmem S1x128x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x128x1024 .f32) (harg4 : arg4.IsWhole)
    (x0 : Vec F S1x128x1024 .f32) (x1 : Vec F S1024x1024 .f32) (x2 : Vec F S1x1024 .f32) : Vec F S1x128x1024 .f32 :=
  VO1_3.read (Elt F) (VO1_3.writes (Elt F) VO1_3.junk (kernelRun1_A (Ix := Ix) (U := U) (Lvl := Lvl) 𝒱₀ c i arg1 harg1 arg2 harg2 arg3 harg3 arg4 harg4 x0 x1 x2).1)

/-! ## What the outputs hold after each point -/

/-- What the outputs' staging buffers hold after the body at point `t`: the run's contents at
    the point's memrefs and input blocks. -/
def outsAt1 (c : Dev nD) (t : Fin cfg1.N) : Vec F S1x128x1024 .f32 :=
  out1_A_3 (Ix := Ix) (U := U) (Lvl := Lvl) 𝒱₀ c (grid1.coords t) (ms1_0 t) (hs1_0 t) (ms1_1 t) (hs1_1 t) (ms1_2 t) (hs1_2 t) (ms1_3 t) (hs1_3 t) (iblk V c 0 t) (iblk V c 1 t) (iblk V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg1.W) : (𝕕 c).A w = V c (Pipeline.arrRef spec1 w) := by
  dsimp only [dat]

/-- What the body leaves, window by window (the proof data's `match` reduced by `dsimp`). -/
theorem after1_0 (c : Dev nD) (t : Fin cfg1.N) : (𝕕 c).after 0 t = iblk V c 0 t := by dsimp only [dat]
theorem after1_1 (c : Dev nD) (t : Fin cfg1.N) : (𝕕 c).after 1 t = iblk V c 1 t := by dsimp only [dat]
theorem after1_2 (c : Dev nD) (t : Fin cfg1.N) : (𝕕 c).after 2 t = iblk V c 2 t := by dsimp only [dat]
theorem after1_3 (c : Dev nD) (t : Fin cfg1.N) : (𝕕 c).after 3 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (𝕕 c).before 0 t d = iblk V c 0 t :=
  before1_0_of V (𝕕 c) (A_eq 𝒱₀ V D c 0) (after1_0 𝒱₀ V D c) t d
theorem before1_1 (c : Dev nD) (t : Fin cfg1.N) (d) : (𝕕 c).before 1 t d = iblk V c 1 t :=
  before1_1_of V (𝕕 c) (A_eq 𝒱₀ V D c 1) (after1_1 𝒱₀ V D c) t d
theorem before1_2 (c : Dev nD) (t : Fin cfg1.N) (d) : (𝕕 c).before 2 t d = iblk V c 2 t :=
  before1_2_of V (𝕕 c) (A_eq 𝒱₀ V D c 2) (after1_2 𝒱₀ V D c) t d

/-! ## The body obligation, at a generic point -/

/-- What the body is called with at point `t` (Lib/Pipeline.lean `BodyObligation`'s precondition, the windows one by one), -/
def bodyPre (c : Dev nD) (t : Fin cfg1.N) : sProp 𝕄 :=
  iprop((𝕕 c).Φ t.castSucc ∗ (𝕕 c).owesAt ι t.castSucc
    ∗ (∃ d, owns (c : Thread nD τ) (ms1_0 t) fullShare ((𝕕 c).before 0 t d))
    ∗ (∃ d, owns (c : Thread nD τ) (ms1_1 t) fullShare ((𝕕 c).before 1 t d))
    ∗ (∃ d, owns (c : Thread nD τ) (ms1_2 t) fullShare ((𝕕 c).before 2 t d))
    ∗ (∃ d, owns (c : Thread nD τ) (ms1_3 t) fullShare ((𝕕 c).before 3 t d)))

/-- and what it returns. -/
def bodyPost (c : Dev nD) (t : Fin cfg1.N) : sProp 𝕄 :=
  iprop((𝕕 c).Φ t.succ ∗ (𝕕 c).owesAt ι t.succ
    ∗ owns (c : Thread nD τ) (ms1_0 t) fullShare ((𝕕 c).after 0 t)
    ∗ owns (c : Thread nD τ) (ms1_1 t) fullShare ((𝕕 c).after 1 t)
    ∗ owns (c : Thread nD τ) (ms1_2 t) fullShare ((𝕕 c).after 2 t)
    ∗ owns (c : Thread nD τ) (ms1_3 t) fullShare ((𝕕 c).after 3 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1, before1_2]
  rw [show (𝕕 c).Φ t.succ = (𝕕 c).Φ t.castSucc from rfl,
    show (𝕕 c).owesAt ι t.succ = (𝕕 c).owesAt ι t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A (Ix := Ix) (U := U) (Lvl := Lvl) 𝒱₀ c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 (Ix := Ix) (U := U) (Lvl := Lvl) 𝒱₀ c _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.KernelIdeal.Reg.K1

end
-- ==== Proof.R.KernelIdealK2.lean ====
/- Custom call 2 of `KernelIdeal` as a region of the pipelined program: the windows' blocks, the kernel's run on any staging
   memrefs, the proof data and the body obligation, for any index type, level type, algebra, variants, entry contents and
   owed tally. The body reads block numbers from a
   table and assumes that the slices they name lie inside the array, so the run is stated for tables whose entries are in range. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.WholeRead
public import Idealize.ShloMosaic.Lib.Pipeline.Kit

@[expose] public section

noncomputable section

namespace Cert.KernelIdeal.Reg.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for any proof data reading `V` and leaving it in place. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data reading `V` and leaving it in place. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data reading `V` and leaving it in place. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-! ## The kernel body on any staging memrefs -/

/-- One staging buffer of each output, through which its contents are stated. -/
abbrev VO2_3 : View sig .tc .vmem S1x1024x1024 .f32 := (Memref.whole cc2_stg3_0 : Memref sig .tc .vmem S1x1024x1024 .f32).view
abbrev VO2_4 : View sig .tc .vmem S1x1024x1024 .f32 := (Memref.whole cc2_stg4_0 : Memref sig .tc .vmem S1x1024x1024 .f32).view
/-- Each window's current staging memref at point `t`, and its wholeness. -/
abbrev ms2_0 (t : Fin cfg2.N) : Memref sig .tc .smem S2x16 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .f32 := win2_4.stage (cfg2.slots t 4)
abbrev hs2_4 (t : Fin cfg2.N) : (ms2_4 t).IsWhole := hstage2_4 ((cfg2.slots t 4).cast nbuf2_4)

/-- Every entry of a table of block numbers is one of the 2048 positions. -/
def InRange (x : Vec F S2x16 .i32) : Prop := ∀ j, BitVec.toNat (w := 32) (x j) < 2048

/-- The row at which the slice named by the word `v` starts: 64 rows from `64 v` for the first 32 words, else the last 64 rows. -/
def start (v : BitVec 32) : ℕ :=
  (Scalar.indexCast (Scalar.select (Scalar.cmpi .slt v 32#32) (Scalar.muli v 64#32) 1984#32)).toNat

theorem start_ofNat_le : ∀ n : Fin 2048, start (BitVec.ofNat 32 n.val) + 64 ≤ 2048 := by
  unfold start; decide +kernel

/-- The slice of 64 rows from that row lies inside the 2048 rows, for a word in range. -/
theorem start_le (v : BitVec 32) (h : v.toNat < 2048) : start v + 64 ≤ 2048 := by
  have := start_ofNat_le ⟨v.toNat, h⟩
  rwa [BitVec.ofNat_toNat, BitVec.setWidth_eq] at this

/-- So every check the body makes holds of a word in range. -/
theorem chk_of (v : BitVec 32) (h : v.toNat < 2048) :
    ∀ a, (![0, start v, 0] : Fin 3 → ℕ) a + S1x64x1024.size a ≤ S1x2048x1024.size a := by
  intro a
  fin_cases a
  · show 0 + 1 ≤ 1; decide
  · exact start_le v h
  · show 0 + 1024 ≤ 1024; decide

/-- A word loaded from a table in range is in range. -/
theorem InRange.word {x : Vec F S2x16 .i32} (hx : InRange x) {m : Memref sig .tc .smem S2x16 .i32} (hm : m.IsWhole)
    (B : LoadRect S2x16) (y : B.shape.Idx) :
    BitVec.toNat (w := 32) (View.readAt (Elt F) m.view B (hm.unread x) y) < 2048 := by
  rw [hm.readAt_unread]; exact hx _

set_option maxHeartbeats 4000000 in
/-- What the body's stores leave in each output's staging memref, as pieces (last first), WITH the proof that on whole
    staging memrefs, the inputs' at their contents and the table in range, the body runs to the continuation holding the
    inputs as they were and each output with its pieces written. -/
noncomputable def kernelRun2_A (c : Dev nD) (i : grid2.Coords) (arg1 : Memref sig .tc .smem S2x16 .i32) (harg1 : arg1.IsWhole) (arg2 : Memref sig .tc .vmem S1x2048x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S1x1024x1024 .f32) (harg5 : arg5.IsWhole)
    (x0 : Vec F S2x16 .i32) (x1 : Vec F S1x2048x1024 .f32) (x2 : Vec F S1x2048x1024 .f32) (hx : InRange x0) :
    { L : List (View.Piece (Elt F) S1x1024x1024 .f32) × List (View.Piece (Elt F) S1x1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L.1) ∗ (∃ f, arg5.view.loc (c : Thread nD τ) ↦[arg5.view.set]{fullShare} arg5.view.writes (Elt F) f L.2)) -∗ K ⟨⟩))
          ⊢ wp frame (wpE (defs₀ (F := F)) 𝒱₀ c none) E (cc2__sel_assemble_body i arg1 harg1 arg2 harg2 arg3 harg3 arg4 harg4 arg5 harg5) K } := by
  refine ⟨⟨?_, ?_⟩, fun E K => ?run⟩
  case run =>
    simp only [cc2__sel_assemble_body_eq_skeleton]; unfold cc2__sel_assemble_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := exact chk_of _ (hx.word harg1 _ _))
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

/-- The run's pieces for output 3 tile its block (16 stores of 64 rows), so they cover it. -/
theorem cover2_A_3 (c : Dev nD) (i : grid2.Coords) (arg1 : Memref sig .tc .smem S2x16 .i32) (harg1 : arg1.IsWhole) (arg2 : Memref sig .tc .vmem S1x2048x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S1x1024x1024 .f32) (harg5 : arg5.IsWhole)
    (x0 : Vec F S2x16 .i32) (x1 : Vec F S1x2048x1024 .f32) (x2 : Vec F S1x2048x1024 .f32) (hx : InRange x0) (y : S1x1024x1024.Idx) :
    ∃ pc ∈ (kernelRun2_A (Ix := Ix) (U := U) (Lvl := Lvl) 𝒱₀ c i arg1 harg1 arg2 harg2 arg3 harg3 arg4 harg4 arg5 harg5 x0 x1 x2 hx).1.1, y ∈ pc.1.set :=
  View.cover_of_tiledL (kernelRun2_A (Ix := Ix) (U := U) (Lvl := Lvl) 𝒱₀ c i arg1 harg1 arg2 harg2 arg3 harg3 arg4 harg4 arg5 harg5 x0 x1 x2 hx).1.1 S1x64x1024.size (by sl_kernel_rfl) y

/-- What the run leaves in output 3's staging buffer. -/
def out2_A_3 (c : Dev nD) (i : grid2.Coords) (arg1 : Memref sig .tc .smem S2x16 .i32) (harg1 : arg1.IsWhole) (arg2 : Memref sig .tc .vmem S1x2048x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S1x1024x1024 .f32) (harg5 : arg5.IsWhole)
    (x0 : Vec F S2x16 .i32) (x1 : Vec F S1x2048x1024 .f32) (x2 : Vec F S1x2048x1024 .f32) (hx : InRange x0) : Vec F S1x1024x1024 .f32 :=
  VO2_3.read (Elt F) (VO2_3.writes (Elt F) VO2_3.junk (kernelRun2_A (Ix := Ix) (U := U) (Lvl := Lvl) 𝒱₀ c i arg1 harg1 arg2 harg2 arg3 harg3 arg4 harg4 arg5 harg5 x0 x1 x2 hx).1.1)

/-- The run's pieces for output 4 tile its block (16 stores of 64 rows), so they cover it. -/
theorem cover2_A_4 (c : Dev nD) (i : grid2.Coords) (arg1 : Memref sig .tc .smem S2x16 .i32) (harg1 : arg1.IsWhole) (arg2 : Memref sig .tc .vmem S1x2048x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S1x1024x1024 .f32) (harg5 : arg5.IsWhole)
    (x0 : Vec F S2x16 .i32) (x1 : Vec F S1x2048x1024 .f32) (x2 : Vec F S1x2048x1024 .f32) (hx : InRange x0) (y : S1x1024x1024.Idx) :
    ∃ pc ∈ (kernelRun2_A (Ix := Ix) (U := U) (Lvl := Lvl) 𝒱₀ c i arg1 harg1 arg2 harg2 arg3 harg3 arg4 harg4 arg5 harg5 x0 x1 x2 hx).1.2, y ∈ pc.1.set :=
  View.cover_of_tiledL (kernelRun2_A (Ix := Ix) (U := U) (Lvl := Lvl) 𝒱₀ c i arg1 harg1 arg2 harg2 arg3 harg3 arg4 harg4 arg5 harg5 x0 x1 x2 hx).1.2 S1x64x1024.size (by sl_kernel_rfl) y

/-- What the run leaves in output 4's staging buffer. -/
def out2_A_4 (c : Dev nD) (i : grid2.Coords) (arg1 : Memref sig .tc .smem S2x16 .i32) (harg1 : arg1.IsWhole) (arg2 : Memref sig .tc .vmem S1x2048x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S1x1024x1024 .f32) (harg5 : arg5.IsWhole)
    (x0 : Vec F S2x16 .i32) (x1 : Vec F S1x2048x1024 .f32) (x2 : Vec F S1x2048x1024 .f32) (hx : InRange x0) : Vec F S1x1024x1024 .f32 :=
  VO2_4.read (Elt F) (VO2_4.writes (Elt F) VO2_4.junk (kernelRun2_A (Ix := Ix) (U := U) (Lvl := Lvl) 𝒱₀ c i arg1 harg1 arg2 harg2 arg3 harg3 arg4 harg4 arg5 harg5 x0 x1 x2 hx).1.2)

/-! ## What the outputs hold after each point -/

open Classical in
/-- What output 3's staging buffer holds after the body at point `t`: the run's contents, for a table in range. -/
def outsAt2_3 (c : Dev nD) (t : Fin cfg2.N) : Vec F S1x1024x1024 .f32 :=
  if hx : InRange (F := F) (iblk V c 0 t) then
    out2_A_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) hx
  else VO2_3.read (Elt F) VO2_3.junk

theorem outsAt2_3_eq (c : Dev nD) (t : Fin cfg2.N) (hx : InRange (F := F) (iblk V c 0 t)) :
    outsAt2_3 (Ix := Ix) (U := U) (Lvl := Lvl) 𝒱₀ V c t
      = out2_A_3 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) hx := by
  unfold outsAt2_3; rw [dif_pos hx]

open Classical in
/-- What output 4's staging buffer holds after the body at point `t`: the run's contents, for a table in range. -/
def outsAt2_4 (c : Dev nD) (t : Fin cfg2.N) : Vec F S1x1024x1024 .f32 :=
  if hx : InRange (F := F) (iblk V c 0 t) then
    out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) hx
  else VO2_4.read (Elt F) VO2_4.junk

theorem outsAt2_4_eq (c : Dev nD) (t : Fin cfg2.N) (hx : InRange (F := F) (iblk V c 0 t)) :
    outsAt2_4 (Ix := Ix) (U := U) (Lvl := Lvl) 𝒱₀ V c t
      = out2_A_4 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (iblk V c 0 t) (iblk V c 1 t) (iblk V c 2 t) hx := by
  unfold outsAt2_4; rw [dif_pos hx]

/-! ## The pipeline's proof data -/

/-- The proof data of pipeline 2 on core `c`: the arrays as the region finds them; after the body at point `t` each
    input's buffer at its block and the outputs' at the run's contents; the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt2_3 (Ix := Ix) (U := U) (Lvl := Lvl) 𝒱₀ V c t)
    | ⟨4, _⟩ => (outsAt2_4 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

theorem A_eq (c : Dev nD) (w : Fin cfg2.W) : (𝕕 c).A w = V c (Pipeline.arrRef spec2 w) := by
  dsimp only [dat]

/-- What the body leaves, window by window. -/
theorem after2_0 (c : Dev nD) (t : Fin cfg2.N) : (𝕕 c).after 0 t = iblk V c 0 t := by dsimp only [dat]
theorem after2_1 (c : Dev nD) (t : Fin cfg2.N) : (𝕕 c).after 1 t = iblk V c 1 t := by dsimp only [dat]
theorem after2_2 (c : Dev nD) (t : Fin cfg2.N) : (𝕕 c).after 2 t = iblk V c 2 t := by dsimp only [dat]
theorem after2_3 (c : Dev nD) (t : Fin cfg2.N) : (𝕕 c).after 3 t = (outsAt2_3 (Ix := Ix) (U := U) (Lvl := Lvl) 𝒱₀ V c t) := by dsimp only [dat]
theorem after2_4 (c : Dev nD) (t : Fin cfg2.N) : (𝕕 c).after 4 t = (outsAt2_4 (Ix := Ix) (U := U) (Lvl := Lvl) 𝒱₀ V c t) := by dsimp only [dat]

/-- Each input's staging buffer holds its block at every point. -/
theorem before2_0 (c : Dev nD) (t : Fin cfg2.N) (d) : (𝕕 c).before 0 t d = iblk V c 0 t :=
  before2_0_of V (𝕕 c) (A_eq 𝒱₀ V D c 0) (after2_0 𝒱₀ V D c) t d
theorem before2_1 (c : Dev nD) (t : Fin cfg2.N) (d) : (𝕕 c).before 1 t d = iblk V c 1 t :=
  before2_1_of V (𝕕 c) (A_eq 𝒱₀ V D c 1) (after2_1 𝒱₀ V D c) t d
theorem before2_2 (c : Dev nD) (t : Fin cfg2.N) (d) : (𝕕 c).before 2 t d = iblk V c 2 t :=
  before2_2_of V (𝕕 c) (A_eq 𝒱₀ V D c 2) (after2_2 𝒱₀ V D c) t d

/-! ## The body obligation, at a generic point -/

/-- What the body is called with at point `t`, -/
def bodyPre (c : Dev nD) (t : Fin cfg2.N) : sProp 𝕄 :=
  iprop((𝕕 c).Φ t.castSucc ∗ (𝕕 c).owesAt ι t.castSucc
    ∗ (∃ d, owns (c : Thread nD τ) (ms2_0 t) fullShare ((𝕕 c).before 0 t d))
    ∗ (∃ d, owns (c : Thread nD τ) (ms2_1 t) fullShare ((𝕕 c).before 1 t d))
    ∗ (∃ d, owns (c : Thread nD τ) (ms2_2 t) fullShare ((𝕕 c).before 2 t d))
    ∗ (∃ d, owns (c : Thread nD τ) (ms2_3 t) fullShare ((𝕕 c).before 3 t d))
    ∗ (∃ d, owns (c : Thread nD τ) (ms2_4 t) fullShare ((𝕕 c).before 4 t d)))

/-- and what it returns. -/
def bodyPost (c : Dev nD) (t : Fin cfg2.N) : sProp 𝕄 :=
  iprop((𝕕 c).Φ t.succ ∗ (𝕕 c).owesAt ι t.succ
    ∗ owns (c : Thread nD τ) (ms2_0 t) fullShare ((𝕕 c).after 0 t)
    ∗ owns (c : Thread nD τ) (ms2_1 t) fullShare ((𝕕 c).after 1 t)
    ∗ owns (c : Thread nD τ) (ms2_2 t) fullShare ((𝕕 c).after 2 t)
    ∗ owns (c : Thread nD τ) (ms2_3 t) fullShare ((𝕕 c).after 3 t)
    ∗ owns (c : Thread nD τ) (ms2_4 t) fullShare ((𝕕 c).after 4 t))

/-- The body at any point whose table block is in range. -/
theorem sound_body (c : Dev nD) (t : Fin cfg2.N) (hx : InRange (F := F) (iblk V c 0 t)) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2]
  rw [show (𝕕 c).Φ t.succ = (𝕕 c).Φ t.castSucc from rfl,
    show (𝕕 c).owesAt ι t.succ = (𝕕 c).owesAt ι t.castSucc from rfl,
    after2_0, after2_1, after2_2, after2_3, after2_4, outsAt2_3_eq _ _ c t hx, outsAt2_4_eq _ _ c t hx]
  unfold out2_A_3 out2_A_4
  iintro ⟨HΦ, Ho, ⟨%d0, H0⟩, ⟨%d1, H1⟩, ⟨%d2, H2⟩, ⟨%d3, H3⟩, ⟨%d4, H4⟩⟩
  iapply ((kernelRun2_A (Ix := Ix) (U := U) (Lvl := Lvl) 𝒱₀ c (grid2.coords t) _ _ _ _ _ _ _ _ _ _ (iblk V c 0 t) (iblk V c 1 t) (iblk V c 2 t) hx).2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover2_A_3 (Ix := Ix) (U := U) (Lvl := Lvl) 𝒱₀ c _ _ _ _ _ _ _ _ _ _ _ _ _ _ hx)
  unfold owns; iexists _; isplitr
  swap; · iexact H4
  ipureintro; exact View.read_writes_of_cover _ _ _ _ _ (cover2_A_4 (Ix := Ix) (U := U) (Lvl := Lvl) 𝒱₀ c _ _ _ _ _ _ _ _ _ _ _ _ _ _ hx)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, when the table is in range. -/
theorem body_obligation (c : Dev nD) (hx : ∀ t, InRange (F := F) (iblk V c 0 t)) :
    BodyObligation (𝕕 c) (defs₀ (F := F)) 𝒱₀ ι Set.univ := fun t => by
  rw [bigSep_W2, bigSep_W2, defs₀_row]
  exact triple_restated (sound_body (U := U) (Lvl := Lvl) 𝒱₀ V D ι c t (hx t)) rfl .rfl fun _ => .rfl

end Cert.KernelIdeal.Reg.K2

end
-- ==== Proof.R.KernelIdealK3.lean ====
/- Custom call 3 of `KernelIdeal` as a region of the pipelined program: the windows' blocks, the kernel's run on any staging
   memrefs, the proof data and the body obligation, for any index type, level type, algebra, variants, entry contents and
   owed tally. The launch set-up follows the library's form for a kernel whose stores tile its output block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Reg.K3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec3 c` at any index and level type. -/
def ΦK (c : Dev nD) : sProp 𝕄 :=
  iprop(Pipeline.scopedRest (Ix := Ix) (Name := ℕ) (U := U) (Lvl := Lvl) (Val := Elt F) spec3 c ∗ ∃ r, prngReg c r)

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Ix ℕ U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Ix ℕ U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Ix ℕ U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Ix ℕ U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Ix ℕ U Lvl cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Ix ℕ U Lvl cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Ix ℕ U Lvl cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) Ix ℕ U Lvl cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_9_of {c : Dev nD} (dat : Dat τ (Elt F) Ix ℕ U Lvl cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_10_of {c : Dev nD} (dat : Dat τ (Elt F) Ix ℕ U Lvl cfg3 c) (hA : dat.A 10 = V c (Pipeline.arrRef spec3 10))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_11_of {c : Dev nD} (dat : Dat τ (Elt F) Ix ℕ U Lvl cfg3 c) (hA : dat.A 11 = V c (Pipeline.arrRef spec3 11))
    (hafter : ∀ t, dat.after 11 t = iblk V c 11 t) (t : Fin cfg3.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 12, through which its contents are stated (`View.read_writes_of_cover`: the
    choice does not matter). -/
abbrev VO3_12 : View sig .tc .vmem S1x256x1024 .f32 := (Memref.whole cc3_stg12_0 : Memref sig .tc .vmem S1x256x1024 .f32).view
/-- Each window's current staging memref at point `t`, spelled as the pipeline passes it (`bodyAt3`), and its wholeness. -/
abbrev ms3_0 (t : Fin cfg3.N) : Memref sig .tc .vmem S1x256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x512x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x512x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128x1024 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S8x1024 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S8x1024 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S8x1024 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .smem S3 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1x256x1024 .f32 := win3_12.stage (cfg3.slots t 12)
abbrev hs3_12 (t : Fin cfg3.N) : (ms3_12 t).IsWhole := hstage3_12 ((cfg3.slots t 12).cast nbuf3_12)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x1x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .smem S3 .f32) (harg13 : arg13.IsWhole) (arg14 : Memref sig .tc .vmem S1x256x1024 .f32) (harg14 : arg14.IsWhole)
    (x0 : Vec F S1x256x1024 .f32) (x1 : Vec F S1x1024x1024 .f32) (x2 : Vec F S1x1024x1024 .f32) (x3 : Vec F S1x512x1024 .f32) (x4 : Vec F S1x512x1024 .f32) (x5 : Vec F S1x128x1024 .f32) (x6 : Vec F S1x128x1024 .f32) (x7 : Vec F S1x1x1024 .f32) (x8 : Vec F S8x1024 .f32) (x9 : Vec F S8x1024 .f32) (x10 : Vec F S8x1024 .f32) (x11 : Vec F S3 .f32) :
    { L12 : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12)) -∗ K ⟨⟩))
          ⊢ wp frame (wpE (defs₀ (F := F)) 𝒱₀ c none) E (cc3__attn_gate_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc3__attn_gate_body_eq_skeleton]; unfold cc3__attn_gate_body_skel
    simp only [k3_part14_eq_skeleton, k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact H12

/-- The run's pieces for output 12 tile its block (1 store of `S1x256x1024`, checked by the kernel's evaluation: Lib/Ring.lean `Piece.tiledL`, linear in the pieces, through a loop's `@[irreducible]` trip theorem too), so they cover it. -/
theorem cover3_A_12 (c : Dev nD) (i : grid3.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x1x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .smem S3 .f32) (harg13 : arg13.IsWhole) (arg14 : Memref sig .tc .vmem S1x256x1024 .f32) (harg14 : arg14.IsWhole)
    (x0 : Vec F S1x256x1024 .f32) (x1 : Vec F S1x1024x1024 .f32) (x2 : Vec F S1x1024x1024 .f32) (x3 : Vec F S1x512x1024 .f32) (x4 : Vec F S1x512x1024 .f32) (x5 : Vec F S1x128x1024 .f32) (x6 : Vec F S1x128x1024 .f32) (x7 : Vec F S1x1x1024 .f32) (x8 : Vec F S8x1024 .f32) (x9 : Vec F S8x1024 .f32) (x10 : Vec F S8x1024 .f32) (x11 : Vec F S3 .f32) (y : S1x256x1024.Idx) :
    ∃ pc ∈ (kernelRun3_A (Ix := Ix) (U := U) (Lvl := Lvl) 𝒱₀ c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, y ∈ pc.1.set :=
  View.cover_of_tiledL (kernelRun3_A (Ix := Ix) (U := U) (Lvl := Lvl) 𝒱₀ c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1 S1x256x1024.size (by sl_kernel_rfl) y

/-- What the run leaves in output 12's staging buffer: its pieces read back over junk. -/
def out3_A_12 (c : Dev nD) (i : grid3.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x512x1024 .f32) (harg5 : arg5.IsWhole) (arg6 : Memref sig .tc .vmem S1x512x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x1x1024 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S8x1024 .f32) (harg12 : arg12.IsWhole) (arg13 : Memref sig .tc .smem S3 .f32) (harg13 : arg13.IsWhole) (arg14 : Memref sig .tc .vmem S1x256x1024 .f32) (harg14 : arg14.IsWhole)
    (x0 : Vec F S1x256x1024 .f32) (x1 : Vec F S1x1024x1024 .f32) (x2 : Vec F S1x1024x1024 .f32) (x3 : Vec F S1x512x1024 .f32) (x4 : Vec F S1x512x1024 .f32) (x5 : Vec F S1x128x1024 .f32) (x6 : Vec F S1x128x1024 .f32) (x7 : Vec F S1x1x1024 .f32) (x8 : Vec F S8x1024 .f32) (x9 : Vec F S8x1024 .f32) (x10 : Vec F S8x1024 .f32) (x11 : Vec F S3 .f32) : Vec F S1x256x1024 .f32 :=
  VO3_12.read (Elt F) (VO3_12.writes (Elt F) VO3_12.junk (kernelRun3_A (Ix := Ix) (U := U) (Lvl := Lvl) 𝒱₀ c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1)

/-! ## What the outputs hold after each point -/

/-- What the outputs' staging buffers hold after the body at point `t`: the run's contents at
    the point's memrefs and input blocks. -/
def outsAt3 (c : Dev nD) (t : Fin cfg3.N) : Vec F S1x256x1024 .f32 :=
  out3_A_12 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); the core owing `D c` throughout; full shares. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => (outsAt3 (Ix := Ix) (U := U) (Lvl := Lvl) 𝒱₀ V c t)
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg3.W) : (𝕕 c).A w = V c (Pipeline.arrRef spec3 w) := by
  dsimp only [dat]

/-- What the body leaves, window by window (the proof data's `match` reduced by `dsimp`). -/
theorem after3_0 (c : Dev nD) (t : Fin cfg3.N) : (𝕕 c).after 0 t = iblk V c 0 t := by dsimp only [dat]
theorem after3_1 (c : Dev nD) (t : Fin cfg3.N) : (𝕕 c).after 1 t = iblk V c 1 t := by dsimp only [dat]
theorem after3_2 (c : Dev nD) (t : Fin cfg3.N) : (𝕕 c).after 2 t = iblk V c 2 t := by dsimp only [dat]
theorem after3_3 (c : Dev nD) (t : Fin cfg3.N) : (𝕕 c).after 3 t = iblk V c 3 t := by dsimp only [dat]
theorem after3_4 (c : Dev nD) (t : Fin cfg3.N) : (𝕕 c).after 4 t = iblk V c 4 t := by dsimp only [dat]
theorem after3_5 (c : Dev nD) (t : Fin cfg3.N) : (𝕕 c).after 5 t = iblk V c 5 t := by dsimp only [dat]
theorem after3_6 (c : Dev nD) (t : Fin cfg3.N) : (𝕕 c).after 6 t = iblk V c 6 t := by dsimp only [dat]
theorem after3_7 (c : Dev nD) (t : Fin cfg3.N) : (𝕕 c).after 7 t = iblk V c 7 t := by dsimp only [dat]
theorem after3_8 (c : Dev nD) (t : Fin cfg3.N) : (𝕕 c).after 8 t = iblk V c 8 t := by dsimp only [dat]
theorem after3_9 (c : Dev nD) (t : Fin cfg3.N) : (𝕕 c).after 9 t = iblk V c 9 t := by dsimp only [dat]
theorem after3_10 (c : Dev nD) (t : Fin cfg3.N) : (𝕕 c).after 10 t = iblk V c 10 t := by dsimp only [dat]
theorem after3_11 (c : Dev nD) (t : Fin cfg3.N) : (𝕕 c).after 11 t = iblk V c 11 t := by dsimp only [dat]
theorem after3_12 (c : Dev nD) (t : Fin cfg3.N) : (𝕕 c).after 12 t = (outsAt3 (Ix := Ix) (U := U) (Lvl := Lvl) 𝒱₀ V c t) := by dsimp only [dat]

/-- Each input's current staging buffer holds its block at every point, fetched there or not (`beforeK_W_of`). -/
theorem before3_0 (c : Dev nD) (t : Fin cfg3.N) (d) : (𝕕 c).before 0 t d = iblk V c 0 t :=
  before3_0_of V (𝕕 c) (A_eq 𝒱₀ V D c 0) (after3_0 𝒱₀ V D c) t d
theorem before3_1 (c : Dev nD) (t : Fin cfg3.N) (d) : (𝕕 c).before 1 t d = iblk V c 1 t :=
  before3_1_of V (𝕕 c) (A_eq 𝒱₀ V D c 1) (after3_1 𝒱₀ V D c) t d
theorem before3_2 (c : Dev nD) (t : Fin cfg3.N) (d) : (𝕕 c).before 2 t d = iblk V c 2 t :=
  before3_2_of V (𝕕 c) (A_eq 𝒱₀ V D c 2) (after3_2 𝒱₀ V D c) t d
theorem before3_3 (c : Dev nD) (t : Fin cfg3.N) (d) : (𝕕 c).before 3 t d = iblk V c 3 t :=
  before3_3_of V (𝕕 c) (A_eq 𝒱₀ V D c 3) (after3_3 𝒱₀ V D c) t d
theorem before3_4 (c : Dev nD) (t : Fin cfg3.N) (d) : (𝕕 c).before 4 t d = iblk V c 4 t :=
  before3_4_of V (𝕕 c) (A_eq 𝒱₀ V D c 4) (after3_4 𝒱₀ V D c) t d
theorem before3_5 (c : Dev nD) (t : Fin cfg3.N) (d) : (𝕕 c).before 5 t d = iblk V c 5 t :=
  before3_5_of V (𝕕 c) (A_eq 𝒱₀ V D c 5) (after3_5 𝒱₀ V D c) t d
theorem before3_6 (c : Dev nD) (t : Fin cfg3.N) (d) : (𝕕 c).before 6 t d = iblk V c 6 t :=
  before3_6_of V (𝕕 c) (A_eq 𝒱₀ V D c 6) (after3_6 𝒱₀ V D c) t d
theorem before3_7 (c : Dev nD) (t : Fin cfg3.N) (d) : (𝕕 c).before 7 t d = iblk V c 7 t :=
  before3_7_of V (𝕕 c) (A_eq 𝒱₀ V D c 7) (after3_7 𝒱₀ V D c) t d
theorem before3_8 (c : Dev nD) (t : Fin cfg3.N) (d) : (𝕕 c).before 8 t d = iblk V c 8 t :=
  before3_8_of V (𝕕 c) (A_eq 𝒱₀ V D c 8) (after3_8 𝒱₀ V D c) t d
theorem before3_9 (c : Dev nD) (t : Fin cfg3.N) (d) : (𝕕 c).before 9 t d = iblk V c 9 t :=
  before3_9_of V (𝕕 c) (A_eq 𝒱₀ V D c 9) (after3_9 𝒱₀ V D c) t d
theorem before3_10 (c : Dev nD) (t : Fin cfg3.N) (d) : (𝕕 c).before 10 t d = iblk V c 10 t :=
  before3_10_of V (𝕕 c) (A_eq 𝒱₀ V D c 10) (after3_10 𝒱₀ V D c) t d
theorem before3_11 (c : Dev nD) (t : Fin cfg3.N) (d) : (𝕕 c).before 11 t d = iblk V c 11 t :=
  before3_11_of V (𝕕 c) (A_eq 𝒱₀ V D c 11) (after3_11 𝒱₀ V D c) t d

/-! ## The body obligation, at a generic point -/

/-- What the body is called with at point `t` (Lib/Pipeline.lean `BodyObligation`'s precondition, the windows one by one), -/
def bodyPre (c : Dev nD) (t : Fin cfg3.N) : sProp 𝕄 :=
  iprop((𝕕 c).Φ t.castSucc ∗ (𝕕 c).owesAt ι t.castSucc
    ∗ (∃ d, owns (c : Thread nD τ) (ms3_0 t) fullShare ((𝕕 c).before 0 t d))
    ∗ (∃ d, owns (c : Thread nD τ) (ms3_1 t) fullShare ((𝕕 c).before 1 t d))
    ∗ (∃ d, owns (c : Thread nD τ) (ms3_2 t) fullShare ((𝕕 c).before 2 t d))
    ∗ (∃ d, owns (c : Thread nD τ) (ms3_3 t) fullShare ((𝕕 c).before 3 t d))
    ∗ (∃ d, owns (c : Thread nD τ) (ms3_4 t) fullShare ((𝕕 c).before 4 t d))
    ∗ (∃ d, owns (c : Thread nD τ) (ms3_5 t) fullShare ((𝕕 c).before 5 t d))
    ∗ (∃ d, owns (c : Thread nD τ) (ms3_6 t) fullShare ((𝕕 c).before 6 t d))
    ∗ (∃ d, owns (c : Thread nD τ) (ms3_7 t) fullShare ((𝕕 c).before 7 t d))
    ∗ (∃ d, owns (c : Thread nD τ) (ms3_8 t) fullShare ((𝕕 c).before 8 t d))
    ∗ (∃ d, owns (c : Thread nD τ) (ms3_9 t) fullShare ((𝕕 c).before 9 t d))
    ∗ (∃ d, owns (c : Thread nD τ) (ms3_10 t) fullShare ((𝕕 c).before 10 t d))
    ∗ (∃ d, owns (c : Thread nD τ) (ms3_11 t) fullShare ((𝕕 c).before 11 t d))
    ∗ (∃ d, owns (c : Thread nD τ) (ms3_12 t) fullShare ((𝕕 c).before 12 t d)))

/-- and what it returns. -/
def bodyPost (c : Dev nD) (t : Fin cfg3.N) : sProp 𝕄 :=
  iprop((𝕕 c).Φ t.succ ∗ (𝕕 c).owesAt ι t.succ
    ∗ owns (c : Thread nD τ) (ms3_0 t) fullShare ((𝕕 c).after 0 t)
    ∗ owns (c : Thread nD τ) (ms3_1 t) fullShare ((𝕕 c).after 1 t)
    ∗ owns (c : Thread nD τ) (ms3_2 t) fullShare ((𝕕 c).after 2 t)
    ∗ owns (c : Thread nD τ) (ms3_3 t) fullShare ((𝕕 c).after 3 t)
    ∗ owns (c : Thread nD τ) (ms3_4 t) fullShare ((𝕕 c).after 4 t)
    ∗ owns (c : Thread nD τ) (ms3_5 t) fullShare ((𝕕 c).after 5 t)
    ∗ owns (c : Thread nD τ) (ms3_6 t) fullShare ((𝕕 c).after 6 t)
    ∗ owns (c : Thread nD τ) (ms3_7 t) fullShare ((𝕕 c).after 7 t)
    ∗ owns (c : Thread nD τ) (ms3_8 t) fullShare ((𝕕 c).after 8 t)
    ∗ owns (c : Thread nD τ) (ms3_9 t) fullShare ((𝕕 c).after 9 t)
    ∗ owns (c : Thread nD τ) (ms3_10 t) fullShare ((𝕕 c).after 10 t)
    ∗ owns (c : Thread nD τ) (ms3_11 t) fullShare ((𝕕 c).after 11 t)
    ∗ owns (c : Thread nD τ) (ms3_12 t) fullShare ((𝕕 c).after 12 t))

set_option maxHeartbeats 1200000 in
/-- The body at any point: the inputs' memrefs hold their blocks (`before3_W`); so the
    run applies; the invariant passes through unread; the core owes `D c` throughout. -/
theorem sound_body (c : Dev nD) (t : Fin cfg3.N) :
    bodyPre (U := U) (Lvl := Lvl) 𝒱₀ V D ι c t ⊢ wp frame (wpE (defs₀ (F := F)) 𝒱₀ c none) Set.univ (bodyAt3 t) (fun _ => bodyPost (U := U) (Lvl := Lvl) 𝒱₀ V D ι c t) := by
  unfold bodyPre bodyPost bodyAt3
  simp only [before3_0, before3_1, before3_2, before3_3, before3_4, before3_5, before3_6, before3_7, before3_8, before3_9, before3_10, before3_11]
  rw [show (𝕕 c).Φ t.succ = (𝕕 c).Φ t.castSucc from rfl,
    show (𝕕 c).owesAt ι t.succ = (𝕕 c).owesAt ι t.castSucc from rfl,
    after3_0, after3_1, after3_2, after3_3, after3_4, after3_5, after3_6, after3_7, after3_8, after3_9, after3_10, after3_11, after3_12]
  unfold outsAt3
  unfold out3_A_12
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_A (Ix := Ix) (U := U) (Lvl := Lvl) 𝒱₀ c (grid3.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (cover3_A_12 (Ix := Ix) (U := U) (Lvl := Lvl) 𝒱₀ c _ _ _ _ _ _ _ _ _ _ _ _ _ _ _ _ _ _ _ _ _ _ _ _ _ _ _ _ _ _ _ _ _ _ _ _ _ _ _)

/-- The body table's row at point `t`'s slots is the body as `bodyAt3` spells it. -/
theorem defs₀_row (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

end Cert.KernelIdeal.Reg.K3

end
-- ==== Proof.R.KernelIdealRun.lean ====
/- The run of `KernelIdeal` as four kernel regions between host stretches: what each region leaves in memory, the records of the
   four regions, and the theorem that every run ends with the arguments as they were, the result array at the fourth region's
   contents and the semaphores at zero. -/
module

public import proofs.«01_k».proof.Proof.Gen.KernelIdeal.Regions
public import proofs.«01_k».proof.Proof.R.KernelIdealK0
public import proofs.«01_k».proof.Proof.R.KernelIdealK1
public import proofs.«01_k».proof.Proof.R.KernelIdealK2
public import proofs.«01_k».proof.Proof.R.KernelIdealK3
public import Idealize.ShloMosaic.Lib.Pipeline.RegionArraysS

@[expose] public section

set_option maxRecDepth 16384

noncomputable section

namespace Cert.KernelIdeal.Run

open Cert.KernelIdeal Cert.KernelIdeal.Gen Cert.KernelIdeal.Reg
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg afterRegion arrRef)

variable {F : FTy → Type} [FloatOps F]

/-- The certificate's resource algebra: the pipeline library's rounds. -/
abbrev UU : Type := UR sig nD τ

local notation "𝕄" => MT nD τ sig Unit (Elt F) ℕ UU ℕ

abbrev 𝒱₀ : Variants := Variants.none
/-- The levels: one index at every TensorCore cell, all at level 0. -/
def L : GSem nD τ sig → Finset Unit := fun g => if g.1.2 = .tc then {()} else ∅
def lv : GSem nD τ sig → Unit → ℕ := fun _ _ => 0
/-- No core owes anything while a region runs. -/
abbrev D₀ : Dev nD → CellTallies nD τ sig Unit := fun _ => 0

theorem hL : ∀ g : GSem nD τ sig, g.1.2 ≠ .tc → L g = ∅ := fun g h => if_neg h

theorem cut (p : Fin 4) : Pipeline.LevelCut (pcfgs (F := F)) adm () L lv p D₀ (fun _ => 0) where
  hι c w s := by unfold L; rw [if_pos rfl]; exact Finset.mem_singleton_self _
  hιb _ _ _ := le_refl _
  hD c g i h := absurd h (lt_irrefl 0)

/-- A valuation that has a region's output arrays at what the region leaves and agrees with `V` elsewhere is the region's exit valuation. -/
theorem eq_afterRegion {cfg : Cfg sig Λ₀} {c : Dev nD} (dat : Dat τ (Elt F) Unit ℕ UU ℕ cfg c) (V V' : Valuation τ sig (Elt F))
    (hinj : Function.Injective (arrRef cfg.spec)) (hA : ∀ w, dat.A w = V (Proc.devRef .tc (arrRef cfg.spec w)))
    (hout : ∀ w, (cfg.win w).isOut = true →
      V' (Proc.devRef .tc (arrRef cfg.spec w)) = afterRegion dat V (Proc.devRef .tc (arrRef cfg.spec w)))
    (hoff : ∀ b, (∀ w, (cfg.win w).isOut = true → b ≠ Proc.devRef .tc (arrRef cfg.spec w)) → V' b = V b) :
    afterRegion dat V = V' := by
  funext b
  by_cases hb : ∃ w, Proc.devRef .tc (arrRef cfg.spec w) = b
  · obtain ⟨w, rfl⟩ := hb
    by_cases ho : (cfg.win w).isOut = true
    · exact (hout w ho).symm
    · have ho' : (cfg.win w).isOut = false := by simpa using ho
      rw [hoff _ fun w' hw' e => ho (by rw [hinj (Proc.devRef_injective _ e)]; exact hw'),
        Pipeline.afterRegion_arr dat V hinj w, dat.arrAt_in w ho' _, hA w]
  · rw [hoff b fun w _ e => hb ⟨w, e.symm⟩]
    unfold afterRegion
    rw [dif_neg fun ⟨w, e⟩ => hb ⟨w, e.symm⟩]

variable (m : (ℓ : Loc nD τ sig) → Buf (Elt F) ℓ)

/-! ## What each region leaves, in order -/

abbrev Ve (W : Dev nD → Valuation τ sig (Elt F)) (c : Dev nD) (b : Ref sig .tc) : Buf (Elt F) ((c : Thread nD τ).loc b) :=
  W c (Proc.devRef .tc b)

def d0 (c : Dev nD) : Dat τ (Elt F) Unit ℕ UU ℕ cfg0 c := K0.dat 𝒱₀ (Ve (V3 m)) D₀ c
def W4 (c : Dev nD) : Valuation τ sig (Elt F) := afterRegion (d0 m c) (V3 m c)
def oA : Outs (F := F) := fun _ r c => W4 m c (Proc.devRef .tc r)
def d1 (c : Dev nD) : Dat τ (Elt F) Unit ℕ UU ℕ cfg1 c := K1.dat 𝒱₀ (Ve (V5 m (oA m))) D₀ c
def W6 (c : Dev nD) : Valuation τ sig (Elt F) := afterRegion (d1 m c) (V5 m (oA m) c)
def oB : Outs (F := F) := fun n r c => match n with
  | 4 => W4 m c (Proc.devRef .tc r) | _ => W6 m c (Proc.devRef .tc r)
def d2 (c : Dev nD) : Dat τ (Elt F) Unit ℕ UU ℕ cfg2 c := K2.dat 𝒱₀ (Ve (V7 m (oB m))) D₀ c
def W8 (c : Dev nD) : Valuation τ sig (Elt F) := afterRegion (d2 m c) (V7 m (oB m) c)
def oC : Outs (F := F) := fun n r c => match n with
  | 4 => W4 m c (Proc.devRef .tc r) | 6 => W6 m c (Proc.devRef .tc r) | _ => W8 m c (Proc.devRef .tc r)
def d3 (c : Dev nD) : Dat τ (Elt F) Unit ℕ UU ℕ cfg3 c := K3.dat 𝒱₀ (Ve (V9 m (oC m))) D₀ c
def W10 (c : Dev nD) : Valuation τ sig (Elt F) := afterRegion (d3 m c) (V9 m (oC m) c)
/-- What every region leaves in its output arrays. -/
def outs : Outs (F := F) := fun n r c => match n with
  | 4 => W4 m c (Proc.devRef .tc r) | 6 => W6 m c (Proc.devRef .tc r) | 8 => W8 m c (Proc.devRef .tc r) | _ => W10 m c (Proc.devRef .tc r)

theorem V5_eq (c : Dev nD) : V5 m (outs m) c = V5 m (oA m) c := rfl
theorem V7_eq (c : Dev nD) : V7 m (outs m) c = V7 m (oB m) c := rfl
theorem V9_eq (c : Dev nD) : V9 m (outs m) c = V9 m (oC m) c := rfl

/-! ## The exit valuations are the frame's -/

section
variable (o : Outs (F := F)) (c : Dev nD)
theorem V4_at : V4 m o c (Proc.devRef .tc main_v97) = o 4 main_v97 c := by simp only [V4, Function.update_self]
theorem V6_at : V6 m o c (Proc.devRef .tc main_v100) = o 6 main_v100 c := by simp only [V6, Function.update_self]
theorem V8_at1 : V8 m o c (Proc.devRef .tc main_v116_1) = o 8 main_v116_1 c := by simp only [V8, Function.update_self]
theorem V8_at0 : V8 m o c (Proc.devRef .tc main_v116_0) = o 8 main_v116_0 c := by
  have h : (Proc.devRef .tc main_v116_0 : DevRef τ sig) ≠ Proc.devRef .tc main_v116_1 := by decide
  simp only [V8, Function.update_of_ne h, Function.update_self]
theorem V10_at : V10 m o c (Proc.devRef .tc main_v119) = o 10 main_v119 c := by simp only [V10, Function.update_self]
end

theorem W4_eq (c : Dev nD) : W4 m c = V4 m (outs m) c := by
  unfold W4
  refine eq_afterRegion (d0 m c) (V3 m c) _ launch0.win.arr_inj (fun w => K0.A_eq 𝒱₀ _ D₀ c w) (fun w hw => ?_) (fun b hb => ?_)
  · obtain rfl : w = 5 := by revert w; decide
    exact V4_at m (outs m) c
  · exact Function.update_of_ne (hb 5 rfl) _ _

theorem W6_eq (c : Dev nD) : W6 m c = V6 m (outs m) c := by
  unfold W6
  refine eq_afterRegion (d1 m c) (V5 m (oA m) c) _ launch1.win.arr_inj (fun w => K1.A_eq 𝒱₀ _ D₀ c w) (fun w hw => ?_) (fun b hb => ?_)
  · obtain rfl : w = 3 := by revert w; decide
    exact V6_at m (outs m) c
  · exact Function.update_of_ne (hb 3 rfl) _ _

theorem W8_eq (c : Dev nD) : W8 m c = V8 m (outs m) c := by
  unfold W8
  refine eq_afterRegion (d2 m c) (V7 m (oB m) c) _ launch2.win.arr_inj (fun w => K2.A_eq 𝒱₀ _ D₀ c w) (fun w hw => ?_) (fun b hb => ?_)
  · obtain rfl | rfl : w = 3 ∨ w = 4 := by revert w; decide
    · exact V8_at0 m (outs m) c
    · exact V8_at1 m (outs m) c
  · exact (Function.update_of_ne (hb 4 rfl) _ _).trans (Function.update_of_ne (hb 3 rfl) _ _)

theorem W10_eq (c : Dev nD) : W10 m c = V10 m (outs m) c := by
  unfold W10
  refine eq_afterRegion (d3 m c) (V9 m (oC m) c) _ launch3.win.arr_inj (fun w => K3.A_eq 𝒱₀ _ D₀ c w) (fun w hw => ?_) (fun b hb => ?_)
  · obtain rfl : w = 12 := by revert w; decide
    exact V10_at m (outs m) c
  · exact Function.update_of_ne (hb 12 rfl) _ _

/-! ## The regions' records -/

def pdats : (p : Fin 4) → (c : Dev nD) → Dat τ (Elt F) Unit ℕ UU ℕ (cfgs p) c
  | ⟨0, _⟩ => d0 m
  | ⟨1, _⟩ => d1 m
  | ⟨2, _⟩ => d2 m
  | ⟨3, _⟩ => d3 m

/-- The register of random bits, at something: what rides beside the buffers. -/
abbrev Xr (c : Dev nD) : sProp 𝕄 := iprop(∃ r, prngReg c r)

set_option backward.isDefEq.respectTransparency.types false in
/-- Region 0, entered from every unscoped buffer at the valuation before it and left at its exit valuation. -/
def R0 : RegionSeg (pcfgs (F := F)) adm (pdats m) () defs₀ 𝒱₀ L lv 0 :=
  Pipeline.RegionSeg.ofHeldIn (pcfgs (F := F)) adm (pdats m) () defs₀ 𝒱₀ L lv 0 D₀ (Pipeline.ucRefs τ sig) Xr Xr
    launch0.toP rfl (fun c => (K0.body_obligation (U := UU) (Lvl := ℕ) 𝒱₀ (Ve (V3 m)) D₀ () c).loose)
    (fun _ _ => rfl) (fun _ => rfl) (fun c => (pdats m 0 c).share_full fun _ => rfl) (fun _ => .rfl) (fun _ => .rfl)
    (fun _ => 0) (cut 0) (fun _ => iprop(emp)) (V3 m) (fun c w => rfl)

theorem arr0_S : Pipeline.arrRefs (τ := τ) spec0 ⊆ Pipeline.ucRefs τ sig :=
  Pipeline.arrRefs_sub_ucRefs spec0 (by decide)

set_option backward.isDefEq.respectTransparency.types false in
/-- Region 1, entered from every unscoped buffer at the valuation before it and left at its exit valuation. -/
def R1 : RegionSeg (pcfgs (F := F)) adm (pdats m) () defs₀ 𝒱₀ L lv 1 :=
  Pipeline.RegionSeg.ofHeldIn (pcfgs (F := F)) adm (pdats m) () defs₀ 𝒱₀ L lv 1 D₀ (Pipeline.ucRefs τ sig) Xr Xr
    launch1.toP rfl (fun c => (K1.body_obligation (U := UU) (Lvl := ℕ) 𝒱₀ (Ve (V5 m (oA m))) D₀ () c).loose)
    (fun _ _ => rfl) (fun _ => rfl) (fun c => (pdats m 1 c).share_full fun _ => rfl) (fun _ => .rfl) (fun _ => .rfl)
    (fun _ => 0) (cut 1) (fun _ => iprop(emp)) (V5 m (oA m)) (fun c w => rfl)

theorem arr1_S : Pipeline.arrRefs (τ := τ) spec1 ⊆ Pipeline.ucRefs τ sig :=
  Pipeline.arrRefs_sub_ucRefs spec1 (by decide)

set_option backward.isDefEq.respectTransparency.types false in
/-- Region 2, entered from every unscoped buffer at the valuation before it and left at its exit valuation. -/
def R2 (hT : ∀ (c : Dev nD) t, K2.InRange (F := F) (K2.iblk (Ve (V7 m (oB m))) c 0 t)) : RegionSeg (pcfgs (F := F)) adm (pdats m) () defs₀ 𝒱₀ L lv 2 :=
  Pipeline.RegionSeg.ofHeldIn (pcfgs (F := F)) adm (pdats m) () defs₀ 𝒱₀ L lv 2 D₀ (Pipeline.ucRefs τ sig) Xr Xr
    launch2.toP rfl (fun c => (K2.body_obligation (U := UU) (Lvl := ℕ) 𝒱₀ (Ve (V7 m (oB m))) D₀ () c (hT c)).loose)
    (fun _ _ => rfl) (fun _ => rfl) (fun c => (pdats m 2 c).share_full fun _ => rfl) (fun _ => .rfl) (fun _ => .rfl)
    (fun _ => 0) (cut 2) (fun _ => iprop(emp)) (V7 m (oB m)) (fun c w => rfl)

theorem arr2_S : Pipeline.arrRefs (τ := τ) spec2 ⊆ Pipeline.ucRefs τ sig :=
  Pipeline.arrRefs_sub_ucRefs spec2 (by decide)

set_option backward.isDefEq.respectTransparency.types false in
/-- Region 3, entered from every unscoped buffer at the valuation before it and left at its exit valuation. -/
def R3 : RegionSeg (pcfgs (F := F)) adm (pdats m) () defs₀ 𝒱₀ L lv 3 :=
  Pipeline.RegionSeg.ofHeldIn (pcfgs (F := F)) adm (pdats m) () defs₀ 𝒱₀ L lv 3 D₀ (Pipeline.ucRefs τ sig) Xr Xr
    launch3.toP rfl (fun c => (K3.body_obligation (U := UU) (Lvl := ℕ) 𝒱₀ (Ve (V9 m (oC m))) D₀ () c).loose)
    (fun _ _ => rfl) (fun _ => rfl) (fun c => (pdats m 3 c).share_full fun _ => rfl) (fun _ => .rfl) (fun _ => .rfl)
    (fun _ => 0) (cut 3) (fun _ => iprop(emp)) (V9 m (oC m)) (fun c w => rfl)

theorem arr3_S : Pipeline.arrRefs (τ := τ) spec3 ⊆ Pipeline.ucRefs τ sig :=
  Pipeline.arrRefs_sub_ucRefs spec3 (by decide)

/-- What rides between the regions beside the buffers: what the core owes (nothing) and the register. -/
def E (_ : Fin 5) (c : Dev nD) : sProp 𝕄 :=
  iprop((∃ Wd, owes (c : Thread nD τ) (D₀ c) Wd) ∗ Xr c ∗ emp)

/-- The launch gives every core what rides. -/
theorem hE0 (ρ : Dev nD → PrngReg) :
    iprop((bigSep Finset.univ fun c : Dev nD => iprop(unscopedSems0 c ∗ owes (c : Thread nD τ) (D₀ c) ∅
        ∗ Pipeline.launchCred D₀ c ∗ prngReg c (ρ c) ∗ emp)) ∗ levAts L lv)
      ⊢ (|={Set.univ}=> bigSep Finset.univ (E 0) : sProp 𝕄) := by
  have hc (c : Dev nD) : (iprop(unscopedSems0 c ∗ owes (c : Thread nD τ) (D₀ c) ∅
        ∗ Pipeline.launchCred D₀ c ∗ prngReg c (ρ c) ∗ emp) : sProp 𝕄)
      ⊢ iprop((∃ Wd, owes (c : Thread nD τ) (D₀ c) Wd) ∗ Xr c ∗ emp) := by
    iintro ⟨-, HO, -, Hp, -⟩
    isplitl [HO]; · iexists _; iexact HO
    isplitl [Hp]; · iexists _; iexact Hp
    iempintro
  have h : (bigSep Finset.univ fun c : Dev nD => iprop(unscopedSems0 c ∗ owes (c : Thread nD τ) (D₀ c) ∅
        ∗ Pipeline.launchCred D₀ c ∗ prngReg c (ρ c) ∗ emp))
      ⊢ (bigSep Finset.univ (E 0) : sProp 𝕄) := bigSep_mono fun c _ => by unfold E; exact hc c
  iintro ⟨H, -⟩
  imodintro
  iapply h; iexact H

/-! ## Each region's entry and exit, over what rides -/

/-- The held buffers split at a region's arrays, the rest sorted for its entry; -/
theorem split_in {A : Finset (DevRef τ sig)} (hA : A ⊆ Pipeline.ucRefs τ sig) (c : Dev nD) (V : Valuation τ sig (Elt F)) :
    (iprop(StableHlo.held (c : Thread nD τ) (Pipeline.ucRefs τ sig) V ∗ ((∃ Wd, owes (c : Thread nD τ) (D₀ c) Wd) ∗ Xr c ∗ emp)) : sProp 𝕄)
      ⊢ iprop(StableHlo.held (c : Thread nD τ) A V ∗ Xr c
        ∗ (StableHlo.held (c : Thread nD τ) ((Pipeline.ucRefs τ sig) \ A) V ∗ emp) ∗ ∃ Wd, owes (c : Thread nD τ) (D₀ c) Wd) := by
  rw [StableHlo.held_sub_split (c : Thread nD τ) hA V]
  iintro ⟨⟨Ha, Hu⟩, HO, HX, HR⟩
  isplitl [Ha]; · iexact Ha
  isplitl [HX]; · iexact HX
  isplitl [Hu HR]
  · isplitl [Hu]; · iexact Hu
    iexact HR
  iexact HO

/-- and joined again at its exit, every buffer but its arrays unchanged. -/
theorem join_out {A : Finset (DevRef τ sig)} (hA : A ⊆ Pipeline.ucRefs τ sig) (c : Dev nD) (V V' : Valuation τ sig (Elt F))
    (h : ∀ b ∈ (Pipeline.ucRefs τ sig) \ A, V' b = V b) :
    (iprop(StableHlo.held (c : Thread nD τ) A V' ∗ Xr c
        ∗ (StableHlo.held (c : Thread nD τ) ((Pipeline.ucRefs τ sig) \ A) V ∗ emp) ∗ ∃ Wd, owes (c : Thread nD τ) (D₀ c) Wd) : sProp 𝕄)
      ⊢ iprop(StableHlo.held (c : Thread nD τ) (Pipeline.ucRefs τ sig) V' ∗ ((∃ Wd, owes (c : Thread nD τ) (D₀ c) Wd) ∗ Xr c ∗ emp)) := by
  rw [StableHlo.held_sub_split (c : Thread nD τ) hA V', StableHlo.held_congr (c : Thread nD τ) (V := V') (V' := V) h]
  iintro ⟨Ha, HX, ⟨Hu, HR⟩, HO⟩
  isplitl [Ha Hu]
  · isplitl [Ha]; · iexact Ha
    iexact Hu
  isplitl [HO]; · iexact HO
  isplitl [HX]; · iexact HX
  iexact HR

set_option backward.isDefEq.respectTransparency.types false in
theorem hpre0 (c : Dev nD) :
    iprop(StableHlo.held (c : Thread nD τ) (Pipeline.ucRefs τ sig) (V3 m c) ∗ E 0 c) ⊢ (R0 m).pre c := by
  unfold E
  show _ ⊢ iprop(StableHlo.held (c : Thread nD τ) (Pipeline.arrRefs (τ := τ) spec0) (V3 m c) ∗ Xr c
    ∗ (StableHlo.held (c : Thread nD τ) ((Pipeline.ucRefs τ sig) \ Pipeline.arrRefs (τ := τ) spec0) (V3 m c) ∗ emp) ∗ ∃ Wd, owes (c : Thread nD τ) (D₀ c) Wd)
  exact split_in arr0_S c _

set_option backward.isDefEq.respectTransparency.types false in
theorem hpost0 (c : Dev nD) :
    (R0 m).post c ⊢ iprop(StableHlo.held (c : Thread nD τ) (Pipeline.ucRefs τ sig) (V4 m (outs m) c) ∗ E 1 c) := by
  rw [← W4_eq m c]; unfold E
  show iprop(StableHlo.held (c : Thread nD τ) (Pipeline.arrRefs (τ := τ) spec0) (W4 m c) ∗ Xr c
    ∗ (StableHlo.held (c : Thread nD τ) ((Pipeline.ucRefs τ sig) \ Pipeline.arrRefs (τ := τ) spec0) (V3 m c) ∗ emp) ∗ ∃ Wd, owes (c : Thread nD τ) (D₀ c) Wd) ⊢ _
  exact join_out arr0_S c _ _ (Pipeline.afterRegion_off (d0 m c) (V3 m c) _)

set_option backward.isDefEq.respectTransparency.types false in
theorem hpre1 (c : Dev nD) :
    iprop(StableHlo.held (c : Thread nD τ) (Pipeline.ucRefs τ sig) (V5 m (outs m) c) ∗ E 1 c) ⊢ (R1 m).pre c := by
  rw [V5_eq m c]; unfold E
  show _ ⊢ iprop(StableHlo.held (c : Thread nD τ) (Pipeline.arrRefs (τ := τ) spec1) (V5 m (oA m) c) ∗ Xr c
    ∗ (StableHlo.held (c : Thread nD τ) ((Pipeline.ucRefs τ sig) \ Pipeline.arrRefs (τ := τ) spec1) (V5 m (oA m) c) ∗ emp) ∗ ∃ Wd, owes (c : Thread nD τ) (D₀ c) Wd)
  exact split_in arr1_S c _

set_option backward.isDefEq.respectTransparency.types false in
theorem hpost1 (c : Dev nD) :
    (R1 m).post c ⊢ iprop(StableHlo.held (c : Thread nD τ) (Pipeline.ucRefs τ sig) (V6 m (outs m) c) ∗ E 2 c) := by
  rw [← W6_eq m c]; unfold E
  show iprop(StableHlo.held (c : Thread nD τ) (Pipeline.arrRefs (τ := τ) spec1) (W6 m c) ∗ Xr c
    ∗ (StableHlo.held (c : Thread nD τ) ((Pipeline.ucRefs τ sig) \ Pipeline.arrRefs (τ := τ) spec1) (V5 m (oA m) c) ∗ emp) ∗ ∃ Wd, owes (c : Thread nD τ) (D₀ c) Wd) ⊢ _
  exact join_out arr1_S c _ _ (Pipeline.afterRegion_off (d1 m c) (V5 m (oA m) c) _)

set_option backward.isDefEq.respectTransparency.types false in
theorem hpre2 (hT : ∀ (c : Dev nD) t, K2.InRange (F := F) (K2.iblk (Ve (V7 m (oB m))) c 0 t)) (c : Dev nD) :
    iprop(StableHlo.held (c : Thread nD τ) (Pipeline.ucRefs τ sig) (V7 m (outs m) c) ∗ E 2 c) ⊢ (R2 m hT).pre c := by
  rw [V7_eq m c]; unfold E
  show _ ⊢ iprop(StableHlo.held (c : Thread nD τ) (Pipeline.arrRefs (τ := τ) spec2) (V7 m (oB m) c) ∗ Xr c
    ∗ (StableHlo.held (c : Thread nD τ) ((Pipeline.ucRefs τ sig) \ Pipeline.arrRefs (τ := τ) spec2) (V7 m (oB m) c) ∗ emp) ∗ ∃ Wd, owes (c : Thread nD τ) (D₀ c) Wd)
  exact split_in arr2_S c _

set_option backward.isDefEq.respectTransparency.types false in
theorem hpost2 (hT : ∀ (c : Dev nD) t, K2.InRange (F := F) (K2.iblk (Ve (V7 m (oB m))) c 0 t)) (c : Dev nD) :
    (R2 m hT).post c ⊢ iprop(StableHlo.held (c : Thread nD τ) (Pipeline.ucRefs τ sig) (V8 m (outs m) c) ∗ E 3 c) := by
  rw [← W8_eq m c]; unfold E
  show iprop(StableHlo.held (c : Thread nD τ) (Pipeline.arrRefs (τ := τ) spec2) (W8 m c) ∗ Xr c
    ∗ (StableHlo.held (c : Thread nD τ) ((Pipeline.ucRefs τ sig) \ Pipeline.arrRefs (τ := τ) spec2) (V7 m (oB m) c) ∗ emp) ∗ ∃ Wd, owes (c : Thread nD τ) (D₀ c) Wd) ⊢ _
  exact join_out arr2_S c _ _ (Pipeline.afterRegion_off (d2 m c) (V7 m (oB m) c) _)

set_option backward.isDefEq.respectTransparency.types false in
theorem hpre3 (c : Dev nD) :
    iprop(StableHlo.held (c : Thread nD τ) (Pipeline.ucRefs τ sig) (V9 m (outs m) c) ∗ E 3 c) ⊢ (R3 m).pre c := by
  rw [V9_eq m c]; unfold E
  show _ ⊢ iprop(StableHlo.held (c : Thread nD τ) (Pipeline.arrRefs (τ := τ) spec3) (V9 m (oC m) c) ∗ Xr c
    ∗ (StableHlo.held (c : Thread nD τ) ((Pipeline.ucRefs τ sig) \ Pipeline.arrRefs (τ := τ) spec3) (V9 m (oC m) c) ∗ emp) ∗ ∃ Wd, owes (c : Thread nD τ) (D₀ c) Wd)
  exact split_in arr3_S c _

set_option backward.isDefEq.respectTransparency.types false in
theorem hpost3 (c : Dev nD) :
    (R3 m).post c ⊢ iprop(StableHlo.held (c : Thread nD τ) (Pipeline.ucRefs τ sig) (V10 m (outs m) c) ∗ E 4 c) := by
  rw [← W10_eq m c]; unfold E
  show iprop(StableHlo.held (c : Thread nD τ) (Pipeline.arrRefs (τ := τ) spec3) (W10 m c) ∗ Xr c
    ∗ (StableHlo.held (c : Thread nD τ) ((Pipeline.ucRefs τ sig) \ Pipeline.arrRefs (τ := τ) spec3) (V9 m (oC m) c) ∗ emp) ∗ ∃ Wd, owes (c : Thread nD τ) (D₀ c) Wd) ⊢ _
  exact join_out arr3_S c _ _ (Pipeline.afterRegion_off (d3 m c) (V9 m (oC m) c) _)

theorem hE4 (c : Dev nD) : (E 4 c : sProp 𝕄) ⊢ iprop(∃ W, owes (c : Thread nD τ) (0 : CellTallies nD τ sig Unit) W) := by
  unfold E
  iintro ⟨H, -⟩
  iexact H

/-- The launch's element funds the pipelines' staging cells, and nothing else is needed. -/
theorem fund : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
      ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The end: each argument's buffer and the result's read off the last valuation. -/
theorem hfin (c : Dev nD) (s' : Phys nD τ sig (Elt F)) :
    iprop(StableHlo.held (c : Thread nD τ) (Pipeline.ucRefs τ sig) (V10 m (outs m) c) ∗ SI s')
      ⊢ (|={Set.univ}=> iprop(⌜(s'.mem.mem ((c.tc : Thread nD τ).loc main_arg0) = m ((c.tc : Thread nD τ).loc main_arg0) ∧ s'.mem.mem ((c.tc : Thread nD τ).loc main_arg1) = m ((c.tc : Thread nD τ).loc main_arg1) ∧ s'.mem.mem ((c.tc : Thread nD τ).loc main_arg2) = m ((c.tc : Thread nD τ).loc main_arg2) ∧ s'.mem.mem ((c.tc : Thread nD τ).loc main_arg3) = m ((c.tc : Thread nD τ).loc main_arg3) ∧ s'.mem.mem ((c.tc : Thread nD τ).loc main_arg4) = m ((c.tc : Thread nD τ).loc main_arg4) ∧ s'.mem.mem ((c.tc : Thread nD τ).loc main_arg5) = m ((c.tc : Thread nD τ).loc main_arg5) ∧ s'.mem.mem ((c.tc : Thread nD τ).loc main_arg6) = m ((c.tc : Thread nD τ).loc main_arg6) ∧ s'.mem.mem ((c.tc : Thread nD τ).loc main_arg7) = m ((c.tc : Thread nD τ).loc main_arg7) ∧ s'.mem.mem ((c.tc : Thread nD τ).loc main_arg8) = m ((c.tc : Thread nD τ).loc main_arg8) ∧ s'.mem.mem ((c.tc : Thread nD τ).loc main_arg9) = m ((c.tc : Thread nD τ).loc main_arg9))
      ∧ s'.mem.mem ((c.tc : Thread nD τ).loc main_v119) = (d3 m c).arrAt 12 cfg3.N⌝ ∗ SI s') : sProp 𝕄) := by
  unfold StableHlo.held
  iintro ⟨Hh, HSI⟩
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imodintro
  isplitr
  · ipureintro
    have hb (r : Ref sig .tc) (hr : r.isScoped = false) : s'.mem.mem ((c.tc : Thread nD τ).loc r) = V10 m (outs m) c (Proc.devRef .tc r) :=
      h (Proc.devRef .tc r) (Finset.mem_filter.mpr ⟨StableHlo.devRef_mem_tcRefs r, fun h' => Bool.false_ne_true (hr.symm.trans h')⟩)
    refine ⟨⟨(hb main_arg0 rfl).trans (V10_main_arg0 m (outs m) c), (hb main_arg1 rfl).trans (V10_main_arg1 m (outs m) c), (hb main_arg2 rfl).trans (V10_main_arg2 m (outs m) c), (hb main_arg3 rfl).trans (V10_main_arg3 m (outs m) c), (hb main_arg4 rfl).trans (V10_main_arg4 m (outs m) c), (hb main_arg5 rfl).trans (V10_main_arg5 m (outs m) c), (hb main_arg6 rfl).trans (V10_main_arg6 m (outs m) c), (hb main_arg7 rfl).trans (V10_main_arg7 m (outs m) c), (hb main_arg8 rfl).trans (V10_main_arg8 m (outs m) c), (hb main_arg9 rfl).trans (V10_main_arg9 m (outs m) c)⟩, ?_⟩
    exact (hb main_v119 rfl).trans ((V10_at m (outs m) c).trans (Pipeline.afterRegion_arr (d3 m c) (V9 m (oC m) c) launch3.win.arr_inj 12))
  · iexact HSI

set_option maxHeartbeats 2000000 in
/-- Every run ends, with the arguments unchanged, the result array as the fourth region leaves it, and every semaphore at
    zero, for any four records entered and left at the frame's valuations. -/
theorem run_of (ρ : Dev nD → PrngReg)
    (R0 : RegionSeg (pcfgs (F := F)) adm (pdats m) () defs₀ 𝒱₀ L lv 0)
    (R1 : RegionSeg (pcfgs (F := F)) adm (pdats m) () defs₀ 𝒱₀ L lv 1)
    (R2 : RegionSeg (pcfgs (F := F)) adm (pdats m) () defs₀ 𝒱₀ L lv 2)
    (R3 : RegionSeg (pcfgs (F := F)) adm (pdats m) () defs₀ 𝒱₀ L lv 3)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m (outs m) c) ∗ E 1 c))
    (hpre1 : ∀ c : Dev nD, iprop(StableHlo.held (c : Thread nD τ) (Pipeline.ucRefs τ sig) (V5 m (outs m) c) ∗ E 1 c) ⊢ R1.pre c)
    (hpost1 : ∀ c : Dev nD, R1.post c ⊢ iprop(StableHlo.held (c : Thread nD τ) (Pipeline.ucRefs τ sig) (V6 m (outs m) c) ∗ E 2 c))
    (hpre2 : ∀ c : Dev nD, iprop(StableHlo.held (c : Thread nD τ) (Pipeline.ucRefs τ sig) (V7 m (outs m) c) ∗ E 2 c) ⊢ R2.pre c)
    (hpost2 : ∀ c : Dev nD, R2.post c ⊢ iprop(StableHlo.held (c : Thread nD τ) (Pipeline.ucRefs τ sig) (V8 m (outs m) c) ∗ E 3 c))
    (hpre3 : ∀ c : Dev nD, iprop(StableHlo.held (c : Thread nD τ) (Pipeline.ucRefs τ sig) (V9 m (outs m) c) ∗ E 3 c) ⊢ R3.pre c)
    (hpost3 : ∀ c : Dev nD, R3.post c ⊢ iprop(StableHlo.held (c : Thread nD τ) (Pipeline.ucRefs τ sig) (V10 m (outs m) c) ∗ E 4 c)) :
    θ_run defs (onTc (τ := τ) (main (F := F))) ⟨m, fun _ => 0, ρ⟩ (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v119) = (d3 m c).arrAt 12 cfg3.N)
      ∧ r.2.sem = fun _ => 0) := by
  refine Pipeline.θ_run_regions_kit_dev_sems (pcfgs (F := F)) adm (pdats m) () cellOf_inj emb₁ defs₀ 𝒱₀ L lv m ρ main
    (segs m (outs m) 𝒱₀ L lv E () (pdats m) R0 R1 R2 R3)
    (fun c Q => by
      rewrite [main_chain c, Seg.run_eq_chain,
        show (segs m (outs m) 𝒱₀ L lv E () (pdats m) R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [segs, Seg.pipes_host, Seg.pipes_region, Seg.pipes_nil]; decide)
    D₀ hL (fun _ => iprop(emp)) (initOf (Pipeline.cells cfgs cellOf_inj) (Pipeline.launchToks cfgs cellOf_inj)) fund
    (T₀ := fun c => iprop(StableHlo.held (c : Thread nD τ) (Pipeline.ucRefs τ sig) (V0 m c) ∗ E 0 c))
    (Tₙ := fun c => StableHlo.held (c : Thread nD τ) (Pipeline.ucRefs τ sig) (V10 m (outs m) c))
    (hch := fun c => ⟨.rfl, .rfl, .rfl, hpre0 c, hpost0 c, hpre1 c, hpost1 c, hpre2 c, hpost2 c, hpre3 c, (hpost3 c).trans (sep_mono .rfl (hE4 c))⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
      ∧ s.mem ((c.tc : Thread nD τ).loc main_v119) = (d3 m c).arrAt 12 cfg3.N)
    (hfin := hfin m) (hQ := fun _ h hz => ⟨h, funext fun g => hz g (.inr (regions_no_unscoped g.2))⟩)
  · -- the launch: the unscoped buffers at the first valuation, the rest what rides
    have hsplit : (bigSep Finset.univ fun c : Dev nD => iprop(unscopedBufs c (fun b => m ((c.tc : Thread nD τ).loc b)) ∗ unscopedSems0 c
          ∗ owes (c.tc : Thread nD τ) (D₀ c) ∅ ∗ Pipeline.launchCred D₀ c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (D₀ c) ∅ ∗ Pipeline.launchCred D₀ c ∗ prngReg c (ρ c) ∗ emp))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE

/-- Every run ends, with the arguments unchanged, the result array as the fourth region leaves it, and every semaphore at
    zero, when the block table is in range. -/
theorem run (ρ : Dev nD → PrngReg) (hT : ∀ (c : Dev nD) t, K2.InRange (F := F) (K2.iblk (Ve (V7 m (oB m))) c 0 t)) :
    θ_run defs (onTc (τ := τ) (main (F := F))) ⟨m, fun _ => 0, ρ⟩ (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v119) = (d3 m c).arrAt 12 cfg3.N)
      ∧ r.2.sem = fun _ => 0) :=
  run_of m ρ (R0 m) (R1 m) (R2 m hT) (R3 m) (hpre0 m) (hpost0 m) (hpre1 m) (hpost1 m) (hpre2 m hT) (hpost2 m hT) (hpre3 m) (hpost3 m)

end Cert.KernelIdeal.Run

end
-- ==== Proof.R.KernelIdealTable.lean ====
/- The table of block numbers that `KernelIdeal` hands its third custom call holds positions below 2048: it is the index result of a
   top-k over 2048 places, and nothing between that operation and the call writes it. -/
module

public import proofs.«01_k».proof.Proof.R.KernelIdealRun
public import proofs.«01_k».proof.Proof.R.TableRange
public import Idealize.ShloMosaic.Lib.StableHlo.RunRead

@[expose] public section

noncomputable section

namespace Cert.KernelIdeal.Run

open Cert.KernelIdeal Cert.KernelIdeal.Gen Cert.KernelIdeal.Reg
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-- The table reaches the third call as the top-k left it. -/
theorem indices_V7 (c : Dev nD) :
    V7 m (oB m) c (Proc.devRef .tc main_indices) = V3 m c (Proc.devRef .tc main_indices) :=
  (V7_of m (oB m) c main_indices (by decide)).trans
    ((V6_of m (oB m) c main_indices (by decide)).trans
      ((V5_of m (oB m) c main_indices (by decide)).trans (V4_of m (oB m) c main_indices (by decide))))

set_option maxRecDepth 16384 in
set_option maxHeartbeats 4000000 in
/-- The table is the index result of the top-k of the importance scores. -/
theorem indices_V3 (c : Dev nD) :
    V3 m c (Proc.devRef .tc main_indices)
      = (Host.topK S2x16 1 (FloatOps.cmpfTotal .gt)
          (V3 m c (Proc.devRef .tc main_v74) : (⟨S2x2048, .f32⟩ : BufTy).Contents (Elt F)) sliceFits_S2x2048_S2x16).2 := by
  simp only [V3]
  generalize V2 m c = W
  after_reads_simp <;> rfl

/-- Every entry of the table is below 2048, at every point of the third call. -/
theorem table_inRange (c : Dev nD) (t : Fin cfg2.N) : K2.InRange (F := F) (K2.iblk (Ve (V7 m (oB m))) c 0 t) := by
  have h : ∀ i, BitVec.toNat (w := 32) (V7 m (oB m) c (Proc.devRef .tc main_indices) i) < 2048 := fun i => by
    rw [indices_V7, indices_V3]; exact Cert.TableRange.topK_lt _ _ _ i
  intro j
  exact h _

end Cert.KernelIdeal.Run

end
-- ==== Proof.W.Math.lean ====
/- The mathematics the two programs share: sums, quotients and exponentials of extended reals that are real numbers. -/
module

public import Idealize.ShloMosaic.Lib.Pointwise
public import Idealize.ShloMosaic.Lib.IdealHost

@[expose] public section

noncomputable section

namespace Cert.NsaMath

open Idealize.ShloMosaic
open scoped BigOperators

/-! ## The constants the programs print -/

theorem c_32th : Ideal.ofBits .f32 0x3D000000#32 = (((1 : ℝ) / 32 : ℝ) : EReal) := by
  simp [Ideal.ofBits, Ideal.ieee, -EReal.coe_mul]; norm_num
theorem c_8th : Ideal.ofBits .f32 0x3E000000#32 = (((1 : ℝ) / 8 : ℝ) : EReal) := by
  simp [Ideal.ofBits, Ideal.ieee, -EReal.coe_mul]; norm_num
theorem c_8 : Ideal.ofBits .f32 0x41000000#32 = ((8 : ℝ) : EReal) := by
  simp [Ideal.ofBits, Ideal.ieee, -EReal.coe_mul]; norm_num
theorem c_32 : Ideal.ofBits .f32 0x42000000#32 = ((32 : ℝ) : EReal) := by
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_bot : Ideal.ofBits .f32 0xFF800000#32 = ⊥ := by
  simp [Ideal.ofBits, Ideal.ieee]
theorem c_top : Ideal.ofBits .f32 0x7F800000#32 = ⊤ := by
  simp [Ideal.ofBits, Ideal.ieee]

/-! ## Real numbers among the extended reals -/

/-- The extended real is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.div {x : EReal} {r : ℝ} (hx : IsReal x) (hr : r ≠ 0) : IsReal (Ideal.div x (r : EReal)) := by
  rw [Ideal.div_coe hr]; exact hx.mul ⟨_, rfl⟩

/-- A finite sum of real numbers, as one. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

/-- A finite nonempty supremum of real numbers is one. -/
theorem IsReal.sup {ι : Type*} [Fintype ι] [Nonempty ι] {f : ι → EReal} (h : ∀ i, IsReal (f i)) : IsReal (Finset.univ.sup f) := by
  obtain ⟨i, -, hi⟩ := Finset.exists_mem_eq_sup (Finset.univ : Finset ι) Finset.univ_nonempty f
  rw [hi]; exact h i

/-! ## The attention step -/

/-- Scaling the query before the product is scaling the product. -/
theorem score_eq {ι : Type*} [Fintype ι] (q k : ι → EReal) (hq : ∀ i, IsReal (q i)) (hk : ∀ i, IsReal (k i)) :
    Ideal.div (∑ i, q i * k i) ((8 : ℝ) : EReal) = ∑ i, q i * (((1 : ℝ) / 8 : ℝ) : EReal) * k i := by
  choose a ha using hq
  choose b hb using hk
  rw [Ideal.div_coe (by norm_num)]
  simp only [ha, hb, ← EReal.coe_mul, ← coe_sum]
  congr 1
  rw [Finset.sum_mul]
  exact Finset.sum_congr rfl fun i _ => by ring

/-- A weighted mean by a softmax does not see the shift of its scores, and may divide once at the end. -/
theorem softmax_eq {ι : Type*} [Fintype ι] [Nonempty ι] (s v : ι → EReal) (M : EReal) (hs : ∀ i, IsReal (s i)) (hv : ∀ i, IsReal (v i))
    (hM : IsReal M) :
    ∑ j, Ideal.div (Ideal.exp (s j - M)) (∑ i, Ideal.exp (s i - M)) * v j
      = Ideal.div (∑ j, Ideal.exp (s j) * v j) (∑ j, Ideal.exp (s j)) := by
  choose a ha using hs
  choose b hb using hv
  obtain ⟨m, rfl⟩ := hM
  simp only [ha, hb, ← EReal.coe_sub, Ideal.exp_coe, ← coe_sum, ← EReal.coe_mul]
  have h1 : (0 : ℝ) < ∑ i : ι, Real.exp (a i - m) := Finset.sum_pos (fun i _ => Real.exp_pos _) Finset.univ_nonempty
  have h2 : (0 : ℝ) < ∑ i : ι, Real.exp (a i) := Finset.sum_pos (fun i _ => Real.exp_pos _) Finset.univ_nonempty
  simp only [Ideal.div_coe h1.ne', Ideal.div_coe h2.ne', ← EReal.coe_mul, ← coe_sum]
  congr 1
  have h3 : ∑ i, Real.exp (a i - m) = (∑ i, Real.exp (a i)) * Real.exp (-m) := by
    rw [Finset.sum_mul]; exact Finset.sum_congr rfl fun i _ => by rw [← Real.exp_add, sub_eq_add_neg]
  rw [Finset.sum_mul]
  refine Finset.sum_congr rfl fun i _ => ?_
  rw [h3, sub_eq_add_neg, Real.exp_add]
  have := Real.exp_pos (-m)
  field_simp

/-- The weighted mean is a real number. -/
theorem IsReal.softmax {ι : Type*} [Fintype ι] [Nonempty ι] {s v : ι → EReal} (hs : ∀ i, IsReal (s i)) (hv : ∀ i, IsReal (v i)) :
    IsReal (Ideal.div (∑ j, Ideal.exp (s j) * v j) (∑ j, Ideal.exp (s j))) := by
  choose a ha using hs
  choose b hb using hv
  simp only [ha, hb, Ideal.exp_coe, ← coe_sum, ← EReal.coe_mul]
  have h2 : (0 : ℝ) < ∑ i, Real.exp (a i) := Finset.sum_pos (fun i _ => Real.exp_pos _) Finset.univ_nonempty
  rw [Ideal.div_coe h2.ne']
  exact (IsReal.coe _).mul (IsReal.coe _)

/-! ## The compression step -/

/-- The mean over a block of the projected rows is the projection of the mean, the mean taken over the block's two
    halves. -/
theorem compress_eq {ι : Type*} [Fintype ι] (h : Fin 32 → ι → EReal) (w : ι → EReal) (b : EReal) (hh : ∀ r i, IsReal (h r i))
    (hw : ∀ i, IsReal (w i)) (hb : IsReal b) :
    Ideal.div (∑ r, ((∑ i, h r i * w i) + b)) ((32 : ℝ) : EReal)
      = (∑ i, ((∑ r : Fin 16, h ⟨r, by omega⟩ i) + ∑ r : Fin 16, h ⟨16 + r, by omega⟩ i) * (((1 : ℝ) / 32 : ℝ) : EReal) * w i) + b := by
  choose a ha using hh
  choose c hc using hw
  obtain ⟨d, rfl⟩ := hb
  rw [Ideal.div_coe (by norm_num)]
  simp only [ha, hc, ← coe_sum, ← EReal.coe_mul, ← EReal.coe_add]
  congr 1
  rw [Finset.sum_add_distrib, Finset.sum_const, Finset.card_univ, Fintype.card_fin, Finset.sum_comm, add_mul]
  congr 1
  · rw [Finset.sum_mul]
    refine Finset.sum_congr rfl fun i _ => ?_
    rw [← Finset.sum_mul]
    have e : ∑ r : Fin 32, a r i = (∑ r : Fin 16, a ⟨r, by omega⟩ i) + ∑ r : Fin 16, a ⟨16 + r, by omega⟩ i :=
      Fin.sum_univ_add (a := 16) (b := 16) (fun r => a r i)
    rw [e]; ring
  · simp; ring

/-- A sum over 1027 is the sum over 1024 and the sum over three. -/
theorem sum_1027 (f : Fin 1027 → EReal) : ∑ x, f x = (∑ x : Fin 1024, f ⟨x, by omega⟩) + ∑ p : Fin 3, f ⟨1024 + p, by omega⟩ :=
  Fin.sum_univ_add (a := 1024) (b := 3) f

/-- A sum over 128 whose terms vanish from the fourth on is the sum over three. -/
theorem sum_128 (f : Fin 128 → EReal) (h : ∀ x : Fin 128, 3 ≤ x.val → f x = 0) : ∑ x, f x = ∑ p : Fin 3, f ⟨p, by omega⟩ := by
  have e : ∑ x, f x = (∑ p : Fin 3, f ⟨p, by omega⟩) + ∑ p : Fin 125, f ⟨3 + p, by omega⟩ := Fin.sum_univ_add (a := 3) (b := 125) f
  have e0 : ∑ p : Fin 125, f ⟨3 + p, by omega⟩ = 0 := Finset.sum_eq_zero fun p _ => h ⟨3 + p, by omega⟩ (Nat.le_add_right 3 p)
  rw [e, e0, add_zero]

/-- A sum over 128 whose last term vanishes is the sum over 127. -/
theorem sum_127 (f : Fin 128 → EReal) (h : f ⟨127, by omega⟩ = 0) : ∑ x, f x = ∑ p : Fin 127, f ⟨p, by omega⟩ := by
  have e : ∑ x, f x = (∑ p : Fin 127, f ⟨p, by omega⟩) + f ⟨127, by omega⟩ := Fin.sum_univ_castSucc (n := 127) f
  rw [e, h, add_zero]

/-- A sum over 3072 is three sums over 1024. -/
theorem sum_3072 (f : Fin 3072 → EReal) : ∑ x, f x
    = (∑ x : Fin 1024, f ⟨x, by omega⟩) + (∑ x : Fin 1024, f ⟨1024 + x, by omega⟩) + ∑ x : Fin 1024, f ⟨2048 + x, by omega⟩ := by
  have e : ∑ x, f x = (∑ x : Fin 2048, f ⟨x, by omega⟩) + ∑ x : Fin 1024, f ⟨2048 + x, by omega⟩ :=
    Fin.sum_univ_add (a := 2048) (b := 1024) f
  have e2 : (∑ x : Fin 2048, f ⟨x, by omega⟩) = (∑ x : Fin 1024, f ⟨x, by omega⟩) + ∑ x : Fin 1024, f ⟨1024 + x, by omega⟩ :=
    Fin.sum_univ_add (a := 1024) (b := 1024) (fun x : Fin 2048 => f ⟨x, by omega⟩)
  rw [e, e2]

end Cert.NsaMath
-- ==== Proof.W.Spec.lean ====
/- What both programs compute, as formulas over the arrays they share: the projected queries, keys and values, the compressed
   keys, the chosen blocks, the positions and the weights. -/
module

public import proofs.«01_k».proof.Proof.W.Math

@[expose] public section

noncomputable section

namespace Cert.NsaMath

open Idealize.ShloMosaic
open scoped BigOperators

/-- The head a channel lies in, and its place there. -/
abbrev hd (c : Fin 1024) : Fin 16 := ⟨c.val / 64, by omega⟩
abbrev hc (c : Fin 1024) : Fin 64 := ⟨c.val % 64, by omega⟩

/-- One channel of the attention of one query row to `n` keys: the mean of the values weighted by the exponentials of the
    scaled scores. -/
def attn {n : ℕ} (q : Fin 64 → EReal) (k : Fin n → Fin 64 → EReal) (v : Fin n → EReal) : EReal :=
  Ideal.div (∑ j, Ideal.exp (∑ d, q d * (((1 : ℝ) / 8 : ℝ) : EReal) * k j d) * v j)
    (∑ j, Ideal.exp (∑ d, q d * (((1 : ℝ) / 8 : ℝ) : EReal) * k j d))

/-- One hidden value of the compression of one token: its channels and its position, projected, shifted and cut at zero. -/
def hid (tok : Fin 1024 → EReal) (pos : Fin 3 → EReal) (w : Fin 1027 → EReal) (b : EReal) : EReal :=
  max ((∑ e, tok e * w ⟨e, by omega⟩) + (∑ p, pos p * w ⟨1024 + p, by omega⟩) + b) 0

/-- One channel of a compressed block: the mean of its 32 hidden rows (two halves of 16), projected and shifted. -/
def comp (h : Fin 32 → Fin 1024 → EReal) (w : Fin 1024 → EReal) (b : EReal) : EReal :=
  (∑ x, ((∑ r : Fin 16, h ⟨r, by omega⟩ x) + ∑ r : Fin 16, h ⟨16 + r, by omega⟩ x) * (((1 : ℝ) / 32 : ℝ) : EReal) * w x) + b

/-- A gate's logit: the three branches' channels against the three thirds of its weights. -/
def logit (tc ts tw : Fin 1024 → EReal) (w : Fin 3072 → EReal) (b : EReal) : EReal :=
  (∑ x, tc x * w ⟨x, by omega⟩) + (∑ x, ts x * w ⟨1024 + x, by omega⟩) + (∑ x, tw x * w ⟨2048 + x, by omega⟩) + b

/-- The gated sum of the three branches at one channel. -/
def gate (tc ts tw : Fin 1024 → EReal) (w : Fin 3072 → Fin 3 → EReal) (b : Fin 3 → EReal) (c : Fin 1024) : EReal :=
  let l (j : Fin 3) : EReal := logit tc ts tw (fun x => w x j) (b j)
  let m : EReal := max (max (l 0) (l 1)) (l 2)
  let e (j : Fin 3) : EReal := Ideal.exp (l j - m)
  let den : EReal := e 0 + e 1 + e 2
  Ideal.div (e 0) den * tc c + Ideal.div (e 1) den * ts c + Ideal.div (e 2) den * tw c

/-- The row a selected place reads: the chosen block's, or the last row for a block past the end. -/
def selRow (w : BitVec 32) (r : Fin 64) : Fin 2048 := ⟨min (w.toNat * 64 + r.val) 2047, by omega⟩

/-- The arrays both programs share. -/
structure Arrays where
  Q : Fin 2 → Fin 16 → Fin 2048 → Fin 64 → EReal
  K : Fin 2 → Fin 16 → Fin 2048 → Fin 64 → EReal
  V : Fin 2 → Fin 16 → Fin 2048 → Fin 64 → EReal
  CK : Fin 2 → Fin 16 → Fin 127 → Fin 64 → EReal
  I : Fin 2 → Fin 16 → BitVec 32
  pos : Fin 2048 → Fin 2 → Fin 3 → EReal
  W1 : Fin 1027 → Fin 1024 → EReal
  b1 : Fin 1024 → EReal
  W2 : Fin 1024 → Fin 1024 → EReal
  b2 : Fin 1024 → EReal
  Wg : Fin 3072 → Fin 3 → EReal
  bg : Fin 3 → EReal

namespace Arrays

variable (A : Arrays)

/-- The hidden row of token `s` of batch `b`. -/
def hidden (b : Fin 2) (s : Fin 2048) (x : Fin 1024) : EReal :=
  hid (fun e => A.V b (hd e) s (hc e)) (A.pos s b) (fun e => A.W1 e x) (A.b1 x)

/-- The compressed values. -/
def CV (b : Fin 2) (n : Fin 127) (c : Fin 1024) : EReal :=
  comp (fun r x => A.hidden b ⟨n.val * 16 + r.val, by omega⟩ x) (fun x => A.W2 x c) (A.b2 c)

/-- The mean query of a head. -/
def qm (b : Fin 2) (h : Fin 16) (d : Fin 64) : EReal := Ideal.div (∑ s, A.Q b h s d) ((2048 : ℝ) : EReal)

/-- The three branches, channel by channel. -/
def tC (b : Fin 2) (c : Fin 1024) : EReal := attn (A.qm b (hd c)) (A.CK b (hd c)) (fun n => A.CV b n c)
def sel (b : Fin 2) (j : Fin 1024) : Fin 2048 := selRow (A.I b ⟨j.val / 64, by omega⟩) ⟨j.val % 64, by omega⟩
def tS (b : Fin 2) (s : Fin 2048) (c : Fin 1024) : EReal :=
  attn (A.Q b (hd c) s) (fun j => A.K b (hd c) (A.sel b j)) (fun j => A.V b (hd c) (A.sel b j) (hc c))
def tW (b : Fin 2) (s : Fin 2048) (c : Fin 1024) : EReal :=
  attn (A.Q b (hd c) s) (fun j : Fin 512 => A.K b (hd c) ⟨1536 + j.val, by omega⟩) (fun j => A.V b (hd c) ⟨1536 + j.val, by omega⟩ (hc c))

/-- The result. -/
def out (b : Fin 2) (s : Fin 2048) (c : Fin 1024) : EReal := gate (A.tC b) (A.tS b s) (A.tW b s) A.Wg A.bg c

end Arrays

/-- The softmax of the scaled scores against the values is the weighted mean. -/
theorem attn_eq {n : ℕ} [NeZero n] (q : Fin 64 → EReal) (k : Fin n → Fin 64 → EReal) (v : Fin n → EReal) (M : EReal)
    (hq : ∀ d, IsReal (q d)) (hk : ∀ j d, IsReal (k j d)) (hv : ∀ j, IsReal (v j)) (hM : IsReal M) :
    ∑ j, Ideal.div (Ideal.exp (Ideal.div (∑ d, q d * k j d) ((8 : ℝ) : EReal) - M))
        (∑ i, Ideal.exp (Ideal.div (∑ d, q d * k i d) ((8 : ℝ) : EReal) - M)) * v j = attn q k v := by
  haveI : Nonempty (Fin n) := ⟨0⟩
  have hs : ∀ j, IsReal (Ideal.div (∑ d, q d * k j d) ((8 : ℝ) : EReal)) := fun j =>
    (IsReal.sum fun d => (hq d).mul (hk j d)).div (by norm_num)
  rw [softmax_eq _ _ _ hs hv hM]
  unfold attn
  simp only [score_eq q (k _) hq (hk _)]

theorem hid_real {tok : Fin 1024 → EReal} {pos : Fin 3 → EReal} {w : Fin 1027 → EReal} {b : EReal} (ht : ∀ e, IsReal (tok e))
    (hp : ∀ p, IsReal (pos p)) (hw : ∀ e, IsReal (w e)) (hb : IsReal b) : IsReal (hid tok pos w b) :=
  (((IsReal.sum fun e => (ht e).mul (hw _)).add (IsReal.sum fun p => (hp p).mul (hw _))).add hb).max IsReal.zero

theorem comp_real {h : Fin 32 → Fin 1024 → EReal} {w : Fin 1024 → EReal} {b : EReal} (hh : ∀ r x, IsReal (h r x)) (hw : ∀ x, IsReal (w x))
    (hb : IsReal b) : IsReal (comp h w b) :=
  (IsReal.sum fun x => (((IsReal.sum fun r => hh _ x).add (IsReal.sum fun r => hh _ x)).mul (IsReal.coe _)).mul (hw x)).add hb

theorem comp_eq (h : Fin 32 → Fin 1024 → EReal) (w : Fin 1024 → EReal) (b : EReal) (hh : ∀ r x, IsReal (h r x)) (hw : ∀ x, IsReal (w x))
    (hb : IsReal b) : Ideal.div (∑ r, ((∑ x, h r x * w x) + b)) ((32 : ℝ) : EReal) = comp h w b :=
  compress_eq h w b hh hw hb

end Cert.NsaMath
-- ==== Proof.W.Scatter.lean ====
/- A block set into the corner of an array, read at an index: the host's padding of the positions and of the weights. -/
module

public import Idealize.ShloMosaic.Lib.Pointwise
public import Idealize.ShloMosaic.Lib.Routing.OpsSet

@[expose] public section

noncomputable section

namespace Cert.NsaMath

open Idealize.ShloMosaic Idealize.ShloMosaic.Routing

/-- The array with an `r` by `c` block set at its origin along axis `k`: the block inside, the array outside. -/
theorem scatter_corner {α : Type} {R C r c w : Nat} (k : Fin 2)
    (d : ScatterDims ⟨2, ![R, C]⟩ ⟨1, ![1]⟩ ⟨2, ![r, c]⟩)
    (h1 : d.updateWindowDims = [0, 1]) (h2 : d.insertedWindowDims = []) (h3 : d.scatterDimsToOperandDims = [k]) (h4 : d.indexVectorDim = 0)
    (x0 : (⟨2, ![R, C]⟩ : Shape).Idx → α) (idx : IVec ⟨1, ![1]⟩ w) (hz : ∀ z, idx z = 0) (upd : (⟨2, ![r, c]⟩ : Shape).Idx → α)
    (i : Fin R) (j : Fin C) :
    Host.scatter d (fun _ b => b) x0 idx upd (ix2 i j) = if h : i.val < r ∧ j.val < c then upd (ix2 ⟨i, h.1⟩ ⟨j, h.2⟩) else x0 (ix2 i j) := by
  have key (y : (⟨2, ![r, c]⟩ : Shape).Idx) : d.resultIdx? y idx = some (ix2 i j) ↔ (y 0).val = i.val ∧ (y 1).val = j.val := by
    have hst (a) : d.start y idx a = 0 := by
      unfold ScatterDims.start
      split
      · rw [hz]; simp
      · rfl
    have hw0 : d.window y 0 = (y 0).val := by
      obtain ⟨u, ins, sd, iv, wf⟩ := d
      subst h1 h2 h3 h4
      rfl
    have hw1 : d.window y 1 = (y 1).val := by
      obtain ⟨u, ins, sd, iv, wf⟩ := d
      subst h1 h2 h3 h4
      rfl
    refine (resultIdx?_eq_some d y idx (ix2 i j)).trans ?_
    constructor
    · intro h
      have a0 := h 0
      have a1 := h 1
      rw [hst, hw0] at a0
      rw [hst, hw1] at a1
      have a0' : (0 : Int) + ((y 0).val : Int) = (i.val : Int) := a0
      have a1' : (0 : Int) + ((y 1).val : Int) = (j.val : Int) := a1
      constructor <;> omega
    · intro h a
      rw [hst]
      match a with
      | ⟨0, _⟩ => show (0 : Int) + (d.window y 0 : Int) = (i.val : Int); rw [hw0, h.1]; omega
      | ⟨1, _⟩ => show (0 : Int) + (d.window y 1 : Int) = (j.val : Int); rw [hw1, h.2]; omega
  by_cases h : i.val < r ∧ j.val < c
  · rw [dif_pos h]
    refine scatter_set_hit d x0 idx upd (ix2 i j) _ (fun y hy => ?_) (ix2 ⟨i, h.1⟩ ⟨j, h.2⟩) ((key _).2 ⟨rfl, rfl⟩)
    have := (key y).1 hy
    congr 1
    funext a
    match a with
    | ⟨0, _⟩ => exact Fin.ext this.1
    | ⟨1, _⟩ => exact Fin.ext this.2
  · rw [dif_neg h]
    refine scatter_set_miss d x0 idx upd (ix2 i j) fun y hy => h ?_
    have := (key y).1 hy
    exact ⟨this.1 ▸ (y 0).isLt, this.2 ▸ (y 1).isLt⟩

end Cert.NsaMath
-- ==== Proof.W.HostA.lean ====
/- What the first host stretches of the idealized kernel leave in the arrays its custom calls read, entry by entry: every one of
   them is a view of the queries, keys, values and compressed keys, or of an argument. -/
module

public import proofs.«01_k».proof.Proof.R.KernelIdealTable
public import proofs.«01_k».proof.Proof.W.Spec
public import proofs.«01_k».proof.Proof.W.Scatter
public import Idealize.ShloMosaic.Lib.Pointwise.Contract

@[expose] public section

set_option maxRecDepth 16384

noncomputable section

namespace Cert.KernelIdeal.W

open Cert.KernelIdeal Cert.KernelIdeal.Gen Cert.KernelIdeal.Reg Cert.KernelIdeal.Run Cert.NsaMath
open Idealize.ShloMosaic Idealize.ShloMosaic.TcCoe Idealize.ShloMosaic.StableHlo
open Idealize.SL Idealize.SL.Sem
open scoped BigOperators

variable (m : (ℓ : Loc nD τ sig) → Buf (Elt Ideal) ℓ)

/-- The arrays the kernel computes from: its queries, keys, values, compressed keys and chosen blocks, and its arguments. -/
def arrs (c : Dev nD) : Arrays where
  Q b h s d := V3 m c (Proc.devRef .tc main_v6) (ix4 b h s d)
  K b h s d := V3 m c (Proc.devRef .tc main_v7) (ix4 b h s d)
  V b h s d := V3 m c (Proc.devRef .tc main_v8) (ix4 b h s d)
  CK b h n d := V3 m c (Proc.devRef .tc main_v50) (ix4 b h n d)
  I b j := V3 m c (Proc.devRef .tc main_indices) (ix2 b j)
  pos s b p := V3 m c (Proc.devRef .tc main_arg1) (ix3 s b p)
  W1 e x := V3 m c (Proc.devRef .tc main_arg4) (ix2 e x)
  b1 x := V3 m c (Proc.devRef .tc main_arg5) (ix1 x)
  W2 e x := V3 m c (Proc.devRef .tc main_arg6) (ix2 e x)
  b2 x := V3 m c (Proc.devRef .tc main_arg7) (ix1 x)
  Wg e x := V3 m c (Proc.devRef .tc main_arg8) (ix2 e x)
  bg x := V3 m c (Proc.devRef .tc main_arg9) (ix1 x)

/-- An array of heads laid out token by token. -/
def tok (X : FVec Ideal S2x16x2048x64 .f32) : FVec Ideal S2x2048x1024 .f32 :=
  transpose S2x2048x1024 [1, 0, 2] (shapeCast S2048x2x1024 (transpose S2048x2x16x64 [2, 0, 1, 3] X transposes_S2x16x2048x64_S2048x2x16x64_2_0_1_3)
    shapeCasts_S2048x2x16x64_S2048x2x1024) transposes_S2048x2x1024_S2x2048x1024_1_0_2

theorem tok_at (X : FVec Ideal S2x16x2048x64 .f32) (b : Fin 2) (s : Fin 2048) (c : Fin 1024) :
    tok X (ix3 b s c) = X (ix4 b (hd c) s (hc c)) := by
  pointwise [tok]

set_option maxHeartbeats 2000000 in
theorem v75_eq (c : Dev nD) : V3 m c (Proc.devRef .tc main_v75) = tok (V3 m c (Proc.devRef .tc main_v7)) := by
  simp only [V3, V2, V1, tok]
  generalize V0 m c = W
  after_reads_simp <;> rfl

set_option maxHeartbeats 2000000 in
theorem v76_eq (c : Dev nD) : V3 m c (Proc.devRef .tc main_v76) = tok (V3 m c (Proc.devRef .tc main_v8)) := by
  simp only [V3, V2, V1, tok]
  generalize V0 m c = W
  after_reads_simp <;> rfl

set_option maxHeartbeats 2000000 in
theorem v95_eq (c : Dev nD) :
    V3 m c (Proc.devRef .tc main_v95) = shapeCast S4096x1024 (V3 m c (Proc.devRef .tc main_v76)) shapeCasts_S2x2048x1024_S4096x1024 := by
  simp only [V3]
  generalize V2 m c = W
  after_reads_simp <;> rfl

theorem v75_at (c : Dev nD) (b : Fin 2) (s : Fin 2048) (e : Fin 1024) :
    @Eq EReal (V3 m c (Proc.devRef .tc main_v75) (ix3 b s e)) ((arrs m c).K b (hd e) s (hc e)) := by
  rw [v75_eq]; exact tok_at _ b s e

theorem v76_at (c : Dev nD) (b : Fin 2) (s : Fin 2048) (e : Fin 1024) :
    @Eq EReal (V3 m c (Proc.devRef .tc main_v76) (ix3 b s e)) ((arrs m c).V b (hd e) s (hc e)) := by
  rw [v76_eq]; exact tok_at _ b s e

theorem flat_at (X : FVec Ideal S2x2048x1024 .f32) (t : Fin 4096) (e : Fin 1024) :
    shapeCast S4096x1024 X shapeCasts_S2x2048x1024_S4096x1024 (ix2 t e) = X (ix3 ⟨t.val / 2048, by omega⟩ ⟨t.val % 2048, by omega⟩ e) := by
  pointwise

theorem v95_at (c : Dev nD) (t : Fin 4096) (e : Fin 1024) :
    @Eq EReal (V3 m c (Proc.devRef .tc main_v95) (ix2 t e)) ((arrs m c).V ⟨t.val / 2048, by omega⟩ (hd e) ⟨t.val % 2048, by omega⟩ (hc e)) := by
  rw [v95_eq]; exact (flat_at _ t e).trans (v76_at m c _ _ e)

set_option maxHeartbeats 2000000 in
theorem v89_eq (c : Dev nD) : V3 m c (Proc.devRef .tc main_v89)
    = Host.scatter scatter_S4096x128_S1_S4096x3_01_n_1_0 (fun _ b => b) (broadcastInDim S4096x128 ![] bcast_S_S4096x128 (constant (F := Ideal) S_ .f32 0x00000000#32))
        (broadcastInDim S1 ![] bcast_S_S1 (constantI S_ 32 0#32))
        (shapeCast S4096x3 (transpose S2x2048x3 [1, 0, 2] (V3 m c (Proc.devRef .tc main_arg1)) transposes_S2048x2x3_S2x2048x3_1_0_2) shapeCasts_S2x2048x3_S4096x3) := by
  simp only [V3]
  generalize V2 m c = W
  after_reads_simp <;> rfl

theorem v89_at (c : Dev nD) (t : Fin 4096) (p : Fin 128) :
    @Eq EReal (V3 m c (Proc.devRef .tc main_v89) (ix2 t p))
      (if h : p.val < 3 then (arrs m c).pos ⟨t.val % 2048, by omega⟩ ⟨t.val / 2048, by omega⟩ ⟨p.val, h⟩ else 0) := by
  rw [v89_eq]
  refine (scatter_corner 1 _ rfl rfl rfl rfl _ _ (fun z => ?_) _ t p).trans ?_
  · rfl
  · by_cases h : p.val < 3
    · rw [dif_pos ⟨t.isLt, h⟩, dif_pos h]
      unfold arrs
      dsimp only
      generalize V3 m c (Proc.devRef .tc main_arg1) = Y
      pointwise
    · rw [dif_neg fun q => h q.2, dif_neg h]
      pointwise

set_option maxHeartbeats 2000000 in
theorem v90_eq (c : Dev nD) : V3 m c (Proc.devRef .tc main_v90)
    = extractStridedSlice S1024x1024 ![0, 0] (V3 m c (Proc.devRef .tc main_arg4)) slices_S1027x1024_S1024x1024_0_0 := by
  simp only [V3]
  generalize V2 m c = W
  after_reads_simp <;> rfl

theorem v90_at (c : Dev nD) (e d : Fin 1024) :
    @Eq EReal (V3 m c (Proc.devRef .tc main_v90) (ix2 e d)) ((arrs m c).W1 ⟨e.val, by omega⟩ d) := by
  rw [v90_eq]
  unfold arrs
  dsimp only
  generalize V3 m c (Proc.devRef .tc main_arg4) = Y
  pointwise

set_option maxHeartbeats 2000000 in
theorem v94_eq (c : Dev nD) : V3 m c (Proc.devRef .tc main_v94)
    = Host.scatter scatter_S128x1024_S1_S3x1024_01_n_0_0 (fun _ b => b) (broadcastInDim S128x1024 ![] bcast_S_S128x1024 (constant (F := Ideal) S_ .f32 0x00000000#32))
        (broadcastInDim S1 ![] bcast_S_S1 (constantI S_ 32 0#32))
        (extractStridedSlice S3x1024 ![1024, 0] (V3 m c (Proc.devRef .tc main_arg4)) slices_S1027x1024_S3x1024_1024_0) := by
  simp only [V3]
  generalize V2 m c = W
  after_reads_simp <;> rfl

theorem v94_at (c : Dev nD) (p : Fin 128) (d : Fin 1024) :
    @Eq EReal (V3 m c (Proc.devRef .tc main_v94) (ix2 p d))
      (if h : p.val < 3 then (arrs m c).W1 ⟨1024 + p.val, by omega⟩ d else 0) := by
  rw [v94_eq]
  refine (scatter_corner 0 _ rfl rfl rfl rfl _ _ (fun z => ?_) _ p d).trans ?_
  · rfl
  · by_cases h : p.val < 3
    · rw [dif_pos ⟨h, d.isLt⟩, dif_pos h]
      unfold arrs
      dsimp only
      generalize V3 m c (Proc.devRef .tc main_arg4) = Y
      pointwise
    · rw [dif_neg fun q => h q.1, dif_neg h]
      pointwise

set_option maxHeartbeats 2000000 in
theorem v96_eq (c : Dev nD) : V3 m c (Proc.devRef .tc main_v96)
    = shapeCast S1x1024 (V3 m c (Proc.devRef .tc main_arg5)) shapeCasts_S1024_S1x1024 := by
  simp only [V3]
  generalize V2 m c = W
  after_reads_simp <;> rfl

theorem v96_at (c : Dev nD) (d : Fin 1024) : @Eq EReal (V3 m c (Proc.devRef .tc main_v96) (ix2 0 d)) ((arrs m c).b1 d) := by
  rw [v96_eq]
  unfold arrs
  dsimp only
  generalize V3 m c (Proc.devRef .tc main_arg5) = Y
  pointwise

set_option maxHeartbeats 2000000 in
theorem v80_eq (c : Dev nD) : V3 m c (Proc.devRef .tc main_v80)
    = concatenate S2x128x1024 1 [⟨S2x127x1024, shapeCast S2x127x1024 (transpose S2x127x16x64 [0, 2, 1, 3] (V3 m c (Proc.devRef .tc main_v50)) transposes_S2x16x127x64_S2x127x16x64_0_2_1_3) shapeCasts_S2x127x16x64_S2x127x1024⟩,
        ⟨S2x1x1024, broadcastInDim S2x1x1024 ![] bcast_S_S2x1x1024 (constant (F := Ideal) S_ .f32 0x00000000#32)⟩] concatenates_S2x127x1024_S2x1x1024_S2x128x1024_d1 := by
  simp only [V3]
  generalize V2 m c = W
  after_reads_simp <;> rfl

theorem v80_at (c : Dev nD) (b : Fin 2) (n : Fin 127) (e : Fin 1024) :
    @Eq EReal (V3 m c (Proc.devRef .tc main_v80) (ix3 b ⟨n.val, by omega⟩ e)) ((arrs m c).CK b (hd e) n (hc e)) := by
  rw [v80_eq]
  unfold arrs
  dsimp only
  generalize V3 m c (Proc.devRef .tc main_v50) = Y
  pointwise

set_option maxHeartbeats 2000000 in
theorem v84_eq (c : Dev nD) : V3 m c (Proc.devRef .tc main_v84)
    = shapeCast S2x1x1024 (Host.divf (F := Ideal) (φ := .f32) (Host.reduceAdd (F := Ideal) (φ := .f32) (V3 m c (Proc.devRef .tc main_v6)) (constant S_ .f32 0x00000000#32) reducesTo_S2x16x2048x64_S2x16x64_d2 h_S_)
        (broadcastInDim S2x16x64 ![] bcast_S_S2x16x64 (constant S_ .f32 0x45000000#32))) shapeCasts_S2x16x64_S2x1x1024 := by
  simp only [V3]
  generalize V2 m c = W
  after_reads_simp <;> rfl

theorem v84_at (c : Dev nD) (b : Fin 2) (e : Fin 1024) :
    @Eq EReal (V3 m c (Proc.devRef .tc main_v84) (ix3 b 0 e)) ((arrs m c).qm b (hd e) (hc e)) := by
  rw [v84_eq]
  unfold Arrays.qm arrs
  dsimp only
  rw [← c_2048]
  generalize V3 m c (Proc.devRef .tc main_v6) = Y
  pointwise

end Cert.KernelIdeal.W

end
-- ==== Proof.W.K0.lean ====
/- The second custom call of the idealized kernel, as one formula: what its output array holds after the region. -/
module

public import proofs.«01_k».proof.Proof.W.Spec
public import proofs.«01_k».proof.Proof.R.KernelIdealK0
public import Idealize.ShloMosaic.Lib.Pointwise
public import Idealize.ShloMosaic.Lib.Pipeline.ValueKit

@[expose] public section

set_option maxRecDepth 16384

noncomputable section

namespace Cert.KernelIdeal.W.K0

open Cert.KernelIdeal Cert.KernelIdeal.Gen Cert.KernelIdeal.Reg.K0
open Idealize.ShloMosaic Idealize.ShloMosaic.TcCoe Idealize.SL.Sem
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- The windows' index maps at every point. -/
theorem idx : ∀ t : Fin cfg0.N, win0_0.index t = ![(grid0.coords t 0).val, 0] ∧ win0_1.index t = ![(grid0.coords t 0).val, 0] ∧ win0_2.index t = ![0, 0]
    ∧ win0_3.index t = ![0, 0] ∧ win0_4.index t = ![0, 0] ∧ win0_5.index t = ![(grid0.coords t 0).val, 0] :=
  (by decide +kernel : ∀ t : Fin grid0.N, _)

/-- The token a row of the block of a half sum stands for. -/
abbrev row (i : Fin 256) (y : Fin 128) : Fin 4096 := ⟨i.val / 8 * 128 + y.val, by omega⟩

/-- The place of a half sum in its block. -/
abbrev place (i : Fin 256) : Fin 8 := ⟨i.val % 8, by omega⟩

/-- The half sums: each the sum over sixteen tokens of their hidden rows, from the block that holds the half sum's row. -/
def G (X : FVec Ideal S4096x1024 .f32) (W : FVec Ideal S1024x1024 .f32) (P : FVec Ideal S4096x128 .f32) (Wp : FVec Ideal S128x1024 .f32) (b : FVec Ideal S1x1024 .f32) :
    FVec Ideal S256x1024 .f32 :=
  fun i => k0_pay1 (fun y : S128x1024.Idx => X (ix2 (row (i 0) (y 0)) (y 1))) W
    (fun y : S128x128.Idx => P (ix2 (row (i 0) (y 0)) (y 1))) Wp b
    (ix2 (place (i 0)) (i 1))

/-- The half sum a block's place stands for. -/
abbrev pt (g : Fin 32) (y : Fin 8) : Fin 256 := ⟨g.val * 8 + y.val, by omega⟩

theorem in0 (c : Dev nD) (t : Fin cfg0.N) (u : Fin 8) :
    iblk V c 0 t = fun y : S128x1024.Idx => V c main_v95 (ix2 (row (pt (grid0.coords t 0) u) (y 0)) (y 1)) := by
  funext z
  blk_ext [iblk, idx t]

theorem in1 (c : Dev nD) (t : Fin cfg0.N) (u : Fin 8) :
    iblk V c 1 t = fun y : S128x128.Idx => V c main_v89 (ix2 (row (pt (grid0.coords t 0) u) (y 0)) (y 1)) := by
  funext z
  blk_ext [iblk, idx t]

theorem final (c : Dev nD) : (dat (Ix := Ix) (U := U) (Lvl := Lvl) 𝒱₀ V D c).arrAt 5 cfg0.N
    = G (V c main_v95) (V c main_v90) (V c main_v89) (V c main_v94) (V c main_v96) := by
  refine (dat (Ix := Ix) (U := U) (Lvl := Lvl) 𝒱₀ V D c).arrAt_eq_of_covers 5 _ (by decide +kernel) fun t _ y => ?_
  have ey : (win0_5.blk t).view.emb y = ix2 (pt (grid0.coords t 0) (y 0)) (y 1) := by
    blk_ext [idx t]
  blk_simp
  rw [after0_5]
  unfold outsAt0 out0_A_5 kernelRun0_A
  frame_out
  have e2 : iblk V c 2 t = V c main_v90 := by
    funext y; blk_ext [iblk, idx t]
  have e3 : iblk V c 3 t = V c main_v94 := by
    funext y; blk_ext [iblk, idx t]
  have e4 : iblk V c 4 t = V c main_v96 := by
    funext y; blk_ext [iblk, idx t]
  refine Eq.trans ?_ (congrArg (G (V c main_v95) (V c main_v90) (V c main_v89) (V c main_v94) (V c main_v96)) ey.symm)
  rw [e2, e3, e4, in0 V c t (y 0), in1 V c t (y 0)]
  refine congrArg _ ?_
  funext k
  fin_cases k
  · exact Fin.ext (by show (y 0).val = ((grid0.coords t 0).val * 8 + (y 0).val) % 8; have : (y 0).val < 8 := (y 0).isLt; omega)
  · rfl

/-- The half sums at an index. -/
theorem G_at (X : FVec Ideal S4096x1024 .f32) (W : FVec Ideal S1024x1024 .f32) (P : FVec Ideal S4096x128 .f32) (Wp : FVec Ideal S128x1024 .f32) (b : FVec Ideal S1x1024 .f32)
    (i : Fin 256) (d : Fin 1024) :
    G X W P Wp b (ix2 i d) = ∑ r : Fin 16, max ((∑ e, X (ix2 ⟨i.val * 16 + r.val, by omega⟩ e) * W (ix2 e d))
      + (∑ p, P (ix2 ⟨i.val * 16 + r.val, by omega⟩ p) * Wp (ix2 p d)) + b (ix2 0 d)) 0 := by
  unfold G
  pointwise [k0_pay1]
  refine Finset.sum_congr rfl fun r _ => ?_
  have e : row i ⟨i.val % 8 * 16 + r.val, by omega⟩ = ⟨i.val * 16 + r.val, by omega⟩ := Fin.ext (by simp only []; omega)
  rw [e]

end Cert.KernelIdeal.W.K0
-- ==== Proof.W.K1.lean ====
/- The second custom call of the idealized kernel, as one formula: what its output array holds after the region. -/
module

public import proofs.«01_k».proof.Proof.W.Spec
public import proofs.«01_k».proof.Proof.R.KernelIdealK1
public import Idealize.ShloMosaic.Lib.Pointwise
public import Idealize.ShloMosaic.Lib.Pipeline.ValueKit

@[expose] public section

set_option maxRecDepth 16384

noncomputable section

namespace Cert.KernelIdeal.W.K1

open Cert.KernelIdeal Cert.KernelIdeal.Gen Cert.KernelIdeal.Reg.K1
open Idealize.ShloMosaic Idealize.ShloMosaic.TcCoe Idealize.SL.Sem
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- The windows' index maps at every point. -/
theorem idx : ∀ t : Fin cfg1.N, win1_0.index t = ![(grid1.coords t 0).val, 0, 0] ∧ win1_1.index t = ![0, 0] ∧ win1_2.index t = ![0, 0]
    ∧ win1_3.index t = ![(grid1.coords t 0).val, 0, 0] :=
  (by decide +kernel : ∀ t : Fin grid1.N, _)

/-- The compressed block's value at an index: the mean of two neighbouring half sums, projected and shifted. -/
def G (H : FVec Ideal S2x128x1024 .f32) (W : FVec Ideal S1024x1024 .f32) (b : FVec Ideal S1x1024 .f32) : FVec Ideal S2x128x1024 .f32 :=
  fun i => k1_pay1 (fun y : S1x128x1024.Idx => H (ix3 (i 0) (y 1) (y 2))) W b (ix3 0 (i 1) (i 2))

theorem final (c : Dev nD) : (dat (Ix := Ix) (U := U) (Lvl := Lvl) 𝒱₀ V D c).arrAt 3 cfg1.N = G (V c main_v98) (V c main_arg6) (V c main_v99) := by
  refine (dat (Ix := Ix) (U := U) (Lvl := Lvl) 𝒱₀ V D c).arrAt_eq_of_covers 3 _ (by decide +kernel) fun t _ y => ?_
  blk_simp
  rw [after1_3]
  unfold outsAt1 out1_A_3 kernelRun1_A
  frame_out
  unfold G
  have e0 : iblk V c 0 t = fun y : S1x128x1024.Idx => V c main_v98 (ix3 ((grid1.coords t) 0) (y 1) (y 2)) := by
    funext y; blk_ext [iblk, idx t]
  have e1 : iblk V c 1 t = V c main_arg6 := by
    funext y; blk_ext [iblk, idx t]
  have e2 : iblk V c 2 t = V c main_v99 := by
    funext y; blk_ext [iblk, idx t]
  rw [e0, e1, e2]
  congr 1
  · funext z
    blk_ext [iblk, idx t]
  · blk_ext [iblk, idx t]

/-- The block's value as a sum over the hidden axis. -/
theorem G_at (H : FVec Ideal S2x128x1024 .f32) (W : FVec Ideal S1024x1024 .f32) (b : FVec Ideal S1x1024 .f32) (i : Fin 2) (n : Fin 128) (d : Fin 1024) :
   G H W b (ix3 i n d) = (∑ x, (H (ix3 i n x) + H (ix3 i ⟨(n.val + 1) % 128, Nat.mod_lt _ (by decide)⟩ x)) * ((1 / 32 : ℝ) : EReal) * W (ix2 x d)) + b (ix2 0 d) := by
  pointwise [G, k1_pay1]
  rw [NsaMath.c_32th]
  refine congrArg₂ (· + ·) (Finset.sum_congr rfl fun x _ => ?_) rfl
  refine congrArg₂ (· * ·) (congrArg₂ (· * ·) (congrArg₂ (· + ·) rfl ?_) rfl) rfl
  split
  · exact congrArg H (congrArg (fun z => ix3 i z x) (Fin.ext (by simp only []; omega)))
  · exact congrArg H (congrArg (fun z => ix3 i z x) (Fin.ext (by simp only []; omega)))

end Cert.KernelIdeal.W.K1
-- ==== Proof.W.K2.lean ====
/- The second custom call of the idealized kernel, as one formula: what its output array holds after the region. -/
module

public import proofs.«01_k».proof.Proof.W.Spec
public import proofs.«01_k».proof.Proof.R.KernelIdealK2
public import Idealize.ShloMosaic.Lib.Pointwise
public import Idealize.ShloMosaic.Lib.Pipeline.ValueKit

@[expose] public section

set_option maxRecDepth 16384

noncomputable section

namespace Cert.KernelIdeal.W.K2

open Cert.KernelIdeal Cert.KernelIdeal.Gen Cert.KernelIdeal.Reg.K2
open Idealize.ShloMosaic Idealize.ShloMosaic.TcCoe Idealize.SL.Sem
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- The windows' index maps at every point. -/
theorem idx : ∀ t : Fin cfg2.N, win2_0.index t = ![0, 0] ∧ win2_1.index t = ![(grid2.coords t 0).val, 0, 0] ∧ win2_2.index t = ![(grid2.coords t 0).val, 0, 0]
    ∧ win2_3.index t = ![(grid2.coords t 0).val, 0, 0] ∧ win2_4.index t = ![(grid2.coords t 0).val, 0, 0] :=
  (by decide +kernel : ∀ t : Fin grid2.N, _)

/-- The rows of the chosen blocks, one block of 64 after the other. -/
def G (T : IVec S2x16 32) (X : FVec Ideal S2x2048x1024 .f32) : FVec Ideal S2x1024x1024 .f32 :=
  fun i => X (ix3 (i 0) (NsaMath.selRow (T (ix2 (i 0) ⟨(i 1).val / 64, by have : (i 1).val < 1024 := (i 1).isLt; omega⟩)) ⟨(i 1).val % 64, by omega⟩) (i 2))

/-- The start of every word in range. -/
theorem word_start : ∀ n : Fin 2048, start (BitVec.ofNat 32 n.val) = if n.val < 32 then n.val * 64 else 1984 := by
  unfold start; decide +kernel

/-- The body's test of a word against the number of blocks. -/
theorem word_ge : ∀ n : Fin 2048, Scalar.cmpi .sge (BitVec.ofNat 32 n.val) 32#32 = if n.val < 32 then 0#1 else 1#1 := by
  decide +kernel

/-- One stored piece, at an index: the chosen block's row, the last row for a block past the end. -/
theorem piece (v : BitVec 32) (hv : v.toNat < 2048) (X : FVec Ideal S1x2048x1024 .f32) (B : FVec Ideal S1x64x1024 .f32)
    (hB : ∀ z, B z = X (ix3 0 ⟨start v + (z 1).val, lt_of_lt_of_le (Nat.add_lt_add_left (z 1).isLt _) (start_le v hv)⟩ (z 2))) (x : S1x64x1024.Idx) :
    k2_pay1 v B x = X (ix3 0 (NsaMath.selRow v (x 1)) (x 2)) := by
  have ev : BitVec.ofNat 32 (⟨v.toNat, hv⟩ : Fin 2048).val = v := by simp
  have e1 := word_start ⟨v.toNat, hv⟩
  have e2 := word_ge ⟨v.toNat, hv⟩
  rw [ev] at e1 e2
  unfold k2_pay1
  rw [e2]
  by_cases h : v.toNat < 32
  · simp only [if_pos h] at e1 ⊢
    have e : (Scalar.select 0#1 (broadcastTo S64x1024 (shapeCast S1x1024 (extractStridedSlice S1x1024 ![63, 0] (shapeCast S64x1024 B shapeCasts_S1x64x1024_S64x1024) slices_S64x1024_o63_0_S1x1024) shapeCasts_S1x1024_S1x1024) broadcasts_S1x1024_S64x1024) (shapeCast S64x1024 B shapeCasts_S1x64x1024_S64x1024) : FVec Ideal S64x1024 .f32) = shapeCast S64x1024 B shapeCasts_S1x64x1024_S64x1024 := rfl
    rw [e]
    pointwise
    rw [hB]
    refine congrArg X (congrArg (fun r => ix3 0 r (x 2)) (Fin.ext ?_))
    show start v + (x 1).val = min (v.toNat * 64 + (x 1).val) 2047
    have : (x 1).val < 64 := (x 1).isLt
    rw [e1]; omega
  · simp only [if_neg h] at e1 ⊢
    have e : (Scalar.select 1#1 (broadcastTo S64x1024 (shapeCast S1x1024 (extractStridedSlice S1x1024 ![63, 0] (shapeCast S64x1024 B shapeCasts_S1x64x1024_S64x1024) slices_S64x1024_o63_0_S1x1024) shapeCasts_S1x1024_S1x1024) broadcasts_S1x1024_S64x1024) (shapeCast S64x1024 B shapeCasts_S1x64x1024_S64x1024) : FVec Ideal S64x1024 .f32) = (broadcastTo S64x1024 (shapeCast S1x1024 (extractStridedSlice S1x1024 ![63, 0] (shapeCast S64x1024 B shapeCasts_S1x64x1024_S64x1024) slices_S64x1024_o63_0_S1x1024) shapeCasts_S1x1024_S1x1024) broadcasts_S1x1024_S64x1024) := rfl
    rw [e]
    pointwise
    rw [hB]
    refine congrArg X (congrArg (fun r => ix3 0 r (x 2)) (Fin.ext ?_))
    show start v + 63 = min (v.toNat * 64 + (x 1).val) 2047
    have : (x 1).val < 64 := (x 1).isLt
    rw [e1]; omega

/-- One stored piece, as rows of the whole array. -/
theorem at_piece (c : Dev nD) (t : Fin cfg2.N) (T : IVec S2x16 32) (X : FVec Ideal S2x2048x1024 .f32) (hT : ∀ i, (T i).toNat < 2048) (v : BitVec 32) (B : FVec Ideal S1x64x1024 .f32)
    (y : S1x1024x1024.Idx) (x : S1x64x1024.Idx) (k : Fin 16) (h1 : (y 1).val = 64 * k.val + (x 1).val) (h2 : (y 2).val = (x 2).val)
    (hv : v = T (ix2 (grid2.coords t 0) k))
    (hB : ∀ z, B z = X (ix3 (grid2.coords t 0) ⟨start v + (z 1).val, lt_of_lt_of_le (Nat.add_lt_add_left (z 1).isLt _) (start_le v (by rw [hv]; exact hT _))⟩ (z 2))) :
    k2_pay1 v B x = G T X (ix3 (grid2.coords t 0) (y 1) (y 2)) := by
  rw [piece v (by rw [hv]; exact hT _) (fun z => X (ix3 (grid2.coords t 0) (z 1) (z 2))) B hB x]
  subst hv
  have hx1 : (x 1).val < 64 := (x 1).isLt
  have e1 : (⟨(y 1).val / 64, by have : (y 1).val < 1024 := (y 1).isLt; omega⟩ : Fin 16) = k := Fin.ext (by simp only []; omega)
  have e2 : (⟨(y 1).val % 64, by omega⟩ : Fin 64) = x 1 := Fin.ext (by simp only []; omega)
  have e3 : y 2 = x 2 := Fin.ext h2
  show X (ix3 (grid2.coords t 0) _ _) = X (ix3 (grid2.coords t 0) (NsaMath.selRow (T (ix2 (grid2.coords t 0) ⟨(y 1).val / 64, _⟩)) ⟨(y 1).val % 64, _⟩) (y 2))
  rw [e1, e2, e3]
  rfl

theorem off_word : ∀ g : Fin 2, BitVec.toNat (Scalar.indexCast (BitVec.ofNat 32 g.val)) = g.val := by decide

theorem pair_snd (a b : ℕ) : (![a, b] : Fin 2 → ℕ) 1 = b := rfl

/-- A row of the block of 64 rows loaded from a word's start. -/
theorem rows (Y : FVec Ideal S1x2048x1024 .f32) (f : BitVec 32 → Fin 3 → ℕ) (u : BitVec 32) (inb) (hf : ∀ u, f u = ![0, start u, 0]) (v : BitVec 32) (e : u = v)
    (z : S1x64x1024.Idx) (h : start v + (z 1).val < 2048) :
    View.ld (Val := Elt Ideal) (e' := .f32) Y (Rect.unit (f u) ![1, 64, 1024] inb) z = Y (ix3 0 ⟨start v + (z 1).val, h⟩ (z 2)) := by
  subst e
  refine View.ld_unit_apply_of _ _ _ _ _ _ fun a => ?_
  refine Eq.trans ?_ (congrArg (fun o : Fin 3 → ℕ => o a + (z a).val) (hf u)).symm
  match a with
  | ⟨0, _⟩ => have h : (z 0).val < 1 := (z 0).isLt; show 0 = 0 + (z 0).val; omega
  | ⟨1, _⟩ => rfl
  | ⟨2, _⟩ => show (z 2).val = 0 + (z 2).val; omega

/-- A word loaded from the table. -/
theorem word (T : IVec S2x16 32) (f : Fin 2 → ℕ) (inb) (i : Fin 2) (k : Fin 16) (h0 : f 0 = i.val) (h1 : f 1 = k.val) (x : (Rect.unit f ![1, 1] inb : Rect S2x16).shape.Idx) :
    View.ld (Val := Elt Ideal) (e' := .i32) T (Rect.unit f ![1, 1] inb) x = T (ix2 i k) := by
  refine View.ld_unit_apply_of _ _ _ _ _ _ fun a => ?_
  match a with
  | ⟨0, _⟩ => have h : (x 0).val < 1 := (x 0).isLt; show i.val = f 0 + (x 0).val; omega
  | ⟨1, _⟩ => have h : (x 1).val < 1 := (x 1).isLt; show k.val = f 1 + (x 1).val; omega

set_option maxHeartbeats 2000000 in
/-- The rows a grid point leaves in the first output. -/
theorem point3 (c : Dev nD) (t : Fin cfg2.N) (hx : InRange (F := Ideal) (iblk V c 0 t)) (y : S1x1024x1024.Idx) :
    outsAt2_3 (Ix := Ix) (U := U) (Lvl := Lvl) 𝒱₀ V c t y = G (V c main_indices) (V c main_v75) (ix3 (grid2.coords t 0) (y 1) (y 2)) := by
  have eT : iblk V c 0 t = V c main_indices := by
    funext y; blk_ext [iblk, idx t]
  have eX : ∀ i, iblk V c 1 t i = V c main_v75 (ix3 (grid2.coords t 0) (i 1) (i 2)) := by
    intro i; blk_ext [iblk, idx t]
  have hT : ∀ i, (V c main_indices i : BitVec 32).toNat < 2048 := by
    rw [← eT]; exact hx
  have eR := (hs2_0 t).read_unread (Val := Elt Ideal) (iblk V c 0 t)
  have hk : (y 1).val / 64 < 16 := by have : (y 1).val < 1024 := (y 1).isLt; omega
  rw [outsAt2_3_eq _ _ c t hx]
  unfold out2_A_3 kernelRun2_A
  frame_out
  generalize iblk V c 0 t = T0 at *
  generalize iblk V c 1 t = X1 at *
  subst eT
  generalize V c main_indices = T at *
  generalize V c main_v75 = X at *
  canon_tiles x h
  all_goals
    refine at_piece c t T X hT _ _ y x ⟨(y 1).val / 64, hk⟩ (by simp only []; omega) h2 ?_ ?_
    · refine word _ _ _ _ _ (off_word _) ?_ _
      simp only [k2_off1, k2_off3, k2_off5, k2_off7, k2_off9, k2_off11, k2_off13, k2_off15, k2_off17, k2_off19, k2_off21, k2_off23, k2_off25, k2_off27, k2_off29, k2_off31]
      rw [pair_snd]
      omega
    · intro z
      refine (rows X1 _ _ _ (fun u => rfl) _ ?_ z _).trans (eX _)
      exact congrArg (fun X : S2x16.Idx → BitVec 32 => View.ld (Val := Elt Ideal) (e' := .i32) X _ _) eR

set_option maxHeartbeats 2000000 in
/-- The rows a grid point leaves in the second output. -/
theorem point4 (c : Dev nD) (t : Fin cfg2.N) (hx : InRange (F := Ideal) (iblk V c 0 t)) (y : S1x1024x1024.Idx) :
    outsAt2_4 (Ix := Ix) (U := U) (Lvl := Lvl) 𝒱₀ V c t y = G (V c main_indices) (V c main_v76) (ix3 (grid2.coords t 0) (y 1) (y 2)) := by
  have eT : iblk V c 0 t = V c main_indices := by
    funext y; blk_ext [iblk, idx t]
  have eX : ∀ i, iblk V c 2 t i = V c main_v76 (ix3 (grid2.coords t 0) (i 1) (i 2)) := by
    intro i; blk_ext [iblk, idx t]
  have hT : ∀ i, (V c main_indices i : BitVec 32).toNat < 2048 := by
    rw [← eT]; exact hx
  have eR := (hs2_0 t).read_unread (Val := Elt Ideal) (iblk V c 0 t)
  have hk : (y 1).val / 64 < 16 := by have : (y 1).val < 1024 := (y 1).isLt; omega
  rw [outsAt2_4_eq _ _ c t hx]
  unfold out2_A_4 kernelRun2_A
  frame_out
  generalize iblk V c 0 t = T0 at *
  generalize iblk V c 2 t = X1 at *
  subst eT
  generalize V c main_indices = T at *
  generalize V c main_v76 = X at *
  canon_tiles x h
  all_goals
    refine at_piece c t T X hT _ _ y x ⟨(y 1).val / 64, hk⟩ (by simp only []; omega) h2 ?_ ?_
    · refine word _ _ _ _ _ (off_word _) ?_ _
      simp only [k2_off1, k2_off3, k2_off5, k2_off7, k2_off9, k2_off11, k2_off13, k2_off15, k2_off17, k2_off19, k2_off21, k2_off23, k2_off25, k2_off27, k2_off29, k2_off31]
      rw [pair_snd]
      omega
    · intro z
      refine (rows X1 _ _ _ (fun u => rfl) _ ?_ z _).trans (eX _)
      exact congrArg (fun X : S2x16.Idx → BitVec 32 => View.ld (Val := Elt Ideal) (e' := .i32) X _ _) eR

/-- The first output array after the region. -/
theorem final3 (c : Dev nD) (hT : ∀ i, (V c main_indices i : BitVec 32).toNat < 2048) :
    (dat (Ix := Ix) (U := U) (Lvl := Lvl) 𝒱₀ V D c).arrAt 3 cfg2.N = G (V c main_indices) (V c main_v75) := by
  refine (dat (Ix := Ix) (U := U) (Lvl := Lvl) 𝒱₀ V D c).arrAt_eq_of_covers 3 _ (by decide +kernel) fun t _ y => ?_
  have eT : iblk V c 0 t = V c main_indices := by
    funext y; blk_ext [iblk, idx t]
  have ey : (win2_3.blk t).view.emb y = ix3 (grid2.coords t 0) (y 1) (y 2) := by
    blk_ext [idx t]
  blk_simp
  rw [after2_3]
  refine Eq.trans ?_ (congrArg (G (V c main_indices) (V c main_v75)) ey.symm)
  exact point3 𝒱₀ V c t (by rw [eT]; exact hT) y

/-- The second output array after the region. -/
theorem final4 (c : Dev nD) (hT : ∀ i, (V c main_indices i : BitVec 32).toNat < 2048) :
    (dat (Ix := Ix) (U := U) (Lvl := Lvl) 𝒱₀ V D c).arrAt 4 cfg2.N = G (V c main_indices) (V c main_v76) := by
  refine (dat (Ix := Ix) (U := U) (Lvl := Lvl) 𝒱₀ V D c).arrAt_eq_of_covers 4 _ (by decide +kernel) fun t _ y => ?_
  have eT : iblk V c 0 t = V c main_indices := by
    funext y; blk_ext [iblk, idx t]
  have ey : (win2_4.blk t).view.emb y = ix3 (grid2.coords t 0) (y 1) (y 2) := by
    blk_ext [idx t]
  blk_simp
  rw [after2_4]
  refine Eq.trans ?_ (congrArg (G (V c main_indices) (V c main_v76)) ey.symm)
  exact point4 𝒱₀ V c t (by rw [eT]; exact hT) y

end Cert.KernelIdeal.W.K2
-- ==== Proof.W.Heads.lean ====
/- The three attentions of the last custom call's body, head by head: one function for all 16 heads of each, its value at an
   index, and the heads side by side. -/
module

public import proofs.«01_k».proof.Proof.W.Spec
public import proofs.«01_k».proof.Proof.R.KernelIdealK3
public import Idealize.ShloMosaic.Lib.Pointwise
public import Idealize.ShloMosaic.Lib.Pipeline.ValueKit

@[expose] public section

set_option maxRecDepth 16384

noncomputable section

namespace Cert.KernelIdeal.W.K3

open Cert.KernelIdeal Cert.KernelIdeal.Gen
open Idealize.ShloMosaic Idealize.ShloMosaic.TcCoe Idealize.SL.Sem
open scoped BigOperators

/-- The channel `d` of head `h`. -/
abbrev ch (h : Fin 16) (d : Fin 64) : Fin 1024 := ⟨64 * h.val + d.val, by omega⟩

/-- Every head's 64 channels lie among the 1024, at any number of rows. -/
theorem cut (n : ℕ) (h : Fin 16) : (⟨2, ![n, 1024]⟩ : Shape).Slices ![0, 64 * h.val] ⟨2, ![n, 64]⟩ := by
  refine ⟨rfl, fun a => ?_⟩
  match a with
  | ⟨0, _⟩ => show 0 + n ≤ n; omega
  | ⟨1, _⟩ => show 64 * h.val + 64 ≤ 1024; omega

/-- A head's channels. -/
def part (n : ℕ) (h : Fin 16) (X : FVec Ideal ⟨2, ![n, 1024]⟩ .f32) : FVec Ideal ⟨2, ![n, 64]⟩ .f32 :=
  extractStridedSlice ⟨2, ![n, 64]⟩ ![0, 64 * h.val] X (cut n h)

theorem part_at (n : ℕ) (h : Fin 16) (X : FVec Ideal ⟨2, ![n, 1024]⟩ .f32) (r : Fin n) (d : Fin 64) : part n h X (ix2 r d) = X (ix2 r (ch h d)) := by
  refine extractStridedSlice_apply _ _ _ _ _ fun a => ?_
  match a with
  | ⟨0, _⟩ => exact (Nat.zero_add _).symm
  | ⟨1, _⟩ => rfl

/-- One head's attention to the chosen rows. -/
def selHead (Q : FVec Ideal S256x1024 .f32) (K V : FVec Ideal S1024x1024 .f32) (h : Fin 16) : FVec Ideal S256x64 .f32 :=
  have e : FVec Ideal S256x1024 .f32 := exp (matmul dot_S256x64_S1024x64_S256x1024_1_1_0_0_n_n none (part 256 h Q) (part 1024 h K) (constant S256x1024 .f32 0x00000000#32))
  divf (matmul dot_S256x1024_S1024x64_S256x64_1_0_0_1_n_n none e (part 1024 h V) (constant S256x64 .f32 0x00000000#32))
    (broadcastTo S256x64 (shapeCast S256x1 (multiReduction .add [1] S256 e 0x00000000#32 reduces_S256x1024_S256 (.inl rfl) rfl) shapeCasts_S256_S256x1) broadcasts_S256x1_S256x64)

/-- One head's attention to the last 512 rows. -/
def winHead (Q : FVec Ideal S256x1024 .f32) (K V : FVec Ideal S512x1024 .f32) (h : Fin 16) : FVec Ideal S256x64 .f32 :=
  have e : FVec Ideal S256x512 .f32 := exp (matmul dot_S256x64_S512x64_S256x512_1_1_0_0_n_n none (part 256 h Q) (part 512 h K) (constant S256x512 .f32 0x00000000#32))
  divf (matmul dot_S256x512_S512x64_S256x64_1_0_0_1_n_n none e (part 512 h V) (constant S256x64 .f32 0x00000000#32))
    (broadcastTo S256x64 (shapeCast S256x1 (multiReduction .add [1] S256 e 0x00000000#32 reduces_S256x512_S256 (.inl rfl) rfl) shapeCasts_S256_S256x1) broadcasts_S256x1_S256x64)

/-- One head's attention of the mean query to the compressed rows the mask keeps. -/
def cmpHead (Q : FVec Ideal S1x1024 .f32) (K V : FVec Ideal S128x1024 .f32) (m : IVec S1x128 1) (h : Fin 16) : FVec Ideal S1x64 .f32 :=
  have e : FVec Ideal S1x128 .f32 := select m (exp (matmul dot_S1x64_S128x64_S1x128_1_1_0_0_n_n none (part 1 h Q) (part 128 h K) (constant S1x128 .f32 0x00000000#32)))
    (broadcast S1x128 (Scalar.ofBits .f32 0x00000000#32))
  divf (matmul dot_S1x128_S128x64_S1x64_1_0_0_1_n_n none e (part 128 h V) (constant S1x64 .f32 0x00000000#32))
    (broadcastTo S1x64 (shapeCast S1x1 (multiReduction .add [1] S1 e 0x00000000#32 reduces_S1x128_S1 (.inl rfl) rfl) shapeCasts_S1_S1x1) broadcasts_S1x1_S1x64)

theorem selHead_at (Q : FVec Ideal S256x1024 .f32) (K V : FVec Ideal S1024x1024 .f32) (h : Fin 16) (s : Fin 256) (d : Fin 64) :
    selHead Q K V h (ix2 s d) = Ideal.div (∑ j, Ideal.exp (∑ e, Q (ix2 s (ch h e)) * K (ix2 j (ch h e))) * V (ix2 j (ch h d)))
      (∑ j, Ideal.exp (∑ e, Q (ix2 s (ch h e)) * K (ix2 j (ch h e)))) := by
  unfold selHead
  pointwise
  simp only [part_at]

theorem winHead_at (Q : FVec Ideal S256x1024 .f32) (K V : FVec Ideal S512x1024 .f32) (h : Fin 16) (s : Fin 256) (d : Fin 64) :
    winHead Q K V h (ix2 s d) = Ideal.div (∑ j, Ideal.exp (∑ e, Q (ix2 s (ch h e)) * K (ix2 j (ch h e))) * V (ix2 j (ch h d)))
      (∑ j, Ideal.exp (∑ e, Q (ix2 s (ch h e)) * K (ix2 j (ch h e)))) := by
  unfold winHead
  pointwise
  simp only [part_at]

/-- The mask keeps the first 127 places. -/
theorem mask_at : ∀ x : Fin 128, IntOp.cmpi .slt (BitVec.ofNat 32 x.val) 127#32 = if x.val < 127 then 1#1 else 0#1 := by decide

/-- A masked sum over 128 is the sum over the 127 kept. -/
theorem sum_mask (f : Fin 128 → EReal) :
    (∑ x : Fin 128, Scalar.select (IntOp.cmpi .slt (BitVec.ofNat 32 x.val) 127#32) (f x) 0) = ∑ j : Fin 127, f ⟨j, by omega⟩ := by
  rw [NsaMath.sum_127]
  · refine Finset.sum_congr rfl fun j _ => ?_
    rw [mask_at, if_pos j.isLt]; rfl
  · rw [mask_at]; rfl

theorem cmpHead_at (Q : FVec Ideal S1x1024 .f32) (K V : FVec Ideal S128x1024 .f32) (h : Fin 16) (d : Fin 64) :
    cmpHead Q K V k3_pay10 h (ix2 0 d) = Ideal.div (∑ j : Fin 127, Ideal.exp (∑ e, Q (ix2 0 (ch h e)) * K (ix2 ⟨j, by omega⟩ (ch h e))) * V (ix2 ⟨j, by omega⟩ (ch h d)))
      (∑ j : Fin 127, Ideal.exp (∑ e, Q (ix2 0 (ch h e)) * K (ix2 ⟨j, by omega⟩ (ch h e)))) := by
  unfold cmpHead
  pointwise [k3_pay10]
  simp only [part_at]
  rw [sum_mask, sum_mask]

/-- Heads of 64 channels side by side, read at a channel. -/
theorem side (n : ℕ) (f : Fin 16 → FVec Ideal ⟨2, ![n, 64]⟩ .f32) (hc) (s : Fin n) (c : Fin 1024) :
    concatenate ⟨2, ![n, 1024]⟩ 1 (List.ofFn fun h : Fin 16 => (⟨⟨2, ![n, 64]⟩, f h⟩ : (s : Shape) × (s.Idx → Ideal .f32))) hc (ix2 s c)
      = f (NsaMath.hd c) (ix2 s (NsaMath.hc c)) := by
  refine concatenate_ofFn_apply _ f hc rfl 64 rfl _ _ rfl _ rfl fun b hb => ?_
  match b with
  | ⟨0, _⟩ => rfl
  | ⟨1, _⟩ => exact absurd rfl hb

/-- The three attentions, all heads. -/
def selAll (Q : FVec Ideal S256x1024 .f32) (K V : FVec Ideal S1024x1024 .f32) : FVec Ideal S256x1024 .f32 :=
  concatenate S256x1024 1 (List.ofFn fun h : Fin 16 => (⟨S256x64, selHead Q K V h⟩ : (s : Shape) × (s.Idx → Ideal .f32))) concatenates_S256x64_S256x64_S256x64_S256x64_S256x64_S256x64_S256x64_S256x64_S256x64_S256x64_S256x64_S256x64_S256x64_S256x64_S256x64_S256x64_S256x1024_d1
def winAll (Q : FVec Ideal S256x1024 .f32) (K V : FVec Ideal S512x1024 .f32) : FVec Ideal S256x1024 .f32 :=
  concatenate S256x1024 1 (List.ofFn fun h : Fin 16 => (⟨S256x64, winHead Q K V h⟩ : (s : Shape) × (s.Idx → Ideal .f32))) concatenates_S256x64_S256x64_S256x64_S256x64_S256x64_S256x64_S256x64_S256x64_S256x64_S256x64_S256x64_S256x64_S256x64_S256x64_S256x64_S256x64_S256x1024_d1
def cmpAll (Q : FVec Ideal S1x1024 .f32) (K V : FVec Ideal S128x1024 .f32) (m : IVec S1x128 1) : FVec Ideal S1x1024 .f32 :=
  concatenate S1x1024 1 (List.ofFn fun h : Fin 16 => (⟨S1x64, cmpHead Q K V m h⟩ : (s : Shape) × (s.Idx → Ideal .f32))) concatenates_S1x64_S1x64_S1x64_S1x64_S1x64_S1x64_S1x64_S1x64_S1x64_S1x64_S1x64_S1x64_S1x64_S1x64_S1x64_S1x64_S1x1024_d1

theorem selAll_at (Q : FVec Ideal S256x1024 .f32) (K V : FVec Ideal S1024x1024 .f32) (s : Fin 256) (c : Fin 1024) :
    selAll Q K V (ix2 s c) = selHead Q K V (NsaMath.hd c) (ix2 s (NsaMath.hc c)) := side 256 _ _ s c
theorem winAll_at (Q : FVec Ideal S256x1024 .f32) (K V : FVec Ideal S512x1024 .f32) (s : Fin 256) (c : Fin 1024) :
    winAll Q K V (ix2 s c) = winHead Q K V (NsaMath.hd c) (ix2 s (NsaMath.hc c)) := side 256 _ _ s c
theorem cmpAll_at (Q : FVec Ideal S1x1024 .f32) (K V : FVec Ideal S128x1024 .f32) (m : IVec S1x128 1) (c : Fin 1024) :
    cmpAll Q K V m (ix2 0 c) = cmpHead Q K V m (NsaMath.hd c) (ix2 0 (NsaMath.hc c)) := side 1 _ _ 0 c

/-- A gate's logits at every row, from the branches and its weights. -/
def logits (TS TW : FVec Ideal S256x1024 .f32) (TC w0 w1 w2 : FVec Ideal S1x1024 .f32) (b : Ideal .f32) : FVec Ideal S256x1 .f32 :=
  addf (addf (addf (broadcastTo S256x1 (shapeCast S1x1 (multiReduction .add [1] S1 (mulf TC (shapeCast S1x1024 w0 shapeCasts_S1x1024_S1x1024)) 0x00000000#32 reduces_S1x1024_S1 (.inl rfl) rfl) shapeCasts_S1_S1x1) broadcasts_S1x1_S256x1)
    (shapeCast S256x1 (multiReduction .add [1] S256 (mulf TS (broadcastTo S256x1024 (shapeCast S1x1024 w1 shapeCasts_S1x1024_S1x1024) broadcasts_S1x1024_S256x1024)) 0x00000000#32 reduces_S256x1024_S256 (.inl rfl) rfl) shapeCasts_S256_S256x1))
    (shapeCast S256x1 (multiReduction .add [1] S256 (mulf TW (broadcastTo S256x1024 (shapeCast S1x1024 w2 shapeCasts_S1x1024_S1x1024) broadcasts_S1x1024_S256x1024)) 0x00000000#32 reduces_S256x1024_S256 (.inl rfl) rfl) shapeCasts_S256_S256x1))
    (broadcast S256x1 b)

theorem logits_at (TS TW : FVec Ideal S256x1024 .f32) (TC w0 w1 w2 : FVec Ideal S1x1024 .f32) (b : Ideal .f32) (s : Fin 256) :
    logits TS TW TC w0 w1 w2 b (ix2 s 0) = (∑ x, TC (ix2 0 x) * w0 (ix2 0 x)) + (∑ x, TS (ix2 s x) * w1 (ix2 0 x)) + (∑ x, TW (ix2 s x) * w2 (ix2 0 x)) + b := by
  unfold logits
  pointwise

/-- The gated sum of the branches from the three logits. -/
def mix (tc ts tw : EReal) (l : Fin 3 → EReal) : EReal :=
  let m : EReal := max (max (l 0) (l 1)) (l 2)
  let e (j : Fin 3) : EReal := Ideal.exp (l j - m)
  let den : EReal := e 0 + e 1 + e 2
  Ideal.div (e 0) den * tc + Ideal.div (e 1) den * ts + Ideal.div (e 2) den * tw

/-- The stored block from the branches and the logits. -/
def gated (TS TW : FVec Ideal S256x1024 .f32) (TC : FVec Ideal S1x1024 .f32) (l0 l1 l2 : FVec Ideal S256x1 .f32) : FVec Ideal S1x256x1024 .f32 :=
  have m : FVec Ideal S256x1 .f32 := maximumf (maximumf l0 l1) l2
  have e0 : FVec Ideal S256x1 .f32 := exp (subf l0 m)
  have e1 : FVec Ideal S256x1 .f32 := exp (subf l1 m)
  have e2 : FVec Ideal S256x1 .f32 := exp (subf l2 m)
  have den : FVec Ideal S256x1 .f32 := addf (addf e0 e1) e2
  k3_pay1 TW e2 den
    (mulf (broadcastTo S256x1024 (divf e0 den) broadcasts_S256x1_S256x1024) (broadcastTo S256x1024 TC broadcasts_S1x1024_S256x1024))
    (mulf (broadcastTo S256x1024 (divf e1 den) broadcasts_S256x1_S256x1024) TS)

theorem gated_at (TS TW : FVec Ideal S256x1024 .f32) (TC : FVec Ideal S1x1024 .f32) (l0 l1 l2 : FVec Ideal S256x1 .f32) (s : Fin 256) (c : Fin 1024) :
    gated TS TW TC l0 l1 l2 (ix3 0 s c) = mix (TC (ix2 0 c)) (TS (ix2 s c)) (TW (ix2 s c)) ![l0 (ix2 s 0), l1 (ix2 s 0), l2 (ix2 s 0)] := by
  unfold gated mix
  pointwise [k3_pay1]

end Cert.KernelIdeal.W.K3
-- ==== Proof.W.K3.lean ====
/- The last custom call of the idealized kernel, as one formula: what its output array holds after the region. -/
module

public import proofs.«01_k».proof.Proof.W.Heads

@[expose] public section

set_option maxRecDepth 16384

noncomputable section

namespace Cert.KernelIdeal.W.K3

open Cert.KernelIdeal Cert.KernelIdeal.Gen Cert.KernelIdeal.Reg.K3
open Idealize.ShloMosaic Idealize.ShloMosaic.TcCoe Idealize.SL.Sem
open Idealize.SL Idealize.SL.RA
open scoped BigOperators

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- The windows' index maps at every point. -/
theorem idx : ∀ t : Fin cfg3.N, win3_0.index t = ![(grid3.coords t 0).val, (grid3.coords t 1).val, 0] ∧ win3_1.index t = ![(grid3.coords t 0).val, 0, 0] ∧ win3_2.index t = ![(grid3.coords t 0).val, 0, 0]
    ∧ win3_3.index t = ![(grid3.coords t 0).val, 3, 0] ∧ win3_4.index t = ![(grid3.coords t 0).val, 3, 0] ∧ win3_5.index t = ![(grid3.coords t 0).val, 0, 0] ∧ win3_6.index t = ![(grid3.coords t 0).val, 0, 0]
    ∧ win3_7.index t = ![(grid3.coords t 0).val, 0, 0] ∧ win3_8.index t = ![0, 0] ∧ win3_9.index t = ![0, 0] ∧ win3_10.index t = ![0, 0] ∧ win3_11.index t = ![0]
    ∧ win3_12.index t = ![(grid3.coords t 0).val, (grid3.coords t 1).val, 0] :=
  (by decide +kernel : ∀ t : Fin grid3.N, _)

theorem row_fits (j : Fin 3) : ∀ a, (![j.val, 0] : Fin 2 → ℕ) a + S1x1024.size a ≤ S8x1024.size a := by
  intro a
  match a with
  | ⟨0, _⟩ => show j.val + 1 ≤ 8; omega
  | ⟨1, _⟩ => show 0 + 1024 ≤ 1024; omega

/-- A row of a gate's weights. -/
def wrow (X : FVec Ideal S8x1024 .f32) (j : Fin 3) : FVec Ideal S1x1024 .f32 :=
  View.ld (Val := Elt Ideal) (e' := .f32) X (Rect.unit ![j.val, 0] S1x1024.size (row_fits j))

theorem wrow_at (X : FVec Ideal S8x1024 .f32) (j : Fin 3) (x : Fin 1024) : wrow X j (ix2 0 x) = X (ix2 ⟨j.val, by omega⟩ x) := by
  unfold wrow
  refine View.ld_unit_apply_of _ _ _ _ _ _ fun a => ?_
  match a with
  | ⟨0, _⟩ => rfl
  | ⟨1, _⟩ => exact (Nat.zero_add _).symm

theorem bias_fits (j : Fin 3) : ∀ a, (![j.val] : Fin 1 → ℕ) a + S1.size a ≤ S3.size a := by
  intro a
  match a with
  | ⟨0, _⟩ => show j.val + 1 ≤ 3; omega

/-- A gate's shift. -/
def bias (X : FVec Ideal S3 .f32) (j : Fin 3) : Ideal .f32 :=
  View.ld (Val := Elt Ideal) (e' := .f32) X (Rect.unit ![j.val] S1.size (bias_fits j)) (ix1 0)

theorem bias_eq (X : FVec Ideal S3 .f32) (j : Fin 3) : bias X j = X (ix1 j) := by
  unfold bias
  refine View.ld_unit_apply_of _ _ _ _ _ _ fun a => ?_
  match a with
  | ⟨0, _⟩ => rfl

theorem ld_row (X : FVec Ideal S8x1024 .f32) :
    (∀ inb, View.ld (Val := Elt Ideal) (e' := .f32) X (Rect.unit ![0, 0] ![1, 1024] inb) = wrow X 0)
    ∧ (∀ inb, View.ld (Val := Elt Ideal) (e' := .f32) X (Rect.unit ![1, 0] ![1, 1024] inb) = wrow X 1)
    ∧ (∀ inb, View.ld (Val := Elt Ideal) (e' := .f32) X (Rect.unit ![2, 0] ![1, 1024] inb) = wrow X 2) := ⟨fun _ => rfl, fun _ => rfl, fun _ => rfl⟩

theorem ld_bias (X : FVec Ideal S3 .f32) :
    (∀ inb (x : (Rect.unit ![0] ![1] inb : Rect S3).shape.Idx), View.ld (Val := Elt Ideal) (e' := .f32) X (Rect.unit ![0] ![1] inb) x = bias X 0)
    ∧ (∀ inb (x : (Rect.unit ![1] ![1] inb : Rect S3).shape.Idx), View.ld (Val := Elt Ideal) (e' := .f32) X (Rect.unit ![1] ![1] inb) x = bias X 1)
    ∧ (∀ inb (x : (Rect.unit ![2] ![1] inb : Rect S3).shape.Idx), View.ld (Val := Elt Ideal) (e' := .f32) X (Rect.unit ![2] ![1] inb) x = bias X 2) := by
  simp only [bias_eq]
  refine ⟨fun inb x => ?_, fun inb x => ?_, fun inb x => ?_⟩ <;>
  · refine View.ld_unit_apply_of _ _ _ _ _ _ fun a => ?_
    match a with
    | ⟨0, _⟩ => have h : (x 0).val < 1 := (x 0).isLt; exact (Nat.add_eq_left.2 (Nat.lt_one_iff.1 h)).symm

/-- The stored block, from the input blocks. -/
def block (x0 : FVec Ideal S1x256x1024 .f32) (x1 x2 : FVec Ideal S1x1024x1024 .f32) (x3 x4 : FVec Ideal S1x512x1024 .f32) (x5 x6 : FVec Ideal S1x128x1024 .f32) (x7 : FVec Ideal S1x1x1024 .f32)
    (x8 x9 x10 : FVec Ideal S8x1024 .f32) (x11 : FVec Ideal S3 .f32) : FVec Ideal S1x256x1024 .f32 :=
  have TS := selAll (k3_pay2 x0) (k3_pay3 x1) (k3_pay4 x2)
  have TW := winAll (k3_pay2 x0) (k3_pay5 x3) (k3_pay6 x4)
  have TC := cmpAll (k3_pay9 x7) (k3_pay7 x5) (k3_pay8 x6) k3_pay10
  have l (j : Fin 3) := logits TS TW TC (wrow x8 j) (wrow x9 j) (wrow x10 j) (bias x11 j)
  gated TS TW TC (l 0) (l 1) (l 2)

/-- The body's values for the heads of the attention to the chosen rows are the one function's. -/
theorem sel_heads (v0 : FVec Ideal S1x256x1024 .f32) (v4 v6 : FVec Ideal S1x1024x1024 .f32) (Q : FVec Ideal S256x1024 .f32) (K V : FVec Ideal S1024x1024 .f32) :
    k3_pay14 (k3_pay12 v0 v4) (k3_pay13 v0 v4 v6) = selHead (k3_pay2 v0) (k3_pay3 v4) (k3_pay4 v6) 0
    ∧ k3_pay18 Q K V = selHead Q K V 1 ∧ k3_pay24 Q K V = selHead Q K V 2 ∧ k3_pay30 (k3_pay28 V) (k3_pay29 Q K) = selHead Q K V 3
    ∧ k3_pay34 Q K V = selHead Q K V 4 ∧ k3_pay41 Q K V = selHead Q K V 5 ∧ k3_pay46 V (k3_pay44 Q) (k3_pay45 K) = selHead Q K V 6
    ∧ k3_pay50 Q K V = selHead Q K V 7 ∧ k3_pay56 Q K V = selHead Q K V 8 ∧ k3_pay63 Q K V = selHead Q K V 9 ∧ k3_pay67 Q K V = selHead Q K V 10
    ∧ k3_pay73 Q K V = selHead Q K V 11 ∧ k3_pay79 Q K V = selHead Q K V 12 ∧ k3_pay83 Q K V = selHead Q K V 13 ∧ k3_pay89 Q K V = selHead Q K V 14 :=
  ⟨rfl, rfl, rfl, rfl, rfl, rfl, rfl, rfl, rfl, rfl, rfl, rfl, rfl, rfl, rfl⟩

/-- Side by side, with the last head. -/
theorem sel_all (Q : FVec Ideal S256x1024 .f32) (K V : FVec Ideal S1024x1024 .f32) :
   k3_pay94 Q K V (selHead Q K V 0) (selHead Q K V 1) (selHead Q K V 2) (selHead Q K V 3) (selHead Q K V 4) (selHead Q K V 5) (selHead Q K V 6) (selHead Q K V 7)
     (selHead Q K V 8) (selHead Q K V 9) (selHead Q K V 10) (selHead Q K V 11) (selHead Q K V 12) (selHead Q K V 13) (selHead Q K V 14) = selAll Q K V := by
  have e : k3_pay94 Q K V (selHead Q K V 0) (selHead Q K V 1) (selHead Q K V 2) (selHead Q K V 3) (selHead Q K V 4) (selHead Q K V 5) (selHead Q K V 6) (selHead Q K V 7)
     (selHead Q K V 8) (selHead Q K V 9) (selHead Q K V 10) (selHead Q K V 11) (selHead Q K V 12) (selHead Q K V 13) (selHead Q K V 14) =
    (have f := selHead Q K V; concatenate S256x1024 1 [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩, ⟨S256x64, f 8⟩, ⟨S256x64, f 9⟩, ⟨S256x64, f 10⟩, ⟨S256x64, f 11⟩, ⟨S256x64, f 12⟩, ⟨S256x64, f 13⟩, ⟨S256x64, f 14⟩, ⟨S256x64, f 15⟩] concatenates_S256x64_S256x64_S256x64_S256x64_S256x64_S256x64_S256x64_S256x64_S256x64_S256x64_S256x64_S256x64_S256x64_S256x64_S256x64_S256x64_S256x1024_d1) := rfl
  rw [e]
  unfold selAll
  generalize selHead Q K V = f
  rfl

/-- The body's values for the heads of the attention to the last rows. -/
theorem win_heads (v0 : FVec Ideal S1x256x1024 .f32) (Q : FVec Ideal S256x1024 .f32) (K V : FVec Ideal S512x1024 .f32) :
    k3_pay15 K V (k3_pay11 v0) = winHead (k3_pay2 v0) K V 0
    ∧ k3_pay19 Q K V = winHead Q K V 1 ∧ k3_pay25 Q K V = winHead Q K V 2 ∧ k3_pay31 K V (k3_pay27 Q) = winHead Q K V 3
    ∧ k3_pay38 (k3_pay36 Q K V) (k3_pay37 Q K) = winHead Q K V 4 ∧ k3_pay42 Q K V = winHead Q K V 5 ∧ k3_pay47 K V (k3_pay44 Q) = winHead Q K V 6
    ∧ k3_pay53 (k3_pay51 Q K) (k3_pay52 Q K V) = winHead Q K V 7 ∧ k3_pay57 Q K V = winHead Q K V 8 ∧ k3_pay64 Q K V = winHead Q K V 9
    ∧ k3_pay70 (k3_pay68 V) (k3_pay69 Q K) = winHead Q K V 10 ∧ k3_pay74 Q K V = winHead Q K V 11 ∧ k3_pay80 Q K V = winHead Q K V 12
    ∧ k3_pay86 (k3_pay82 Q) (k3_pay84 K) (k3_pay85 V) = winHead Q K V 13 ∧ k3_pay90 Q K V = winHead Q K V 14 :=
  ⟨rfl, rfl, rfl, rfl, rfl, rfl, rfl, rfl, rfl, rfl, rfl, rfl, rfl, rfl, rfl⟩

/-- Side by side, with the last head. -/
theorem win_all (Q : FVec Ideal S256x1024 .f32) (K V : FVec Ideal S512x1024 .f32) :
    k3_pay95 Q K V (winHead Q K V 0) (winHead Q K V 1) (winHead Q K V 2) (winHead Q K V 3) (winHead Q K V 4) (winHead Q K V 5) (winHead Q K V 6) (winHead Q K V 7) (winHead Q K V 8) (winHead Q K V 9) (winHead Q K V 10) (winHead Q K V 11) (winHead Q K V 12) (winHead Q K V 13) (winHead Q K V 14) = winAll Q K V := by
  have e : k3_pay95 Q K V (winHead Q K V 0) (winHead Q K V 1) (winHead Q K V 2) (winHead Q K V 3) (winHead Q K V 4) (winHead Q K V 5) (winHead Q K V 6) (winHead Q K V 7) (winHead Q K V 8) (winHead Q K V 9) (winHead Q K V 10) (winHead Q K V 11) (winHead Q K V 12) (winHead Q K V 13) (winHead Q K V 14) =
    (have f := winHead Q K V; concatenate S256x1024 1 [⟨S256x64, f 0⟩, ⟨S256x64, f 1⟩, ⟨S256x64, f 2⟩, ⟨S256x64, f 3⟩, ⟨S256x64, f 4⟩, ⟨S256x64, f 5⟩, ⟨S256x64, f 6⟩, ⟨S256x64, f 7⟩, ⟨S256x64, f 8⟩, ⟨S256x64, f 9⟩, ⟨S256x64, f 10⟩, ⟨S256x64, f 11⟩, ⟨S256x64, f 12⟩, ⟨S256x64, f 13⟩, ⟨S256x64, f 14⟩, ⟨S256x64, f 15⟩] concatenates_S256x64_S256x64_S256x64_S256x64_S256x64_S256x64_S256x64_S256x64_S256x64_S256x64_S256x64_S256x64_S256x64_S256x64_S256x64_S256x64_S256x1024_d1) := rfl
  rw [e]
  unfold winAll
  generalize winHead Q K V = f
  rfl

/-- The body's values for the heads of the attention to the compressed rows. -/
theorem cmp_heads (Q : FVec Ideal S1x1024 .f32) (K V : FVec Ideal S128x1024 .f32) (m : IVec S1x128 1) :
    k3_pay16 K V Q m = cmpHead Q K V m 0 ∧ k3_pay22 V m (k3_pay20 Q) (k3_pay21 K) = cmpHead Q K V m 1 ∧ k3_pay26 K V Q m = cmpHead Q K V m 2
    ∧ k3_pay32 K V Q m = cmpHead Q K V m 3 ∧ k3_pay39 K V Q m = cmpHead Q K V m 4 ∧ k3_pay43 K V Q m = cmpHead Q K V m 5 ∧ k3_pay48 K V Q m = cmpHead Q K V m 6
    ∧ k3_pay54 K V Q m = cmpHead Q K V m 7 ∧ k3_pay61 (k3_pay59 K V Q m) (k3_pay60 K Q m) = cmpHead Q K V m 8 ∧ k3_pay65 K V Q m = cmpHead Q K V m 9
    ∧ k3_pay71 K V Q m = cmpHead Q K V m 10 ∧ k3_pay77 (k3_pay75 K Q m) (k3_pay76 K V Q m) = cmpHead Q K V m 11 ∧ k3_pay81 K V Q m = cmpHead Q K V m 12
    ∧ k3_pay87 K V Q m = cmpHead Q K V m 13 :=
  ⟨rfl, rfl, rfl, rfl, rfl, rfl, rfl, rfl, rfl, rfl, rfl, rfl, rfl, rfl⟩

/-- Side by side, with the last two heads. -/
theorem cmp_all (Q : FVec Ideal S1x1024 .f32) (K V : FVec Ideal S128x1024 .f32) (m : IVec S1x128 1) :
    k3_pay96 K V Q m (cmpHead Q K V m 0) (cmpHead Q K V m 1) (cmpHead Q K V m 2) (cmpHead Q K V m 3) (cmpHead Q K V m 4) (cmpHead Q K V m 5) (cmpHead Q K V m 6) (cmpHead Q K V m 7) (cmpHead Q K V m 8) (cmpHead Q K V m 9) (cmpHead Q K V m 10) (cmpHead Q K V m 11) (cmpHead Q K V m 12) (cmpHead Q K V m 13) (k3_pay91 K Q m) (k3_pay92 V) = cmpAll Q K V m := by
  have e : k3_pay96 K V Q m (cmpHead Q K V m 0) (cmpHead Q K V m 1) (cmpHead Q K V m 2) (cmpHead Q K V m 3) (cmpHead Q K V m 4) (cmpHead Q K V m 5) (cmpHead Q K V m 6) (cmpHead Q K V m 7) (cmpHead Q K V m 8) (cmpHead Q K V m 9) (cmpHead Q K V m 10) (cmpHead Q K V m 11) (cmpHead Q K V m 12) (cmpHead Q K V m 13) (k3_pay91 K Q m) (k3_pay92 V) =
    (have f := cmpHead Q K V m; concatenate S1x1024 1 [⟨S1x64, f 0⟩, ⟨S1x64, f 1⟩, ⟨S1x64, f 2⟩, ⟨S1x64, f 3⟩, ⟨S1x64, f 4⟩, ⟨S1x64, f 5⟩, ⟨S1x64, f 6⟩, ⟨S1x64, f 7⟩, ⟨S1x64, f 8⟩, ⟨S1x64, f 9⟩, ⟨S1x64, f 10⟩, ⟨S1x64, f 11⟩, ⟨S1x64, f 12⟩, ⟨S1x64, f 13⟩, ⟨S1x64, f 14⟩, ⟨S1x64, f 15⟩] concatenates_S1x64_S1x64_S1x64_S1x64_S1x64_S1x64_S1x64_S1x64_S1x64_S1x64_S1x64_S1x64_S1x64_S1x64_S1x64_S1x64_S1x1024_d1) := rfl
  rw [e]
  unfold cmpAll
  generalize cmpHead Q K V m = f
  rfl

/-- The first gate's sum over the compressed branch, with that branch apart. -/
theorem pay97_eq (K V : FVec Ideal S128x1024 .f32) (Q : FVec Ideal S1x1024 .f32) (m : IVec S1x128 1) (a0 a1 a2 a3 a4 a5 a6 a7 a8 a9 a10 a11 a12 a13 : FVec Ideal S1x64 .f32)
    (a : FVec Ideal S1x128 .f32) (b : FVec Ideal S128x64 .f32) (w : FVec Ideal S1x1024 .f32) :
    k3_pay97 K V Q m a0 a1 a2 a3 a4 a5 a6 a7 a8 a9 a10 a11 a12 a13 a b w
      = shapeCast S1x1 (multiReduction .add [1] S1 (mulf (k3_pay96 K V Q m a0 a1 a2 a3 a4 a5 a6 a7 a8 a9 a10 a11 a12 a13 a b) (shapeCast S1x1024 w shapeCasts_S1x1024_S1x1024)) 0x00000000#32 reduces_S1x1024_S1 (.inl rfl) rfl) shapeCasts_S1_S1x1 := rfl

set_option maxHeartbeats 2000000 in
/-- The rest of the body: the two first gates' logits, and the stored block from all three. -/
theorem pay98_eq (TS TW : FVec Ideal S256x1024 .f32) (TC w0 w1 w2 : FVec Ideal S1x1024 .f32) (b : Ideal .f32) :
    k3_pay98 TS TW (shapeCast S1x1 (multiReduction .add [1] S1 (mulf TC (shapeCast S1x1024 w0 shapeCasts_S1x1024_S1x1024)) 0x00000000#32 reduces_S1x1024_S1 (.inl rfl) rfl) shapeCasts_S1_S1x1) w1 w2 b
      = logits TS TW TC w0 w1 w2 b := rfl
theorem pay99_eq (TS TW : FVec Ideal S256x1024 .f32) (TC w0 w1 w2 : FVec Ideal S1x1024 .f32) (b : Ideal .f32) :
    k3_pay99 TS TW TC w0 w1 w2 b = logits TS TW TC w0 w1 w2 b := rfl
theorem pay100_eq (TS TW : FVec Ideal S256x1024 .f32) (TC w0 w1 w2 : FVec Ideal S1x1024 .f32) (b : Ideal .f32) :
    k3_pay100 TS TW TC w0 w1 w2 b = logits TS TW TC w0 w1 w2 b := rfl
theorem gated_eq (TS TW : FVec Ideal S256x1024 .f32) (TC : FVec Ideal S1x1024 .f32) (l0 l1 : FVec Ideal S256x1 .f32) (w0 w1 w2 : FVec Ideal S1x1024 .f32) (b : Ideal .f32) :
    k3_pay1 TW (k3_pay104 TS TW TC l0 l1 w0 w1 w2 b) (k3_pay105 TS TW TC l0 l1 w0 w1 w2 b) (k3_pay106 TS TW TC l0 l1 w0 w1 w2 b) (k3_pay107 TS TW TC l0 l1 w0 w1 w2 b)
      = gated TS TW TC l0 l1 (logits TS TW TC w0 w1 w2 b) := by
  unfold k3_pay104 k3_pay105 k3_pay106 k3_pay107 k3_pay102 k3_pay103 k3_pay104 k3_pay101
  rw [pay100_eq]
  rfl

/-- What a grid point leaves in the output's buffer is the block of its inputs. -/
theorem outs_eq (c : Dev nD) (t : Fin cfg3.N) (y : S1x256x1024.Idx) : outsAt3 (Ix := Ix) (U := U) (Lvl := Lvl) 𝒱₀ V c t y
    = block (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) y := by
  unfold outsAt3 out3_A_12 kernelRun3_A
  frame_out
  generalize iblk V c 0 t = x0
  generalize iblk V c 1 t = x1
  generalize iblk V c 2 t = x2
  generalize iblk V c 3 t = x3
  generalize iblk V c 4 t = x4
  generalize iblk V c 5 t = x5
  generalize iblk V c 6 t = x6
  generalize iblk V c 7 t = x7
  obtain ⟨s0, s1, s2, s3, s4, s5, s6, s7, s8, s9, s10, s11, s12, s13, s14⟩ := sel_heads x0 x1 x2 (k3_pay2 x0) (k3_pay3 x1) (k3_pay4 x2)
  obtain ⟨w0, w1, w2, w3, w4, w5, w6, w7, w8, w9, w10, w11, w12, w13, w14⟩ := win_heads x0 (k3_pay2 x0) (k3_pay5 x3) (k3_pay6 x4)
  obtain ⟨c0, c1, c2, c3, c4, c5, c6, c7, c8, c9, c10, c11, c12, c13⟩ := cmp_heads (k3_pay9 x7) (k3_pay7 x5) (k3_pay8 x6) k3_pay10
  simp only [pay97_eq, s0, s1, s2, s3, s4, s5, s6, s7, s8, s9, s10, s11, s12, s13, s14, w0, w1, w2, w3, w4, w5, w6, w7, w8, w9, w10, w11, w12, w13, w14,
    c0, c1, c2, c3, c4, c5, c6, c7, c8, c9, c10, c11, c12, c13, sel_all, win_all, cmp_all]
  generalize iblk V c 8 t = x8
  generalize iblk V c 9 t = x9
  generalize iblk V c 10 t = x10
  generalize iblk V c 11 t = x11
  simp only [(ld_row x8).1, (ld_row x8).2.1, (ld_row x8).2.2, (ld_row x9).1, (ld_row x9).2.1, (ld_row x9).2.2, (ld_row x10).1, (ld_row x10).2.1, (ld_row x10).2.2,
    (ld_bias x11).1, (ld_bias x11).2.1, (ld_bias x11).2.2, pay98_eq, pay99_eq, gated_eq]
  unfold block
  exact congrArg (fun l => gated _ _ _ l _ _ y) (pay98_eq _ _ _ _ _ _ _)

/-! ## The block at an index -/

theorem ch_hc (c : Fin 1024) : ch (NsaMath.hd c) (NsaMath.hc c) = c := Fin.ext (by show 64 * (c.val / 64) + c.val % 64 = c.val; omega)

theorem pay2_at (x : FVec Ideal S1x256x1024 .f32) (r : Fin 256) (e : Fin 1024) : k3_pay2 x (ix2 r e) = x (ix3 0 r e) * (((1 : ℝ) / 8 : ℝ) : EReal) := by
  rw [← NsaMath.c_8th]; pointwise [k3_pay2]
theorem pay9_at (x : FVec Ideal S1x1x1024 .f32) (e : Fin 1024) : k3_pay9 x (ix2 0 e) = x (ix3 0 0 e) * (((1 : ℝ) / 8 : ℝ) : EReal) := by
  rw [← NsaMath.c_8th]; pointwise [k3_pay9]
theorem pay3_at (x : FVec Ideal S1x1024x1024 .f32) (r e : Fin 1024) : k3_pay3 x (ix2 r e) = x (ix3 0 r e) := by pointwise [k3_pay3]
theorem pay4_at (x : FVec Ideal S1x1024x1024 .f32) (r e : Fin 1024) : k3_pay4 x (ix2 r e) = x (ix3 0 r e) := by pointwise [k3_pay4]
theorem pay5_at (x : FVec Ideal S1x512x1024 .f32) (r : Fin 512) (e : Fin 1024) : k3_pay5 x (ix2 r e) = x (ix3 0 r e) := by pointwise [k3_pay5]
theorem pay6_at (x : FVec Ideal S1x512x1024 .f32) (r : Fin 512) (e : Fin 1024) : k3_pay6 x (ix2 r e) = x (ix3 0 r e) := by pointwise [k3_pay6]
theorem pay7_at (x : FVec Ideal S1x128x1024 .f32) (r : Fin 128) (e : Fin 1024) : k3_pay7 x (ix2 r e) = x (ix3 0 r e) := by pointwise [k3_pay7]
theorem pay8_at (x : FVec Ideal S1x128x1024 .f32) (r : Fin 128) (e : Fin 1024) : k3_pay8 x (ix2 r e) = x (ix3 0 r e) := by pointwise [k3_pay8]

/-- The three branches, from the whole arrays. -/
def tS (q : FVec Ideal S2x2048x1024 .f32) (ks vs : FVec Ideal S2x1024x1024 .f32) (b : Fin 2) (s : Fin 2048) (c : Fin 1024) : EReal :=
  NsaMath.attn (fun d => q (ix3 b s (ch (NsaMath.hd c) d))) (fun j d => ks (ix3 b j (ch (NsaMath.hd c) d))) (fun j => vs (ix3 b j c))
def tW (q k v : FVec Ideal S2x2048x1024 .f32) (b : Fin 2) (s : Fin 2048) (c : Fin 1024) : EReal :=
  NsaMath.attn (fun d => q (ix3 b s (ch (NsaMath.hd c) d))) (fun (j : Fin 512) d => k (ix3 b ⟨1536 + j.val, by omega⟩ (ch (NsaMath.hd c) d))) (fun j => v (ix3 b ⟨1536 + j.val, by omega⟩ c))
def tC (qm : FVec Ideal S2x1x1024 .f32) (kc vc : FVec Ideal S2x128x1024 .f32) (b : Fin 2) (c : Fin 1024) : EReal :=
  NsaMath.attn (fun d => qm (ix3 b 0 (ch (NsaMath.hd c) d))) (fun (n : Fin 127) d => kc (ix3 b ⟨n.val, by omega⟩ (ch (NsaMath.hd c) d))) (fun n => vc (ix3 b ⟨n.val, by omega⟩ c))

theorem sel_spec (x0 : FVec Ideal S1x256x1024 .f32) (x1 x2 : FVec Ideal S1x1024x1024 .f32) (q : FVec Ideal S2x2048x1024 .f32) (ks vs : FVec Ideal S2x1024x1024 .f32)
    (b : Fin 2) (s : Fin 2048) (r : Fin 256) (h0 : ∀ e, x0 (ix3 0 r e) = q (ix3 b s e)) (h1 : ∀ j e, x1 (ix3 0 j e) = ks (ix3 b j e)) (h2 : ∀ j e, x2 (ix3 0 j e) = vs (ix3 b j e))
    (c : Fin 1024) : selAll (k3_pay2 x0) (k3_pay3 x1) (k3_pay4 x2) (ix2 r c) = tS q ks vs b s c := by
  rw [selAll_at, selHead_at]
  unfold tS NsaMath.attn
  simp only [pay2_at, pay3_at, pay4_at, h0, h1, h2, ch_hc]

theorem win_spec (x0 : FVec Ideal S1x256x1024 .f32) (x3 x4 : FVec Ideal S1x512x1024 .f32) (q k v : FVec Ideal S2x2048x1024 .f32)
    (b : Fin 2) (s : Fin 2048) (r : Fin 256) (h0 : ∀ e, x0 (ix3 0 r e) = q (ix3 b s e)) (h3 : ∀ (j : Fin 512) e, x3 (ix3 0 j e) = k (ix3 b ⟨1536 + j.val, by omega⟩ e))
    (h4 : ∀ (j : Fin 512) e, x4 (ix3 0 j e) = v (ix3 b ⟨1536 + j.val, by omega⟩ e))
    (c : Fin 1024) : winAll (k3_pay2 x0) (k3_pay5 x3) (k3_pay6 x4) (ix2 r c) = tW q k v b s c := by
  rw [winAll_at, winHead_at]
  unfold tW NsaMath.attn
  simp only [pay2_at, pay5_at, pay6_at, h0, h3, h4, ch_hc]

theorem cmp_spec (x5 x6 : FVec Ideal S1x128x1024 .f32) (x7 : FVec Ideal S1x1x1024 .f32) (qm : FVec Ideal S2x1x1024 .f32) (kc vc : FVec Ideal S2x128x1024 .f32)
    (b : Fin 2) (h5 : ∀ j e, x5 (ix3 0 j e) = kc (ix3 b j e)) (h6 : ∀ j e, x6 (ix3 0 j e) = vc (ix3 b j e)) (h7 : ∀ e, x7 (ix3 0 0 e) = qm (ix3 b 0 e))
    (c : Fin 1024) : cmpAll (k3_pay9 x7) (k3_pay7 x5) (k3_pay8 x6) k3_pay10 (ix2 0 c) = tC qm kc vc b c := by
  rw [cmpAll_at, cmpHead_at]
  unfold tC NsaMath.attn
  simp only [pay9_at, pay7_at, pay8_at, h5, h6, h7, ch_hc]

/-- The output array, from the arrays the call is given. -/
def G (q : FVec Ideal S2x2048x1024 .f32) (ks vs : FVec Ideal S2x1024x1024 .f32) (k v : FVec Ideal S2x2048x1024 .f32) (kc vc : FVec Ideal S2x128x1024 .f32) (qm : FVec Ideal S2x1x1024 .f32)
    (w0 w1 w2 : FVec Ideal S8x1024 .f32) (bg : FVec Ideal S3 .f32) : FVec Ideal S2x2048x1024 .f32 :=
  fun i => mix (tC qm kc vc (i 0) (i 2)) (tS q ks vs (i 0) (i 1) (i 2)) (tW q k v (i 0) (i 1) (i 2))
    fun j => (∑ x, tC qm kc vc (i 0) x * w0 (ix2 ⟨j.val, by omega⟩ x)) + (∑ x, tS q ks vs (i 0) (i 1) x * w1 (ix2 ⟨j.val, by omega⟩ x))
      + (∑ x, tW q k v (i 0) (i 1) x * w2 (ix2 ⟨j.val, by omega⟩ x)) + bg (ix1 j)

theorem block_spec (x0 : FVec Ideal S1x256x1024 .f32) (x1 x2 : FVec Ideal S1x1024x1024 .f32) (x3 x4 : FVec Ideal S1x512x1024 .f32) (x5 x6 : FVec Ideal S1x128x1024 .f32) (x7 : FVec Ideal S1x1x1024 .f32)
    (w0 w1 w2 : FVec Ideal S8x1024 .f32) (bg : FVec Ideal S3 .f32) (q : FVec Ideal S2x2048x1024 .f32) (ks vs : FVec Ideal S2x1024x1024 .f32) (k v : FVec Ideal S2x2048x1024 .f32)
    (kc vc : FVec Ideal S2x128x1024 .f32) (qm : FVec Ideal S2x1x1024 .f32)
    (b : Fin 2) (s : Fin 2048) (r : Fin 256) (h0 : ∀ e, x0 (ix3 0 r e) = q (ix3 b s e)) (h1 : ∀ j e, x1 (ix3 0 j e) = ks (ix3 b j e)) (h2 : ∀ j e, x2 (ix3 0 j e) = vs (ix3 b j e))
    (h3 : ∀ (j : Fin 512) e, x3 (ix3 0 j e) = k (ix3 b ⟨1536 + j.val, by omega⟩ e)) (h4 : ∀ (j : Fin 512) e, x4 (ix3 0 j e) = v (ix3 b ⟨1536 + j.val, by omega⟩ e))
    (h5 : ∀ j e, x5 (ix3 0 j e) = kc (ix3 b j e)) (h6 : ∀ j e, x6 (ix3 0 j e) = vc (ix3 b j e)) (h7 : ∀ e, x7 (ix3 0 0 e) = qm (ix3 b 0 e)) (c : Fin 1024) :
    block x0 x1 x2 x3 x4 x5 x6 x7 w0 w1 w2 bg (ix3 0 r c) = G q ks vs k v kc vc qm w0 w1 w2 bg (ix3 b s c) := by
  unfold block
  refine (gated_at _ _ _ _ _ _ r c).trans ?_
  rw [cmp_spec x5 x6 x7 qm kc vc b h5 h6 h7 c, sel_spec x0 x1 x2 q ks vs b s r h0 h1 h2 c, win_spec x0 x3 x4 q k v b s r h0 h3 h4 c]
  refine congrArg (mix _ _ _) (funext fun j => ?_)
  have e : ∀ j : Fin 3, logits (selAll (k3_pay2 x0) (k3_pay3 x1) (k3_pay4 x2)) (winAll (k3_pay2 x0) (k3_pay5 x3) (k3_pay6 x4)) (cmpAll (k3_pay9 x7) (k3_pay7 x5) (k3_pay8 x6) k3_pay10)
      (wrow w0 j) (wrow w1 j) (wrow w2 j) (bias bg j) (ix2 r 0)
      = (∑ x, tC qm kc vc b x * w0 (ix2 ⟨j.val, by omega⟩ x)) + (∑ x, tS q ks vs b s x * w1 (ix2 ⟨j.val, by omega⟩ x)) + (∑ x, tW q k v b s x * w2 (ix2 ⟨j.val, by omega⟩ x)) + bg (ix1 j) := by
    intro j
    rw [logits_at, bias_eq]
    simp only [wrow_at, cmp_spec x5 x6 x7 qm kc vc b h5 h6 h7, sel_spec x0 x1 x2 q ks vs b s r h0 h1 h2, win_spec x0 x3 x4 q k v b s r h0 h3 h4]
  match j with
  | 0 => exact e 0
  | 1 => exact e 1
  | 2 => exact e 2

set_option maxHeartbeats 2000000 in
/-- The output array after the region. -/
theorem final (c : Dev nD) : (dat (Ix := Ix) (U := U) (Lvl := Lvl) 𝒱₀ V D c).arrAt 12 cfg3.N
    = G (V c main_v118) (V c main_v116_0) (V c main_v116_1) (V c main_v75) (V c main_v76) (V c main_v80) (V c main_v100) (V c main_v84) (V c main_v105) (V c main_v110) (V c main_v115) (V c main_arg9) := by
  refine (dat (Ix := Ix) (U := U) (Lvl := Lvl) 𝒱₀ V D c).arrAt_eq_of_covers 12 _ (by decide +kernel) fun t _ y => ?_
  have ey : (win3_12.blk t).view.emb y = ix3 (grid3.coords t 0) ⟨(grid3.coords t 1).val * 256 + (y 1).val, by have : (grid3.coords t 1).val < 8 := (grid3.coords t 1).isLt; have : (y 1).val < 256 := (y 1).isLt; omega⟩ (y 2) := by
    blk_ext [idx t]
  have yy : y = ix3 0 (y 1) (y 2) := by
    funext a
    match a with
    | ⟨0, _⟩ => exact Fin.ext (Nat.lt_one_iff.1 (y 0).isLt)
    | ⟨1, _⟩ => rfl
    | ⟨2, _⟩ => rfl
  have e8 : iblk V c 8 t = V c main_v105 := by
    funext y; blk_ext [iblk, idx t]
  have e9 : iblk V c 9 t = V c main_v110 := by
    funext y; blk_ext [iblk, idx t]
  have e10 : iblk V c 10 t = V c main_v115 := by
    funext y; blk_ext [iblk, idx t]
  have e11 : iblk V c 11 t = V c main_arg9 := by
    funext y; blk_ext [iblk, idx t]
  blk_simp
  rw [after3_12]
  refine Eq.trans ?_ (congrArg (G _ _ _ _ _ _ _ _ _ _ _ _) ey.symm)
  rw [outs_eq, e8, e9, e10, e11]
  refine (congrArg (block _ _ _ _ _ _ _ _ _ _ _ _) yy).trans ?_
  refine block_spec _ _ _ _ _ _ _ _ _ _ _ _ _ _ _ _ _ _ _ _ _ _ _ ?_ ?_ ?_ ?_ ?_ ?_ ?_ ?_ _
  · intro e; blk_ext [iblk, idx t]
  · intro j e; blk_ext [iblk, idx t]
  · intro j e; blk_ext [iblk, idx t]
  · intro j e; blk_ext [iblk, idx t]
  · intro j e; blk_ext [iblk, idx t]
  · intro j e; blk_ext [iblk, idx t]
  · intro j e; blk_ext [iblk, idx t]
  · intro e; blk_ext [iblk, idx t]

end Cert.KernelIdeal.W.K3
-- ==== Proof.W.HostB.lean ====
/- The kernel's result, entry by entry: the four custom calls and the host views between them, composed into the one formula for
   the gated sum of the three attention branches. -/
module

public import proofs.«01_k».proof.Proof.W.HostA
public import proofs.«01_k».proof.Proof.W.K0
public import proofs.«01_k».proof.Proof.W.K1
public import proofs.«01_k».proof.Proof.W.K2
public import proofs.«01_k».proof.Proof.W.K3

@[expose] public section

set_option maxRecDepth 16384

noncomputable section

namespace Cert.KernelIdeal.W

open Cert.KernelIdeal Cert.KernelIdeal.Gen Cert.KernelIdeal.Reg Cert.KernelIdeal.Run Cert.NsaMath
open Idealize.ShloMosaic Idealize.ShloMosaic.TcCoe Idealize.ShloMosaic.StableHlo
open Idealize.SL Idealize.SL.Sem
open scoped BigOperators

variable (m : (ℓ : Loc nD τ sig) → Buf (Elt Ideal) ℓ)

/-! ## The first call: half-block sums of the hidden rows -/

theorem W4_v97 (c : Dev nD) : W4 m c (Proc.devRef .tc main_v97) = (d0 m c).arrAt 5 cfg0.N :=
  Pipeline.afterRegion_arr (d0 m c) (V3 m c) (by decide) 5

theorem sums_at (c : Dev nD) (i : Fin 256) (d : Fin 1024) :
    @Eq EReal (W4 m c (Proc.devRef .tc main_v97) (ix2 i d))
      (∑ r : Fin 16, (arrs m c).hidden ⟨i.val / 128, by omega⟩ ⟨i.val % 128 * 16 + r.val, by omega⟩ d) := by
  rw [W4_v97]
  refine (congrFun (K0.final 𝒱₀ (Ve (V3 m)) D₀ c) (ix2 i d)).trans ?_
  refine (K0.G_at _ _ _ _ _ i d).trans (Finset.sum_congr rfl fun r _ => ?_)
  unfold Arrays.hidden hid
  have hb : (⟨(i.val * 16 + r.val) / 2048, by omega⟩ : Fin 2) = ⟨i.val / 128, by omega⟩ := Fin.ext (by dsimp only; omega)
  have hs : (⟨(i.val * 16 + r.val) % 2048, by omega⟩ : Fin 2048) = ⟨i.val % 128 * 16 + r.val, by omega⟩ := Fin.ext (by dsimp only; omega)
  refine congrArg₂ max (congrArg₂ (· + ·) (congrArg₂ (· + ·) (Finset.sum_congr rfl fun e _ => congrArg₂ (· * ·) ?_ (v90_at m c e d)) ?_) (v96_at m c d)) rfl
  · refine (v95_at m c _ e).trans ?_
    dsimp only
    rw [hb, hs]
  · refine (sum_128 _ fun p hp => ?_).trans (Finset.sum_congr rfl fun p _ => congrArg₂ (· * ·) ?_ ?_)
    · refine (congrArg₂ (· * ·) (v89_at m c _ p) rfl).trans ?_
      rw [dif_neg (by omega), zero_mul]
    · refine (v89_at m c _ _).trans ((dif_pos p.isLt).trans ?_)
      dsimp only
      rw [hb, hs]
    · exact (v94_at m c _ d).trans (dif_pos p.isLt)

/-! ## The second call: the compressed values -/

theorem v98_eq (c : Dev nD) : V5 m (oA m) c (Proc.devRef .tc main_v98)
    = shapeCast S2x128x1024 (W4 m c (Proc.devRef .tc main_v97)) shapeCasts_S256x1024_S2x128x1024 := by
  have e : V5 m (oA m) c (Proc.devRef .tc main_v98) = shapeCast S2x128x1024 (V4 m (oA m) c (Proc.devRef .tc main_v97)) shapeCasts_S256x1024_S2x128x1024 := by
    simp only [V5]
    generalize V4 m (oA m) c = W
    after_reads_simp <;> rfl
  rw [e, V4_at]
  rfl

theorem v98_at (c : Dev nD) (b : Fin 2) (n : Fin 128) (d : Fin 1024) :
    @Eq EReal (V5 m (oA m) c (Proc.devRef .tc main_v98) (ix3 b n d))
      (∑ r : Fin 16, (arrs m c).hidden b ⟨n.val * 16 + r.val, by omega⟩ d) := by
  rw [v98_eq]
  have e (X : FVec Ideal S256x1024 .f32) : shapeCast S2x128x1024 X shapeCasts_S256x1024_S2x128x1024 (ix3 b n d) = X (ix2 ⟨b.val * 128 + n.val, by omega⟩ d) := by
    pointwise
  refine (e _).trans ((sums_at m c _ d).trans (Finset.sum_congr rfl fun r _ => ?_))
  have hb : (⟨(b.val * 128 + n.val) / 128, by omega⟩ : Fin 2) = b := Fin.ext (by dsimp only; omega)
  have hs : (⟨(b.val * 128 + n.val) % 128 * 16 + r.val, by omega⟩ : Fin 2048) = ⟨n.val * 16 + r.val, by omega⟩ := Fin.ext (by dsimp only; omega)
  dsimp only
  rw [hb, hs]

theorem v99_at (c : Dev nD) (d : Fin 1024) : @Eq EReal (V5 m (oA m) c (Proc.devRef .tc main_v99) (ix2 0 d)) ((arrs m c).b2 d) := by
  have e : V5 m (oA m) c (Proc.devRef .tc main_v99) = shapeCast S1x1024 (V4 m (oA m) c (Proc.devRef .tc main_arg7)) shapeCasts_S1024_S1x1024 := by
    simp only [V5]
    generalize V4 m (oA m) c = W
    after_reads_simp <;> rfl
  rw [e, V4_of m (oA m) c main_arg7 (by decide)]
  unfold arrs
  dsimp only
  generalize V3 m c (Proc.devRef .tc main_arg7) = Y
  pointwise

theorem arg6_V5 (c : Dev nD) : V5 m (oA m) c (Proc.devRef .tc main_arg6) = V3 m c (Proc.devRef .tc main_arg6) :=
  (V5_of m (oA m) c main_arg6 (by decide)).trans (V4_of m (oA m) c main_arg6 (by decide))

theorem W6_v100 (c : Dev nD) : W6 m c (Proc.devRef .tc main_v100) = (d1 m c).arrAt 3 cfg1.N :=
  Pipeline.afterRegion_arr (d1 m c) (V5 m (oA m) c) (by decide) 3

theorem comp_at (c : Dev nD) (b : Fin 2) (n : Fin 127) (d : Fin 1024) :
    @Eq EReal (W6 m c (Proc.devRef .tc main_v100) (ix3 b ⟨n.val, by omega⟩ d)) ((arrs m c).CV b n d) := by
  rw [W6_v100]
  refine (congrFun (K1.final 𝒱₀ (Ve (V5 m (oA m))) D₀ c) (ix3 b ⟨n.val, by omega⟩ d)).trans ?_
  refine (K1.G_at _ _ _ b _ d).trans ?_
  unfold Arrays.CV comp
  refine congrArg₂ (· + ·) (Finset.sum_congr rfl fun x _ => congrArg₂ (· * ·) (congrArg₂ (· * ·) (congrArg₂ (· + ·) ?_ ?_) rfl) ?_) (v99_at m c d)
  · exact (v98_at m c b _ x).trans rfl
  · refine (v98_at m c b _ x).trans (Finset.sum_congr rfl fun r _ => ?_)
    have hs : (⟨(n.val + 1) % 128 * 16 + r.val, by omega⟩ : Fin 2048) = ⟨n.val * 16 + (16 + r.val), by omega⟩ := Fin.ext (by dsimp only; omega)
    dsimp only
    rw [hs]
  · show @Eq EReal (V5 m (oA m) c (Proc.devRef .tc main_arg6) (ix2 x d)) _
    rw [arg6_V5]
    rfl

end Cert.KernelIdeal.W

end
-- ==== Proof.W.HostC.lean ====
/- The last two custom calls of the kernel over what came before, and the kernel's result as the shared formula. -/
module

public import proofs.«01_k».proof.Proof.W.HostB

@[expose] public section

set_option maxRecDepth 16384

noncomputable section

namespace Cert.KernelIdeal.W

open Cert.KernelIdeal Cert.KernelIdeal.Gen Cert.KernelIdeal.Reg Cert.KernelIdeal.Run Cert.NsaMath
open Idealize.ShloMosaic Idealize.ShloMosaic.TcCoe Idealize.ShloMosaic.StableHlo
open Idealize.SL Idealize.SL.Sem
open scoped BigOperators

variable (m : (ℓ : Loc nD τ sig) → Buf (Elt Ideal) ℓ)

/-! ## What reaches the last calls unchanged -/

theorem keep6 (o : Outs (F := Ideal)) (c : Dev nD) (r : Ref sig .tc) (h4 : r ∉ ([main_v97] : List (Ref sig .tc))) (h5 : r ∉ hostOps1_W)
    (h6 : r ∉ ([main_v100] : List (Ref sig .tc))) : V6 m o c (Proc.devRef .tc r) = V3 m c (Proc.devRef .tc r) :=
  (V6_of m o c r h6).trans ((V5_of m o c r h5).trans (V4_of m o c r h4))

theorem keep8 (o : Outs (F := Ideal)) (c : Dev nD) (r : Ref sig .tc) (h4 : r ∉ ([main_v97] : List (Ref sig .tc))) (h5 : r ∉ hostOps1_W)
    (h6 : r ∉ ([main_v100] : List (Ref sig .tc))) (h7 : r ∉ hostOps2_W) (h8 : r ∉ ([main_v116_0, main_v116_1] : List (Ref sig .tc))) :
    V8 m o c (Proc.devRef .tc r) = V3 m c (Proc.devRef .tc r) :=
  (V8_of m o c r h8).trans ((V7_of m o c r h7).trans (keep6 m o c r h4 h5 h6))

theorem v75_V7 (c : Dev nD) : V7 m (oB m) c (Proc.devRef .tc main_v75) = V3 m c (Proc.devRef .tc main_v75) :=
  (V7_of m (oB m) c main_v75 (by decide)).trans (keep6 m (oB m) c main_v75 (by decide) (by decide) (by decide))
theorem v76_V7 (c : Dev nD) : V7 m (oB m) c (Proc.devRef .tc main_v76) = V3 m c (Proc.devRef .tc main_v76) :=
  (V7_of m (oB m) c main_v76 (by decide)).trans (keep6 m (oB m) c main_v76 (by decide) (by decide) (by decide))

theorem v75_V9 (c : Dev nD) : V9 m (oC m) c (Proc.devRef .tc main_v75) = V3 m c (Proc.devRef .tc main_v75) :=
  (V9_of m (oC m) c main_v75 (by decide)).trans (keep8 m (oC m) c main_v75 (by decide) (by decide) (by decide) (by decide) (by decide))
theorem v76_V9 (c : Dev nD) : V9 m (oC m) c (Proc.devRef .tc main_v76) = V3 m c (Proc.devRef .tc main_v76) :=
  (V9_of m (oC m) c main_v76 (by decide)).trans (keep8 m (oC m) c main_v76 (by decide) (by decide) (by decide) (by decide) (by decide))
theorem v80_V9 (c : Dev nD) : V9 m (oC m) c (Proc.devRef .tc main_v80) = V3 m c (Proc.devRef .tc main_v80) :=
  (V9_of m (oC m) c main_v80 (by decide)).trans (keep8 m (oC m) c main_v80 (by decide) (by decide) (by decide) (by decide) (by decide))
theorem v84_V9 (c : Dev nD) : V9 m (oC m) c (Proc.devRef .tc main_v84) = V3 m c (Proc.devRef .tc main_v84) :=
  (V9_of m (oC m) c main_v84 (by decide)).trans (keep8 m (oC m) c main_v84 (by decide) (by decide) (by decide) (by decide) (by decide))
theorem arg9_V9 (c : Dev nD) : V9 m (oC m) c (Proc.devRef .tc main_arg9) = V3 m c (Proc.devRef .tc main_arg9) :=
  (V9_of m (oC m) c main_arg9 (by decide)).trans (keep8 m (oC m) c main_arg9 (by decide) (by decide) (by decide) (by decide) (by decide))

theorem v100_V9 (c : Dev nD) : V9 m (oC m) c (Proc.devRef .tc main_v100) = W6 m c (Proc.devRef .tc main_v100) :=
  (V9_of m (oC m) c main_v100 (by decide)).trans ((V8_of m (oC m) c main_v100 (by decide)).trans
    ((V7_of m (oC m) c main_v100 (by decide)).trans (V6_at m (oC m) c)))

/-! ## The chosen rows -/

theorem table_lt (c : Dev nD) (i) : BitVec.toNat (w := 32) (Ve (V7 m (oB m)) c main_indices i) < 2048 := by
  show BitVec.toNat (w := 32) (V7 m (oB m) c (Proc.devRef .tc main_indices) i) < 2048
  rw [indices_V7, indices_V3]
  exact Cert.TableRange.topK_lt _ _ _ i

theorem W8_v116_0 (c : Dev nD) : W8 m c (Proc.devRef .tc main_v116_0) = (d2 m c).arrAt 3 cfg2.N :=
  Pipeline.afterRegion_arr (d2 m c) (V7 m (oB m) c) (by decide) 3
theorem W8_v116_1 (c : Dev nD) : W8 m c (Proc.devRef .tc main_v116_1) = (d2 m c).arrAt 4 cfg2.N :=
  Pipeline.afterRegion_arr (d2 m c) (V7 m (oB m) c) (by decide) 4

theorem ks_at (c : Dev nD) (b : Fin 2) (j e : Fin 1024) :
    @Eq EReal (V9 m (oC m) c (Proc.devRef .tc main_v116_0) (ix3 b j e)) ((arrs m c).K b (hd e) ((arrs m c).sel b j) (hc e)) := by
  have h : V9 m (oC m) c (Proc.devRef .tc main_v116_0) = K2.G (V3 m c (Proc.devRef .tc main_indices)) (V3 m c (Proc.devRef .tc main_v75)) := by
    refine (V9_of m (oC m) c main_v116_0 (by decide)).trans ((V8_at0 m (oC m) c).trans ((W8_v116_0 m c).trans ?_))
    refine (K2.final3 𝒱₀ (Ve (V7 m (oB m))) D₀ c (table_lt m c)).trans ?_
    exact congrArg₂ K2.G (indices_V7 m c) (v75_V7 m c)
  rw [h]
  exact v75_at m c b ((arrs m c).sel b j) e

theorem vs_at (c : Dev nD) (b : Fin 2) (j e : Fin 1024) :
    @Eq EReal (V9 m (oC m) c (Proc.devRef .tc main_v116_1) (ix3 b j e)) ((arrs m c).V b (hd e) ((arrs m c).sel b j) (hc e)) := by
  have h : V9 m (oC m) c (Proc.devRef .tc main_v116_1) = K2.G (V3 m c (Proc.devRef .tc main_indices)) (V3 m c (Proc.devRef .tc main_v76)) := by
    refine (V9_of m (oC m) c main_v116_1 (by decide)).trans ((V8_at1 m (oC m) c).trans ((W8_v116_1 m c).trans ?_))
    refine (K2.final4 𝒱₀ (Ve (V7 m (oB m))) D₀ c (table_lt m c)).trans ?_
    exact congrArg₂ K2.G (indices_V7 m c) (v76_V7 m c)
  rw [h]
  exact v76_at m c b ((arrs m c).sel b j) e

/-! ## The queries and the gate's weights -/

theorem q_at (c : Dev nD) (b : Fin 2) (s : Fin 2048) (e : Fin 1024) :
    @Eq EReal (V9 m (oC m) c (Proc.devRef .tc main_v118) (ix3 b s e)) ((arrs m c).Q b (hd e) s (hc e)) := by
  have h : V9 m (oC m) c (Proc.devRef .tc main_v118) = shapeCast S2x2048x1024 (transpose S2x2048x16x64 [0, 2, 1, 3] (V8 m (oC m) c (Proc.devRef .tc main_v6))
      transposes_S2x16x2048x64_S2x2048x16x64_0_2_1_3) shapeCasts_S2x2048x16x64_S2x2048x1024 := by
    simp only [V9]
    generalize V8 m (oC m) c = W
    after_reads_simp <;> rfl
  rw [h, keep8 m (oC m) c main_v6 (by decide) (by decide) (by decide) (by decide) (by decide)]
  unfold arrs
  dsimp only
  generalize V3 m c (Proc.devRef .tc main_v6) = Y
  pointwise

/-- A third of the gate's weights, transposed into the top three of eight rows of zeros. -/
def gateW (off : Fin 2 → ℕ) (hs : S3072x3.Slices off S1024x3) (X : FVec Ideal S3072x3 .f32) : FVec Ideal S8x1024 .f32 :=
  Host.scatter scatter_S8x1024_S1_S3x1024_01_n_0_0 (fun _ b => b) (broadcastInDim S8x1024 ![] bcast_S_S8x1024 (constant (F := Ideal) S_ .f32 0x00000000#32))
    (broadcastInDim S1 ![] bcast_S_S1 (constantI S_ 32 0#32)) (transpose S3x1024 [1, 0] (extractStridedSlice S1024x3 off X hs) transposes_S1024x3_S3x1024_1_0)

theorem gateW_at (off : Fin 2 → ℕ) (hs) (X : FVec Ideal S3072x3 .f32) (j : Fin 3) (x : Fin 1024) :
    gateW off hs X (ix2 ⟨j.val, by omega⟩ x) = extractStridedSlice S1024x3 off X hs (ix2 x j) := by
  unfold gateW
  refine (scatter_corner 0 _ rfl rfl rfl rfl _ _ (fun z => rfl) _ _ x).trans ((dif_pos ⟨j.isLt, x.isLt⟩).trans ?_)
  generalize extractStridedSlice S1024x3 off X hs = Y
  pointwise

theorem v105_at (c : Dev nD) (j : Fin 3) (x : Fin 1024) :
    @Eq EReal (V9 m (oC m) c (Proc.devRef .tc main_v105) (ix2 ⟨j.val, by omega⟩ x)) ((arrs m c).Wg ⟨x.val, by omega⟩ j) := by
  have h : V7 m (oC m) c (Proc.devRef .tc main_v105) = gateW ![0, 0] slices_S3072x3_S1024x3_0_0 (V6 m (oC m) c (Proc.devRef .tc main_arg8)) := by
    simp only [V7]
    generalize V6 m (oC m) c = W
    after_reads_simp <;> rfl
  rw [V9_of m (oC m) c main_v105 (by decide), V8_of m (oC m) c main_v105 (by decide), h, keep6 m (oC m) c main_arg8 (by decide) (by decide) (by decide)]
  refine (gateW_at _ _ _ j x).trans ?_
  unfold arrs
  dsimp only
  generalize V3 m c (Proc.devRef .tc main_arg8) = Y
  pointwise

theorem v110_at (c : Dev nD) (j : Fin 3) (x : Fin 1024) :
    @Eq EReal (V9 m (oC m) c (Proc.devRef .tc main_v110) (ix2 ⟨j.val, by omega⟩ x)) ((arrs m c).Wg ⟨1024 + x.val, by omega⟩ j) := by
  have h : V7 m (oC m) c (Proc.devRef .tc main_v110) = gateW ![1024, 0] slices_S3072x3_S1024x3_1024_0 (V6 m (oC m) c (Proc.devRef .tc main_arg8)) := by
    simp only [V7]
    generalize V6 m (oC m) c = W
    after_reads_simp <;> rfl
  rw [V9_of m (oC m) c main_v110 (by decide), V8_of m (oC m) c main_v110 (by decide), h, keep6 m (oC m) c main_arg8 (by decide) (by decide) (by decide)]
  refine (gateW_at _ _ _ j x).trans ?_
  unfold arrs
  dsimp only
  generalize V3 m c (Proc.devRef .tc main_arg8) = Y
  pointwise

theorem v115_at (c : Dev nD) (j : Fin 3) (x : Fin 1024) :
    @Eq EReal (V9 m (oC m) c (Proc.devRef .tc main_v115) (ix2 ⟨j.val, by omega⟩ x)) ((arrs m c).Wg ⟨2048 + x.val, by omega⟩ j) := by
  have h : V7 m (oC m) c (Proc.devRef .tc main_v115) = gateW ![2048, 0] slices_S3072x3_S1024x3_2048_0 (V6 m (oC m) c (Proc.devRef .tc main_arg8)) := by
    simp only [V7]
    generalize V6 m (oC m) c = W
    after_reads_simp <;> rfl
  rw [V9_of m (oC m) c main_v115 (by decide), V8_of m (oC m) c main_v115 (by decide), h, keep6 m (oC m) c main_arg8 (by decide) (by decide) (by decide)]
  refine (gateW_at _ _ _ j x).trans ?_
  unfold arrs
  dsimp only
  generalize V3 m c (Proc.devRef .tc main_arg8) = Y
  pointwise

/-! ## The three branches and their gated sum -/

theorem hd_ch (c : Fin 1024) (d : Fin 64) : hd (K3.ch (hd c) d) = hd c := Fin.ext (by unfold K3.ch; dsimp only; omega)
theorem hc_ch (c : Fin 1024) (d : Fin 64) : hc (K3.ch (hd c) d) = d := Fin.ext (by unfold K3.ch; dsimp only; omega)

theorem attn_congr {n : ℕ} {q q' : Fin 64 → EReal} {k k' : Fin n → Fin 64 → EReal} {v v' : Fin n → EReal} (hq : ∀ d, q d = q' d)
    (hk : ∀ j d, k j d = k' j d) (hv : ∀ j, v j = v' j) : attn q k v = attn q' k' v' := by
  rw [funext hq, funext fun j => funext (hk j), funext hv]

theorem tS_at (c : Dev nD) (b : Fin 2) (s : Fin 2048) (e : Fin 1024) :
    K3.tS (V9 m (oC m) c (Proc.devRef .tc main_v118)) (V9 m (oC m) c (Proc.devRef .tc main_v116_0)) (V9 m (oC m) c (Proc.devRef .tc main_v116_1)) b s e
      = (arrs m c).tS b s e := by
  unfold K3.tS Arrays.tS
  refine attn_congr (fun d => ?_) (fun j d => ?_) (fun j => ?_)
  · refine (q_at m c b s _).trans ?_
    rw [hd_ch, hc_ch]
  · refine (ks_at m c b j _).trans ?_
    rw [hd_ch, hc_ch]
  · exact vs_at m c b j e

theorem tW_at (c : Dev nD) (b : Fin 2) (s : Fin 2048) (e : Fin 1024) :
    K3.tW (V9 m (oC m) c (Proc.devRef .tc main_v118)) (V9 m (oC m) c (Proc.devRef .tc main_v75)) (V9 m (oC m) c (Proc.devRef .tc main_v76)) b s e
      = (arrs m c).tW b s e := by
  unfold K3.tW Arrays.tW
  rw [v75_V9, v76_V9]
  refine attn_congr (fun d => ?_) (fun j d => ?_) (fun j => ?_)
  · refine (q_at m c b s _).trans ?_
    rw [hd_ch, hc_ch]
  · refine (v75_at m c b _ _).trans ?_
    rw [hd_ch, hc_ch]
  · exact v76_at m c b _ e

theorem tC_at (c : Dev nD) (b : Fin 2) (e : Fin 1024) :
    K3.tC (V9 m (oC m) c (Proc.devRef .tc main_v84)) (V9 m (oC m) c (Proc.devRef .tc main_v80)) (V9 m (oC m) c (Proc.devRef .tc main_v100)) b e
      = (arrs m c).tC b e := by
  unfold K3.tC Arrays.tC
  rw [v84_V9, v80_V9, v100_V9]
  refine attn_congr (fun d => ?_) (fun j d => ?_) (fun j => ?_)
  · refine (v84_at m c b _).trans ?_
    rw [hd_ch, hc_ch]
  · refine (v80_at m c b j _).trans ?_
    rw [hd_ch, hc_ch]
  · exact comp_at m c b j e

/-- The last call's formula over arrays read as the shared ones is the shared formula. -/
theorem G_out (A : Arrays) (b : Fin 2) (s : Fin 2048) (q : FVec Ideal S2x2048x1024 .f32) (ks vs : FVec Ideal S2x1024x1024 .f32) (k v : FVec Ideal S2x2048x1024 .f32)
    (kc vc : FVec Ideal S2x128x1024 .f32) (qm : FVec Ideal S2x1x1024 .f32) (w0 w1 w2 : FVec Ideal S8x1024 .f32) (bg : FVec Ideal S3 .f32)
    (hC : ∀ e, K3.tC qm kc vc b e = A.tC b e) (hS : ∀ e, K3.tS q ks vs b s e = A.tS b s e) (hW : ∀ e, K3.tW q k v b s e = A.tW b s e)
    (h0 : ∀ (j : Fin 3) (x : Fin 1024), w0 (ix2 ⟨j.val, by omega⟩ x) = A.Wg ⟨x.val, by omega⟩ j)
    (h1 : ∀ (j : Fin 3) (x : Fin 1024), w1 (ix2 ⟨j.val, by omega⟩ x) = A.Wg ⟨1024 + x.val, by omega⟩ j)
    (h2 : ∀ (j : Fin 3) (x : Fin 1024), w2 (ix2 ⟨j.val, by omega⟩ x) = A.Wg ⟨2048 + x.val, by omega⟩ j) (hb : ∀ j : Fin 3, bg (ix1 j) = A.bg j)
    (e : Fin 1024) : K3.G q ks vs k v kc vc qm w0 w1 w2 bg (ix3 b s e) = A.out b s e := by
  show K3.mix (K3.tC qm kc vc b e) (K3.tS q ks vs b s e) (K3.tW q k v b s e)
    (fun j => (∑ x, K3.tC qm kc vc b x * w0 (ix2 ⟨j.val, by omega⟩ x)) + (∑ x, K3.tS q ks vs b s x * w1 (ix2 ⟨j.val, by omega⟩ x))
      + (∑ x, K3.tW q k v b s x * w2 (ix2 ⟨j.val, by omega⟩ x)) + bg (ix1 j)) = _
  simp only [hC, hS, hW, h0, h1, h2, hb]
  rfl

theorem bg_at (c : Dev nD) (j : Fin 3) : @Eq EReal (V9 m (oC m) c (Proc.devRef .tc main_arg9) (ix1 j)) ((arrs m c).bg j) := by
  rw [arg9_V9]
  rfl

/-- The kernel's result is the shared formula. -/
theorem kernel_at (c : Dev nD) (b : Fin 2) (s : Fin 2048) (e : Fin 1024) :
    @Eq EReal ((d3 m c).arrAt 12 cfg3.N (ix3 b s e)) ((arrs m c).out b s e) :=
  (congrFun (K3.final 𝒱₀ (Ve (V9 m (oC m))) D₀ c) (ix3 b s e)).trans
    (G_out (arrs m c) b s _ _ _ _ _ _ _ _ _ _ _ _ (tC_at m c b) (tS_at m c b s) (tW_at m c b s) (v105_at m c) (v110_at m c) (v115_at m c) (bg_at m c) e)

end Cert.KernelIdeal.W

end
-- ==== Proof.W.HostShared.lean ====
/- The shared part of the two programs' host code — the projection to queries, keys and values, the compression of the keys, the
   scores the blocks are chosen by — as functions of arrays, in the kernel's own operations. -/
module

public import proofs.«01_k».proof.Proof.W.HostA

@[expose] public section

set_option maxRecDepth 16384

noncomputable section

namespace Cert.KernelIdeal.W

open Cert.KernelIdeal Cert.KernelIdeal.Gen Cert.KernelIdeal.Reg Cert.KernelIdeal.Run Cert.NsaMath
open Idealize.ShloMosaic Idealize.ShloMosaic.TcCoe Idealize.ShloMosaic.StableHlo
open Idealize.SL Idealize.SL.Sem

/-- The projection, head by head. -/
def hQKV (x : FVec Ideal S2048x2x1024 .f32) (w : FVec Ideal S1024x3072 .f32) (b : FVec Ideal S3072 .f32) : FVec Ideal S2x16x2048x192 .f32 :=
  transpose S2x16x2048x192 [1, 2, 0, 3] (shapeCast _ (addf (Host.dotGeneral (F := Ideal) (φ₁ := .f32) (φ₂ := .f32) dot_S2048x2x1024_S1024x3072_S2048x2x3072_2_0_01_1_n_n none x w) (broadcastInDim S2048x2x3072 ![0, 1, 2] bcast_S1x1x3072_S2048x2x3072_0_1_2 (broadcastInDim S1x1x3072 ![2] bcast_S3072_S1x1x3072_2 b))) shapeCasts_S2048x2x3072_S2048x2x16x192) transposes_S2048x2x16x192_S2x16x2048x192_1_2_0_3

/-- Queries, keys and values are its three parts. -/
def hQ (Y : FVec Ideal S2x16x2048x192 .f32) : FVec Ideal S2x16x2048x64 .f32 :=
  extractStridedSlice S2x16x2048x64 ![0, 0, 0, 0] Y slices_S2x16x2048x192_S2x16x2048x64_0_0_0_0
def hK (Y : FVec Ideal S2x16x2048x192 .f32) : FVec Ideal S2x16x2048x64 .f32 :=
  extractStridedSlice S2x16x2048x64 ![0, 0, 0, 64] Y slices_S2x16x2048x192_S2x16x2048x64_0_0_0_64
def hV (Y : FVec Ideal S2x16x2048x192 .f32) : FVec Ideal S2x16x2048x64 .f32 :=
  extractStridedSlice S2x16x2048x64 ![0, 0, 0, 128] Y slices_S2x16x2048x192_S2x16x2048x64_0_0_0_128

/-- The token number of each place of each block. -/
def hRows : IVec S127x32 32 :=
  addi (broadcastInDim S127x32 ![0, 1] bcast_S127x1_S127x32_0_1 (broadcastInDim S127x1 ![0] bcast_S127_S127x1_0 (muli (iotaInDim S127 32 0) (broadcastInDim S127 ![] bcast_S_S127 (constantI S_ 32 16#32))))) (broadcastInDim S127x32 ![0, 1] bcast_S1x32_S127x32_0_1 (broadcastInDim S1x32 ![1] bcast_S32_S1x32_1 (iotaInDim S32 32 0)))

/-- The positions, block by block. -/
def hPos (P : FVec Ideal S2048x2x3 .f32) : FVec Ideal S127x32x2x3 .f32 :=
  Host.gather gather_S2048x2x3_S127x32x1_S127x32x2x3_23_0_n_n_0_2_123 P (broadcastInDim S127x32x1 ![0, 1] bcast_S127x32_S127x32x1_0_1 (select (cmpi .slt hRows (broadcastInDim S127x32 ![] bcast_S_S127x32 (constantI S_ 32 0#32))) (addi hRows (broadcastInDim S127x32 ![] bcast_S_S127x32 (constantI S_ 32 2048#32))) hRows))

/-- The compressed keys. -/
def hCmp (X : FVec Ideal S2x16x2048x64 .f32) (P : FVec Ideal S2048x2x3 .f32) (W1 : FVec Ideal S1027x1024 .f32) (b1 : FVec Ideal S1024 .f32)
    (W2 : FVec Ideal S1024x1024 .f32) (b2 : FVec Ideal S1024 .f32) : FVec Ideal S2x16x127x64 .f32 :=
  transpose S2x16x127x64 [1, 2, 0, 3] (shapeCast _ (Host.divf (Host.reduceAdd (addf (Host.dotGeneral (F := Ideal) (φ₁ := .f32) (φ₂ := .f32) dot_S127x32x2x1024_S1024x1024_S127x32x2x1024_3_0_012_1_n_n none (maximumf (addf (Host.dotGeneral (F := Ideal) (φ₁ := .f32) (φ₂ := .f32) dot_S127x32x2x1027_S1027x1024_S127x32x2x1024_3_0_012_1_n_n none (concatenate S127x32x2x1027 3 [⟨S127x32x2x1024, (Host.gather gather_S2048x2x1024_S127x32x1_S127x32x2x1024_23_0_n_n_0_2_121024 (shapeCast _ (transpose S2048x2x16x64 [2, 0, 1, 3] X transposes_S2x16x2048x64_S2048x2x16x64_2_0_1_3) shapeCasts_S2048x2x16x64_S2048x2x1024) (broadcastInDim S127x32x1 ![0, 1] bcast_S127x32_S127x32x1_0_1 (select (cmpi .slt hRows (broadcastInDim S127x32 ![] bcast_S_S127x32 (constantI S_ 32 0#32))) (addi hRows (broadcastInDim S127x32 ![] bcast_S_S127x32 (constantI S_ 32 2048#32))) hRows)))⟩, ⟨S127x32x2x3, (hPos P)⟩] concatenates_S127x32x2x1024_S127x32x2x3_S127x32x2x1027_d3) W1) (broadcastInDim S127x32x2x1024 ![0, 1, 2, 3] bcast_S1x1x1x1024_S127x32x2x1024_0_1_2_3 (broadcastInDim S1x1x1x1024 ![3] bcast_S1024_S1x1x1x1024_3 b1))) (broadcastInDim S127x32x2x1024 ![] bcast_S_S127x32x2x1024 (constant (F := Ideal) S_ .f32 0x00000000#32))) W2) (broadcastInDim S127x32x2x1024 ![0, 1, 2, 3] bcast_S1x1x1x1024_S127x32x2x1024_0_1_2_3 (broadcastInDim S1x1x1x1024 ![3] bcast_S1024_S1x1x1x1024_3 b2))) (constant (F := Ideal) S_ .f32 0x00000000#32) reducesTo_S127x32x2x1024_S127x2x1024_d1 h_S_) (broadcastInDim S127x2x1024 ![] bcast_S_S127x2x1024 (constant (F := Ideal) S_ .f32 0x42000000#32))) shapeCasts_S127x2x1024_S127x2x16x64) transposes_S127x2x16x64_S2x16x127x64_1_2_0_3

/-- The scores of the mean queries against the mean compressed keys, -/
def hScore (Q : FVec Ideal S2x16x2048x64 .f32) (C : FVec Ideal S2x16x127x64 .f32) : FVec Ideal S2x2048x127 .f32 :=
  Host.divf (Host.dotGeneral (F := Ideal) (φ₁ := .f32) (φ₂ := .f32) dot_S2x2048x64_S2x64x127_S2x2048x127_2_1_1_2_0_0 none (Host.divf (Host.reduceAdd Q (constant (F := Ideal) S_ .f32 0x00000000#32) reducesTo_S2x16x2048x64_S2x2048x64_d1 h_S_) (broadcastInDim S2x2048x64 ![] bcast_S_S2x2048x64 (constant (F := Ideal) S_ .f32 0x41800000#32))) (transpose S2x64x127 [0, 2, 1] (Host.divf (Host.reduceAdd C (constant (F := Ideal) S_ .f32 0x00000000#32) reducesTo_S2x16x127x64_S2x127x64_d1 h_S_) (broadcastInDim S2x127x64 ![] bcast_S_S2x127x64 (constant (F := Ideal) S_ .f32 0x41800000#32))) transposes_S2x127x64_S2x64x127_0_2_1)) (broadcastInDim S2x2048x127 ![] bcast_S_S2x2048x127 (constant (F := Ideal) S_ .f32 0x41000000#32))

/-- their exponentials, less the greatest of a row, -/
def hExp (Z : FVec Ideal S2x2048x127 .f32) : FVec Ideal S2x2048x127 .f32 :=
  Host.exp (subf Z (broadcastInDim S2x2048x127 ![0, 1, 2] bcast_S2x2048x1_S2x2048x127_0_1_2 (broadcastInDim S2x2048x1 ![0, 1] bcast_S2x2048_S2x2048x1_0_1 (maximumf (broadcastInDim S2x2048 ![] bcast_S_S2x2048 (constant (F := Ideal) S_ .f32 0xFF800000#32)) (Host.reduce FloatOps.maximumf Z (constant (F := Ideal) S_ .f32 0xFF800000#32) reducesTo_S2x2048x127_S2x2048_d2 h_S_)))))

/-- and the importance of a token: the mean of its softmax. -/
def hImp (E : FVec Ideal S2x2048x127 .f32) : FVec Ideal S2x2048 .f32 :=
  Host.divf (Host.reduceAdd (Host.divf E (broadcastInDim S2x2048x127 ![0, 1, 2] bcast_S2x2048x1_S2x2048x127_0_1_2 (broadcastInDim S2x2048x1 ![0, 1] bcast_S2x2048_S2x2048x1_0_1 (Host.reduceAdd E (constant (F := Ideal) S_ .f32 0x00000000#32) reducesTo_S2x2048x127_S2x2048_d2 h_S_)))) (constant (F := Ideal) S_ .f32 0x00000000#32) reducesTo_S2x2048x127_S2x2048_d2 h_S_) (broadcastInDim S2x2048 ![] bcast_S_S2x2048 (constant (F := Ideal) S_ .f32 0x42FE0000#32))

variable (m : (ℓ : Loc nD τ sig) → Buf (Elt Ideal) ℓ)

theorem v5_eq (c : Dev nD) : V3 m c (Proc.devRef .tc main_v5)
    = hQKV (V0 m c (Proc.devRef .tc main_arg0)) (V0 m c (Proc.devRef .tc main_arg2)) (V0 m c (Proc.devRef .tc main_arg3)) := by
  simp only [V3, V2, V1]
  generalize V0 m c = W
  after_reads_simp <;> rfl

theorem v6_eq (c : Dev nD) : V3 m c (Proc.devRef .tc main_v6) = hQ (V3 m c (Proc.devRef .tc main_v5)) := by
  simp only [V3, V2, V1]
  generalize V0 m c = W
  after_reads_simp <;> rfl
theorem v7_eq (c : Dev nD) : V3 m c (Proc.devRef .tc main_v7) = hK (V3 m c (Proc.devRef .tc main_v5)) := by
  simp only [V3, V2, V1]
  generalize V0 m c = W
  after_reads_simp <;> rfl
theorem v8_eq (c : Dev nD) : V3 m c (Proc.devRef .tc main_v8) = hV (V3 m c (Proc.devRef .tc main_v5)) := by
  simp only [V3, V2, V1]
  generalize V0 m c = W
  after_reads_simp <;> rfl

set_option maxHeartbeats 4000000 in
theorem v50_eq (c : Dev nD) : V3 m c (Proc.devRef .tc main_v50)
    = hCmp (V3 m c (Proc.devRef .tc main_v7)) (V0 m c (Proc.devRef .tc main_arg1)) (V0 m c (Proc.devRef .tc main_arg4))
        (V0 m c (Proc.devRef .tc main_arg5)) (V0 m c (Proc.devRef .tc main_arg6)) (V0 m c (Proc.devRef .tc main_arg7)) := by
  simp only [V3, V2, V1]
  generalize V0 m c = W
  after_reads_simp <;> rfl

set_option maxHeartbeats 4000000 in
theorem v74_eq (c : Dev nD) : V3 m c (Proc.devRef .tc main_v74)
    = hImp (hExp (hScore (V3 m c (Proc.devRef .tc main_v6)) (V3 m c (Proc.devRef .tc main_v50)))) := by
  simp only [V3]
  generalize V2 m c = W
  after_reads_simp <;> rfl

end Cert.KernelIdeal.W

end
-- ==== Proof.W.Gather.lean ====
/- Two gathers of the host programs read at an index: rows of a token array, and rows chosen per channel. -/
module

public import Idealize.ShloMosaic.Lib.Pointwise
public import Idealize.ShloMosaic.Lib.ValueIdx

@[expose] public section

noncomputable section

namespace Cert.NsaMath

open Idealize.ShloMosaic

/-- Whole rows of an array of `N` by `B` by `C`, one row number per place of an `n` by `r` table. -/
theorem gather_rows {α : Type} {N B C n r w : Nat} (hN : 0 < N)
    (d : GatherDims ⟨3, ![N, B, C]⟩ ⟨3, ![n, r, 1]⟩ ⟨4, ![n, r, B, C]⟩)
    (h1 : d.offsetDims = [2, 3]) (h2 : d.collapsedSliceDims = [0]) (h3 : d.operandBatchingDims = []) (h4 : d.startIndicesBatchingDims = [])
    (h5 : d.startIndexMap = [0]) (h6 : d.indexVectorDim = 2) (h7 : d.sliceSizes = ![1, B, C])
    (x : (⟨3, ![N, B, C]⟩ : Shape).Idx → α) (idx : IVec ⟨3, ![n, r, 1]⟩ w) (i : Fin n) (j : Fin r) (b : Fin B) (c : Fin C) :
    Host.gather d x idx (ix4 i j b c) = x (ix3 ⟨min (idx (ix3 i j 0)).toInt.toNat (N - 1), by omega⟩ b c) := by
  obtain ⟨o, cs, ob, sb, sm, iv, ss, wf⟩ := d
  subst h1 h2 h3 h4 h5 h6 h7
  have hs (p) : (GatherDims.siIdx (⟨[2, 3], [0], [], [], [0], 2, ![1, B, C], wf⟩ : GatherDims ⟨3, ![N, B, C]⟩ ⟨3, ![n, r, 1]⟩ ⟨4, ![n, r, B, C]⟩)
      (ix4 i j b c) ⟨0, p⟩) = ix3 i j 0 := by
    funext a; refine Fin.ext ?_
    match a with
    | ⟨0, _⟩ => rfl
    | ⟨1, _⟩ => rfl
    | ⟨2, _⟩ => rfl
  unfold Host.gather
  congr 1
  funext a
  refine Fin.ext ?_
  match a with
  | ⟨0, _⟩ =>
    exact congrArg (fun z => min (idx z).toInt.toNat (N - 1) + 0 + 0) (hs Nat.one_pos)
  | ⟨1, _⟩ => show 0 + 0 + b.val = b.val; omega
  | ⟨2, _⟩ => show 0 + 0 + c.val = c.val; omega

/-- One row per channel of an array of `G` by `N` by `D`. -/
theorem gather_along {α : Type} {G N D n w : Nat} (hN : 0 < N)
    (d : GatherDims ⟨3, ![G, N, D]⟩ ⟨4, ![G, n, D, 1]⟩ ⟨3, ![G, n, D]⟩)
    (h1 : d.offsetDims = []) (h2 : d.collapsedSliceDims = [1]) (h3 : d.operandBatchingDims = [0, 2]) (h4 : d.startIndicesBatchingDims = [0, 2])
    (h5 : d.startIndexMap = [1]) (h6 : d.indexVectorDim = 3) (h7 : d.sliceSizes = ![1, 1, 1])
    (x : (⟨3, ![G, N, D]⟩ : Shape).Idx → α) (idx : IVec ⟨4, ![G, n, D, 1]⟩ w) (g : Fin G) (j : Fin n) (c : Fin D) :
    Host.gather d x idx (ix3 g j c) = x (ix3 g ⟨min (idx (ix4 g j c 0)).toInt.toNat (N - 1), by omega⟩ c) := by
  obtain ⟨o, cs, ob, sb, sm, iv, ss, wf⟩ := d
  subst h1 h2 h3 h4 h5 h6 h7
  have hs (p) : (GatherDims.siIdx (⟨[], [1], [0, 2], [0, 2], [1], 3, ![1, 1, 1], wf⟩ : GatherDims ⟨3, ![G, N, D]⟩ ⟨4, ![G, n, D, 1]⟩ ⟨3, ![G, n, D]⟩)
      (ix3 g j c) ⟨0, p⟩) = ix4 g j c 0 := by
    funext a; refine Fin.ext ?_
    match a with
    | ⟨0, _⟩ => rfl
    | ⟨1, _⟩ => rfl
    | ⟨2, _⟩ => rfl
    | ⟨3, _⟩ => rfl
  unfold Host.gather
  congr 1
  funext a
  refine Fin.ext ?_
  match a with
  | ⟨0, _⟩ => show 0 + g.val + 0 = g.val; omega
  | ⟨1, _⟩ =>
    exact congrArg (fun z => min (idx z).toInt.toNat (N - 1) + 0 + 0) (hs Nat.one_pos)
  | ⟨2, _⟩ => show 0 + c.val + 0 = c.val; omega

end Cert.NsaMath
-- ==== Proof.W.RefBase.lean ====
/- The reference's shared arrays, and its compressions read at an index. -/
module

public import proofs.«01_k».proof.Proof.Gen.ReferenceIdeal.Run
public import proofs.«01_k».proof.Proof.W.Spec
public import proofs.«01_k».proof.Proof.W.Gather

@[expose] public section

set_option maxRecDepth 16384

noncomputable section

namespace Cert.ReferenceIdeal.W

open Cert.ReferenceIdeal Cert.ReferenceIdeal.Gen Cert.ReferenceIdeal.Value Cert.NsaMath
open Idealize.ShloMosaic Idealize.ShloMosaic.TcCoe Idealize.SL.Sem

/-- The chosen blocks. -/
def top (V0 : Valuation τ sig (Elt Ideal)) : IVec S2x16 32 :=
  (Host.topK S2x16 1 (FloatOps.cmpfTotal .gt) (res_main_v116 V0) sliceFits_S2x2048_S2x16).2

/-- The arrays the two programs share, as the reference computes them. -/
def arrs (V0 : Valuation τ sig (Elt Ideal)) : Arrays where
  Q b h s d := res_main_v6 V0 (ix4 b h s d)
  K b h s d := res_main_v7 V0 (ix4 b h s d)
  V b h s d := res_main_v8 V0 (ix4 b h s d)
  CK b h n d := res_main_v50 V0 (ix4 b h n d)
  I b j := top V0 (ix2 b j)
  pos s b p := V0 (Proc.devRef .tc main_arg1) (ix3 s b p)
  W1 e x := V0 (Proc.devRef .tc main_arg4) (ix2 e x)
  b1 x := V0 (Proc.devRef .tc main_arg5) (ix1 x)
  W2 e x := V0 (Proc.devRef .tc main_arg6) (ix2 e x)
  b2 x := V0 (Proc.devRef .tc main_arg7) (ix1 x)
  Wg e x := V0 (Proc.devRef .tc main_arg8) (ix2 e x)
  bg x := V0 (Proc.devRef .tc main_arg9) (ix1 x)

/-- The rows of a compressed block, as the host's table numbers them. -/
def rows (V0 : Valuation τ sig (Elt Ideal)) : IVec S127x32x1 32 :=
  (broadcastInDim S127x32x1 ![0, 1] bcast_S127x32_S127x32x1_0_1 (select (cmpi .slt (res_main_v17 V0) (broadcastInDim S127x32 ![] bcast_S_S127x32 (constantI S_ 32 0#32))) (addi (res_main_v17 V0) (broadcastInDim S127x32 ![] bcast_S_S127x32 (constantI S_ 32 2048#32))) (res_main_v17 V0)))

theorem word_row : ∀ (n : Fin 127) (r : Fin 32),
    min (Scalar.select (IntOp.cmpi .slt (IntOp.addi (IntOp.muli (BitVec.ofNat 32 n.val) 16#32) (BitVec.ofNat 32 r.val)) 0#32)
      (IntOp.addi (IntOp.addi (IntOp.muli (BitVec.ofNat 32 n.val) 16#32) (BitVec.ofNat 32 r.val)) 2048#32)
      (IntOp.addi (IntOp.muli (BitVec.ofNat 32 n.val) 16#32) (BitVec.ofNat 32 r.val))).toInt.toNat (2048 - 1) = n.val * 16 + r.val := by
  decide +kernel

theorem rows_at (V0 : Valuation τ sig (Elt Ideal)) (n : Fin 127) (r : Fin 32) :
    min (rows V0 (ix3 n r 0)).toInt.toNat (2048 - 1) = n.val * 16 + r.val := by
  rw [← word_row n r]
  pointwise [rows, res_main_v17]

/-- Rows of the token array by the table. -/
theorem tok_at (V0 : Valuation τ sig (Elt Ideal)) (x : FVec Ideal S2048x2x1024 .f32) (n : Fin 127) (r : Fin 32) (b : Fin 2) (e : Fin 1024) :
    Host.gather gather_S2048x2x1024_S127x32x1_S127x32x2x1024_23_0_n_n_0_2_121024 x (rows V0) (ix4 n r b e)
      = x (ix3 ⟨n.val * 16 + r.val, by omega⟩ b e) := by
  refine (gather_rows (by decide) _ rfl rfl rfl rfl rfl rfl rfl x (rows V0) n r b e).trans ?_
  congr 2
  exact Fin.ext (rows_at V0 n r)

theorem pos_at (V0 : Valuation τ sig (Elt Ideal)) (n : Fin 127) (r : Fin 32) (b : Fin 2) (p : Fin 3) :
    res_main_v28 V0 (ix4 n r b p) = (arrs V0).pos ⟨n.val * 16 + r.val, by omega⟩ b p := by
  refine (gather_rows (by decide) _ rfl rfl rfl rfl rfl rfl rfl (V0 (Proc.devRef .tc main_arg1)) (rows V0) n r b p).trans ?_
  unfold arrs
  congr 2
  exact Fin.ext (rows_at V0 n r)

/-- The compression of an array of heads: what the host computes of it, channel by channel. -/
def compOf (V0 : Valuation τ sig (Elt Ideal)) (X : FVec Ideal S2x16x2048x64 .f32) : FVec Ideal S127x2x1024 .f32 :=
  Host.divf (Host.reduceAdd (addf (Host.dotGeneral (F := Ideal) (φ₁ := .f32) (φ₂ := .f32) dot_S127x32x2x1024_S1024x1024_S127x32x2x1024_3_0_012_1_n_n none (maximumf (addf (Host.dotGeneral (F := Ideal) (φ₁ := .f32) (φ₂ := .f32) dot_S127x32x2x1027_S1027x1024_S127x32x2x1024_3_0_012_1_n_n none (concatenate S127x32x2x1027 3 [⟨S127x32x2x1024, (Host.gather gather_S2048x2x1024_S127x32x1_S127x32x2x1024_23_0_n_n_0_2_121024 (shapeCast _ (transpose S2048x2x16x64 [2, 0, 1, 3] X transposes_S2x16x2048x64_S2048x2x16x64_2_0_1_3) shapeCasts_S2048x2x16x64_S2048x2x1024) (rows V0))⟩, ⟨S127x32x2x3, (res_main_v28 V0)⟩] concatenates_S127x32x2x1024_S127x32x2x3_S127x32x2x1027_d3) (V0 (Proc.devRef .tc main_arg4))) (broadcastInDim S127x32x2x1024 ![0, 1, 2, 3] bcast_S1x1x1x1024_S127x32x2x1024_0_1_2_3 (broadcastInDim S1x1x1x1024 ![3] bcast_S1024_S1x1x1x1024_3 (V0 (Proc.devRef .tc main_arg5))))) (broadcastInDim S127x32x2x1024 ![] bcast_S_S127x32x2x1024 (constant S_ .f32 0x00000000#32))) (V0 (Proc.devRef .tc main_arg6))) (broadcastInDim S127x32x2x1024 ![0, 1, 2, 3] bcast_S1x1x1x1024_S127x32x2x1024_0_1_2_3 (broadcastInDim S1x1x1x1024 ![3] bcast_S1024_S1x1x1x1024_3 (V0 (Proc.devRef .tc main_arg7))))) (constant S_ .f32 0x00000000#32) reducesTo_S127x32x2x1024_S127x2x1024_d1 h_S_) (broadcastInDim S127x2x1024 ![] bcast_S_S127x2x1024 (constant S_ .f32 0x42000000#32))

theorem compOf_at (V0 : Valuation τ sig (Elt Ideal)) (X : FVec Ideal S2x16x2048x64 .f32) (n : Fin 127) (b : Fin 2) (c : Fin 1024) :
    compOf V0 X (ix3 n b c) = Ideal.div (∑ r : Fin 32, ((∑ x, hid (fun e => X (ix4 b (hd e) ⟨n.val * 16 + r.val, by omega⟩ (hc e)))
      ((arrs V0).pos ⟨n.val * 16 + r.val, by omega⟩ b) (fun e => (arrs V0).W1 e x) ((arrs V0).b1 x) * (arrs V0).W2 x c) + (arrs V0).b2 c)) ((32 : ℝ) : EReal) := by
  pointwise [compOf]
  simp only [tok_at, pos_at, c_32]
  refine congrArg (fun z => Ideal.div z _) (Finset.sum_congr rfl fun r _ => ?_)
  refine congrArg₂ (· + ·) (Finset.sum_congr rfl fun x _ => congrArg₂ (· * ·) ?_ rfl) rfl
  unfold hid
  refine congrArg₂ max (congrArg₂ (· + ·) (congrArg₂ (· + ·) (Finset.sum_congr rfl fun e _ => congrArg₂ (· * ·) ?_ rfl) rfl) rfl) rfl
  pointwise

theorem v50_eq (V0 : Valuation τ sig (Elt Ideal)) (b : Fin 2) (h : Fin 16) (n : Fin 127) (d : Fin 64) :
    res_main_v50 V0 (ix4 b h n d) = compOf V0 (res_main_v7 V0) (ix3 n b ⟨h.val * 64 + d.val, by omega⟩) := by
  have e : res_main_v50 V0 = transpose S2x16x127x64 [1, 2, 0, 3] (shapeCast _ (compOf V0 (res_main_v7 V0)) shapeCasts_S127x2x1024_S127x2x16x64) transposes_S127x2x16x64_S2x16x127x64_1_2_0_3 := rfl
  rw [e]
  generalize compOf V0 (res_main_v7 V0) = Y
  pointwise

end Cert.ReferenceIdeal.W
-- ==== Proof.W.Shared.lean ====
/- The two programs compute the same queries, keys, values, compressed keys and chosen blocks: from equal arguments, the kernel's
   host stretches and the reference's leave equal arrays. -/
module

public import proofs.«01_k».proof.Proof.W.HostShared
public import proofs.«01_k».proof.Proof.W.RefBase

@[expose] public section

set_option maxRecDepth 16384

noncomputable section

namespace Cert.NsaShared

open Cert.NsaMath Cert.KernelIdeal.W
open Idealize.ShloMosaic Idealize.ShloMosaic.TcCoe Idealize.ShloMosaic.StableHlo
open Idealize.SL Idealize.SL.Sem

/-! ## The reference's stages are the same functions -/

section stages
open Cert.ReferenceIdeal Cert.ReferenceIdeal.Gen Cert.ReferenceIdeal.Value

variable (R : Valuation τ sig (Elt Ideal))

theorem qkv_eq : res_main_v5 R = hQKV (R (Proc.devRef .tc main_arg0)) (R (Proc.devRef .tc main_arg2)) (R (Proc.devRef .tc main_arg3)) := by
  unfold res_main_v5 hQKV
  generalize R (Proc.devRef .tc main_arg0) = x
  generalize R (Proc.devRef .tc main_arg2) = w
  generalize R (Proc.devRef .tc main_arg3) = b
  rfl

theorem q_eq : res_main_v6 R = hQ (res_main_v5 R) := rfl
theorem k_eq : res_main_v7 R = hK (res_main_v5 R) := rfl
theorem v_eq : res_main_v8 R = hV (res_main_v5 R) := rfl

theorem rows_eq : res_main_v17 R = hRows := rfl

theorem pos_eq : res_main_v28 R = hPos (R (Proc.devRef .tc main_arg1)) := by
  unfold res_main_v28 hPos
  rw [rows_eq]
  generalize hRows = r
  generalize R (Proc.devRef .tc main_arg1) = x
  rfl

theorem cmp_eq : res_main_v50 R = hCmp (res_main_v7 R) (R (Proc.devRef .tc main_arg1)) (R (Proc.devRef .tc main_arg4))
    (R (Proc.devRef .tc main_arg5)) (R (Proc.devRef .tc main_arg6)) (R (Proc.devRef .tc main_arg7)) := by
  unfold res_main_v50 hCmp
  rw [rows_eq, pos_eq]
  generalize hRows = r
  generalize hPos (R (Proc.devRef .tc main_arg1)) = p
  generalize res_main_v7 R = x
  generalize R (Proc.devRef .tc main_arg4) = w1
  generalize R (Proc.devRef .tc main_arg5) = b1
  generalize R (Proc.devRef .tc main_arg6) = w2
  generalize R (Proc.devRef .tc main_arg7) = b2
  rfl

theorem score_eq : res_main_v102 R = hScore (res_main_v6 R) (res_main_v50 R) := by
  unfold res_main_v102 hScore
  generalize res_main_v6 R = x
  generalize res_main_v50 R = y
  rfl

theorem exp_eq : res_main_v109 R = hExp (res_main_v102 R) := by
  unfold res_main_v109 hExp
  generalize res_main_v102 R = x
  rfl

theorem imp_eq : res_main_v116 R = hImp (res_main_v109 R) := by
  unfold res_main_v116 hImp
  generalize res_main_v109 R = x
  rfl

end stages

/-! ## The arguments reach the calls unchanged -/

section keep
open Cert.KernelIdeal Cert.KernelIdeal.Gen

variable (m : (ℓ : Loc nD τ sig) → Buf (Elt Ideal) ℓ)

theorem arg1_V3 (c : Dev nD) : V3 m c (Proc.devRef .tc main_arg1) = V0 m c (Proc.devRef .tc main_arg1) :=
  (V3_of m c main_arg1 (by decide)).trans ((V2_of m c main_arg1 (by decide)).trans (V1_of m c main_arg1 (by decide)))
theorem arg2_V3 (c : Dev nD) : V3 m c (Proc.devRef .tc main_arg2) = V0 m c (Proc.devRef .tc main_arg2) :=
  (V3_of m c main_arg2 (by decide)).trans ((V2_of m c main_arg2 (by decide)).trans (V1_of m c main_arg2 (by decide)))
theorem arg3_V3 (c : Dev nD) : V3 m c (Proc.devRef .tc main_arg3) = V0 m c (Proc.devRef .tc main_arg3) :=
  (V3_of m c main_arg3 (by decide)).trans ((V2_of m c main_arg3 (by decide)).trans (V1_of m c main_arg3 (by decide)))
theorem arg4_V3 (c : Dev nD) : V3 m c (Proc.devRef .tc main_arg4) = V0 m c (Proc.devRef .tc main_arg4) :=
  (V3_of m c main_arg4 (by decide)).trans ((V2_of m c main_arg4 (by decide)).trans (V1_of m c main_arg4 (by decide)))
theorem arg5_V3 (c : Dev nD) : V3 m c (Proc.devRef .tc main_arg5) = V0 m c (Proc.devRef .tc main_arg5) :=
  (V3_of m c main_arg5 (by decide)).trans ((V2_of m c main_arg5 (by decide)).trans (V1_of m c main_arg5 (by decide)))
theorem arg6_V3 (c : Dev nD) : V3 m c (Proc.devRef .tc main_arg6) = V0 m c (Proc.devRef .tc main_arg6) :=
  (V3_of m c main_arg6 (by decide)).trans ((V2_of m c main_arg6 (by decide)).trans (V1_of m c main_arg6 (by decide)))
theorem arg7_V3 (c : Dev nD) : V3 m c (Proc.devRef .tc main_arg7) = V0 m c (Proc.devRef .tc main_arg7) :=
  (V3_of m c main_arg7 (by decide)).trans ((V2_of m c main_arg7 (by decide)).trans (V1_of m c main_arg7 (by decide)))
theorem arg8_V3 (c : Dev nD) : V3 m c (Proc.devRef .tc main_arg8) = V0 m c (Proc.devRef .tc main_arg8) :=
  (V3_of m c main_arg8 (by decide)).trans ((V2_of m c main_arg8 (by decide)).trans (V1_of m c main_arg8 (by decide)))
theorem arg9_V3 (c : Dev nD) : V3 m c (Proc.devRef .tc main_arg9) = V0 m c (Proc.devRef .tc main_arg9) :=
  (V3_of m c main_arg9 (by decide)).trans ((V2_of m c main_arg9 (by decide)).trans (V1_of m c main_arg9 (by decide)))

end keep

/-! ## From equal arguments, equal arrays -/

/-- The two programs' arguments agree. -/
structure Same (W : Valuation KernelIdeal.τ KernelIdeal.sig (Elt Ideal)) (R : Valuation ReferenceIdeal.τ ReferenceIdeal.sig (Elt Ideal)) : Prop where
  a0 : R (Proc.devRef .tc ReferenceIdeal.main_arg0) = W (Proc.devRef .tc KernelIdeal.main_arg0)
  a1 : R (Proc.devRef .tc ReferenceIdeal.main_arg1) = W (Proc.devRef .tc KernelIdeal.main_arg1)
  a2 : R (Proc.devRef .tc ReferenceIdeal.main_arg2) = W (Proc.devRef .tc KernelIdeal.main_arg2)
  a3 : R (Proc.devRef .tc ReferenceIdeal.main_arg3) = W (Proc.devRef .tc KernelIdeal.main_arg3)
  a4 : R (Proc.devRef .tc ReferenceIdeal.main_arg4) = W (Proc.devRef .tc KernelIdeal.main_arg4)
  a5 : R (Proc.devRef .tc ReferenceIdeal.main_arg5) = W (Proc.devRef .tc KernelIdeal.main_arg5)
  a6 : R (Proc.devRef .tc ReferenceIdeal.main_arg6) = W (Proc.devRef .tc KernelIdeal.main_arg6)
  a7 : R (Proc.devRef .tc ReferenceIdeal.main_arg7) = W (Proc.devRef .tc KernelIdeal.main_arg7)
  a8 : R (Proc.devRef .tc ReferenceIdeal.main_arg8) = W (Proc.devRef .tc KernelIdeal.main_arg8)
  a9 : R (Proc.devRef .tc ReferenceIdeal.main_arg9) = W (Proc.devRef .tc KernelIdeal.main_arg9)

variable (m : (ℓ : Loc KernelIdeal.nD KernelIdeal.τ KernelIdeal.sig) → Buf (Elt Ideal) ℓ) (c : Dev KernelIdeal.nD)
  (R : Valuation ReferenceIdeal.τ ReferenceIdeal.sig (Elt Ideal)) (h : Same (KernelIdeal.Gen.V0 m c) R)
include h

theorem same_v5 : KernelIdeal.Gen.V3 m c (Proc.devRef .tc KernelIdeal.main_v5) = ReferenceIdeal.Value.res_main_v5 R := by
  refine (KernelIdeal.W.v5_eq m c).trans (Eq.trans ?_ (qkv_eq R).symm)
  rw [h.a0, h.a2, h.a3]

theorem same_v6 : KernelIdeal.Gen.V3 m c (Proc.devRef .tc KernelIdeal.main_v6) = ReferenceIdeal.Value.res_main_v6 R :=
  (KernelIdeal.W.v6_eq m c).trans ((congrArg hQ (same_v5 m c R h)).trans (q_eq R).symm)
theorem same_v7 : KernelIdeal.Gen.V3 m c (Proc.devRef .tc KernelIdeal.main_v7) = ReferenceIdeal.Value.res_main_v7 R :=
  (KernelIdeal.W.v7_eq m c).trans ((congrArg hK (same_v5 m c R h)).trans (k_eq R).symm)
theorem same_v8 : KernelIdeal.Gen.V3 m c (Proc.devRef .tc KernelIdeal.main_v8) = ReferenceIdeal.Value.res_main_v8 R :=
  (KernelIdeal.W.v8_eq m c).trans ((congrArg hV (same_v5 m c R h)).trans (v_eq R).symm)

theorem same_v50 : KernelIdeal.Gen.V3 m c (Proc.devRef .tc KernelIdeal.main_v50) = ReferenceIdeal.Value.res_main_v50 R := by
  refine (KernelIdeal.W.v50_eq m c).trans (Eq.trans ?_ (cmp_eq R).symm)
  rw [h.a1, h.a4, h.a5, h.a6, h.a7]
  exact congrArg (fun X => hCmp X _ _ _ _ _) (same_v7 m c R h)

theorem same_imp : KernelIdeal.Gen.V3 m c (Proc.devRef .tc KernelIdeal.main_v74) = ReferenceIdeal.Value.res_main_v116 R := by
  refine (KernelIdeal.W.v74_eq m c).trans (Eq.trans ?_ (imp_eq R).symm)
  refine congrArg hImp (Eq.trans (congrArg hExp ?_) (exp_eq R).symm)
  exact (congrArg₂ hScore (same_v6 m c R h) (same_v50 m c R h)).trans (score_eq R).symm

theorem same_top : KernelIdeal.Gen.V3 m c (Proc.devRef .tc KernelIdeal.main_indices) = ReferenceIdeal.W.top R := by
  refine (KernelIdeal.Run.indices_V3 m c).trans ?_
  exact congrArg (fun X => (Host.topK ReferenceIdeal.S2x16 1 (FloatOps.cmpfTotal (F := Ideal) (φ := .f32) .gt) X ReferenceIdeal.Gen.sliceFits_S2x2048_S2x16).2) (same_imp m c R h)

omit m c R h in
theorem ext_of {A B : Arrays} (h1 : A.Q = B.Q) (h2 : A.K = B.K) (h3 : A.V = B.V) (h4 : A.CK = B.CK) (h5 : A.I = B.I) (h6 : A.pos = B.pos)
    (h7 : A.W1 = B.W1) (h8 : A.b1 = B.b1) (h9 : A.W2 = B.W2) (h10 : A.b2 = B.b2) (h11 : A.Wg = B.Wg) (h12 : A.bg = B.bg) : A = B := by
  cases A
  cases B
  dsimp only at *
  subst_vars
  rfl

/-- From equal arguments the two programs share their arrays. -/
theorem arrs_eq : KernelIdeal.W.arrs m c = ReferenceIdeal.W.arrs R := by
  refine ext_of ?_ ?_ ?_ ?_ ?_ ?_ ?_ ?_ ?_ ?_ ?_ ?_ <;> unfold KernelIdeal.W.arrs ReferenceIdeal.W.arrs <;> dsimp only
  · rw [same_v6 m c R h]
  · rw [same_v7 m c R h]
  · rw [same_v8 m c R h]
  · rw [same_v50 m c R h]
  · rw [same_top m c R h]
  · rw [arg1_V3, h.a1]
  · rw [arg4_V3, h.a4]
  · rw [arg5_V3, h.a5]
  · rw [arg6_V3, h.a6]
  · rw [arg7_V3, h.a7]
  · rw [arg8_V3, h.a8]
  · rw [arg9_V3, h.a9]

end Cert.NsaShared

end
-- ==== Proof.W.Fold.lean ====
/- Folds and words: the largest of real numbers, of three, a conjunction of ones, and the row a chosen block's place names. -/
module

public import proofs.«01_k».proof.Proof.W.Spec

@[expose] public section

noncomputable section

namespace Cert.NsaMath

open Idealize.ShloMosaic

/-- The running maximum from minus infinity of real numbers is real. -/
theorem fold_max_real {ι : Type*} [Fintype ι] [Nonempty ι] {f : ι → EReal} (h : ∀ i, IsReal (f i)) :
    IsReal (max (Ideal.ofBits .f32 0xFF800000#32) (Finset.univ.fold max (Ideal.ofBits .f32 0xFF800000#32) f)) := by
  rw [c_bot, max_eq_right bot_le]
  exact IsReal.sup h

/-- The running maximum from minus infinity of three values. -/
theorem fold_max_three (f : Fin 3 → EReal) :
    max (Ideal.ofBits .f32 0xFF800000#32) (Finset.univ.fold max (Ideal.ofBits .f32 0xFF800000#32) f) = max (max (f 0) (f 1)) (f 2) := by
  rw [c_bot, max_eq_right bot_le]
  have e : (Finset.univ : Finset (Fin 3)) = {0, 1, 2} := rfl
  rw [e]
  simp [max_assoc]

/-- A maximum over the last axis of four, as a running maximum along it. -/
theorem reduce_last4 {n0 n1 n2 n3 : ℕ} {u : Shape} (h : (⟨4, ![n0, n1, n2, n3]⟩ : Shape).ReducesTo [3] ⟨3, ![n0, n1, n2]⟩)
    (X : FVec Ideal (⟨4, ![n0, n1, n2, n3]⟩ : Shape) .f32) (z : u.Idx → EReal) (hu : 0 < u.numel) (a : Fin n0) (b : Fin n1) (c : Fin n2) :
    @Eq EReal (Host.reduce (FloatOps.maximumf (F := Ideal) (φ := .f32)) X z h hu (ix3 a b c)) (Finset.univ.fold max (z (Shape.Idx.first hu)) (fun k => X (ix4 a b c k))) := by
  rw [Host.reduce_eq_fold]
  exact Shape.ReducesTo.fold_fiber_r4_a3 h _ max _ X

/-- A maximum over the last axis of three, as a running maximum along it. -/
theorem reduce_last3 {n0 n1 n2 : ℕ} {u : Shape} (h : (⟨3, ![n0, n1, n2]⟩ : Shape).ReducesTo [2] ⟨2, ![n0, n1]⟩)
    (X : FVec Ideal (⟨3, ![n0, n1, n2]⟩ : Shape) .f32) (z : u.Idx → EReal) (hu : 0 < u.numel) (a : Fin n0) (b : Fin n1) :
    @Eq EReal (Host.reduce (FloatOps.maximumf (F := Ideal) (φ := .f32)) X z h hu (ix2 a b)) (Finset.univ.fold max (z (Shape.Idx.first hu)) (fun k => X (ix3 a b k))) := by
  rw [Host.reduce_eq_fold]
  exact Shape.ReducesTo.fold_fiber_r3_a2 h _ max _ X

/-- The maximum over the last axis of four, of real numbers, is real. -/
theorem shift_last4 {n0 n1 n2 n3 : ℕ} [NeZero n3] {u : Shape} (h : (⟨4, ![n0, n1, n2, n3]⟩ : Shape).ReducesTo [3] ⟨3, ![n0, n1, n2]⟩)
    (X : FVec Ideal (⟨4, ![n0, n1, n2, n3]⟩ : Shape) .f32) (z : u.Idx → EReal) (hu : 0 < u.numel) (hz : z (Shape.Idx.first hu) = ⊥)
    (a : Fin n0) (b : Fin n1) (c : Fin n2) (hX : ∀ k, IsReal (X (ix4 a b c k))) :
    IsReal (max (Ideal.ofBits .f32 0xFF800000#32) (Host.reduce (FloatOps.maximumf (F := Ideal) (φ := .f32)) X z h hu (ix3 a b c))) := by
  rw [reduce_last4, hz, ← c_bot]
  haveI : Nonempty (Fin n3) := ⟨0⟩
  exact fold_max_real hX

/-- The maximum over the last axis of three, of real numbers, is real. -/
theorem shift_last3 {n0 n1 n2 : ℕ} [NeZero n2] {u : Shape} (h : (⟨3, ![n0, n1, n2]⟩ : Shape).ReducesTo [2] ⟨2, ![n0, n1]⟩)
    (X : FVec Ideal (⟨3, ![n0, n1, n2]⟩ : Shape) .f32) (z : u.Idx → EReal) (hu : 0 < u.numel) (hz : z (Shape.Idx.first hu) = ⊥)
    (a : Fin n0) (b : Fin n1) (hX : ∀ k, IsReal (X (ix3 a b k))) :
    IsReal (max (Ideal.ofBits .f32 0xFF800000#32) (Host.reduce (FloatOps.maximumf (F := Ideal) (φ := .f32)) X z h hu (ix2 a b))) := by
  rw [reduce_last3, hz, ← c_bot]
  haveI : Nonempty (Fin n2) := ⟨0⟩
  exact fold_max_real hX

/-- The maximum over an axis of three. -/
theorem shift_three {n0 n1 : ℕ} {u : Shape} (h : (⟨3, ![n0, n1, 3]⟩ : Shape).ReducesTo [2] ⟨2, ![n0, n1]⟩)
    (X : FVec Ideal (⟨3, ![n0, n1, 3]⟩ : Shape) .f32) (z : u.Idx → EReal) (hu : 0 < u.numel) (hz : z (Shape.Idx.first hu) = ⊥)
    (a : Fin n0) (b : Fin n1) :
    max (Ideal.ofBits .f32 0xFF800000#32) (Host.reduce (FloatOps.maximumf (F := Ideal) (φ := .f32)) X z h hu (ix2 a b))
      = max (max (X (ix3 a b 0)) (X (ix3 a b 1))) (X (ix3 a b 2)) := by
  rw [reduce_last3, hz, ← c_bot]
  exact fold_max_three fun k => X (ix3 a b k)

/-- A conjunction of ones is one. -/
theorem fold_andi_one {ι : Type*} (s : Finset ι) (f : ι → BitVec 1) (h : ∀ i, f i = 1#1) : s.fold IntOp.andi 1#1 f = 1#1 := by
  classical
  induction s using Finset.induction_on with
  | empty => rfl
  | insert a s ha ih => rw [Finset.fold_insert ha, ih, h]; rfl

/-- The row a chosen block's place names, cut at the last row: a word at most 2047. -/
theorem word_sel (w : BitVec 32) (hw : w.toNat < 2048) (r : Fin 64) :
    IntOp.minsi 2047#32 (IntOp.maxsi 0#32 (IntOp.addi (IntOp.muli w 64#32) (BitVec.ofNat 32 r.val))) = BitVec.ofNat 32 (selRow w r).val := by
  have e : IntOp.addi (IntOp.muli w 64#32) (BitVec.ofNat 32 r.val) = BitVec.ofNat 32 (w.toNat * 64 + r.val) := by
    apply BitVec.eq_of_toNat_eq
    simp [IntOp.addi, IntOp.muli]
  rw [e]
  have hk : w.toNat * 64 + r.val < 2 ^ 31 := by omega
  have hs : (selRow w r).val = min (w.toNat * 64 + r.val) 2047 := rfl
  rw [hs]
  generalize w.toNat * 64 + r.val = k at hk ⊢
  have ek : (BitVec.ofNat 32 k).toInt = k := by
    rw [BitVec.toInt_ofNat']
    simp only [Int.bmod_def]
    omega
  have e1 : IntOp.maxsi 0#32 (BitVec.ofNat 32 k) = BitVec.ofNat 32 k := by
    unfold IntOp.maxsi
    rw [if_neg]
    simp [BitVec.slt, ek]
  rw [e1]
  unfold IntOp.minsi
  have e2 : (2047#32).toInt = 2047 := rfl
  by_cases h : 2047 < k
  · rw [if_pos (by simp only [BitVec.slt, ek, e2]; simpa using h), min_eq_right (by omega)]
  · rw [if_neg (by simp only [BitVec.slt, ek, e2]; simpa using h), min_eq_left (by omega)]

/-- A row word read as the gather reads it. -/
theorem word_fix : ∀ k : Fin 2048, min (Scalar.select (IntOp.cmpi .slt (BitVec.ofNat 32 k.val) 0#32) (IntOp.addi (BitVec.ofNat 32 k.val) 2048#32)
    (BitVec.ofNat 32 k.val)).toInt.toNat (2048 - 1) = k.val := by
  decide +kernel

/-- A row word lies in the array. -/
theorem word_in : ∀ k : Fin 2048, IntOp.andi
    (IntOp.cmpi .sge (Scalar.select (IntOp.cmpi .slt (BitVec.ofNat 32 k.val) 0#32) (IntOp.addi (BitVec.ofNat 32 k.val) 2048#32) (BitVec.ofNat 32 k.val)) 0#32)
    (IntOp.cmpi .sle (Scalar.select (IntOp.cmpi .slt (BitVec.ofNat 32 k.val) 0#32) (IntOp.addi (BitVec.ofNat 32 k.val) 2048#32) (BitVec.ofNat 32 k.val)) 2047#32)
    = 1#1 := by
  decide +kernel

end Cert.NsaMath
-- ==== Proof.W.RefWin.lean ====
/- The reference's window branch at an index. -/
module

public import proofs.«01_k».proof.Proof.W.RefBase
public import proofs.«01_k».proof.Proof.W.Fold

@[expose] public section

set_option maxRecDepth 16384

noncomputable section

namespace Cert.ReferenceIdeal.W

open Cert.ReferenceIdeal Cert.ReferenceIdeal.Gen Cert.ReferenceIdeal.Value Cert.NsaMath
open Idealize.ShloMosaic Idealize.ShloMosaic.TcCoe Idealize.SL.Sem

/-- The shared arrays hold real numbers. -/
structure Real (A : Arrays) : Prop where
  Q : ∀ b h s d, IsReal (A.Q b h s d)
  K : ∀ b h s d, IsReal (A.K b h s d)
  V : ∀ b h s d, IsReal (A.V b h s d)
  CK : ∀ b h n d, IsReal (A.CK b h n d)
  pos : ∀ s b p, IsReal (A.pos s b p)
  W1 : ∀ e x, IsReal (A.W1 e x)
  b1 : ∀ x, IsReal (A.b1 x)
  W2 : ∀ e x, IsReal (A.W2 e x)
  b2 : ∀ x, IsReal (A.b2 x)

theorem v167_at (V0 : Valuation τ sig (Elt Ideal)) (b : Fin 2) (h : Fin 16) (s : Fin 2048) (j : Fin 512) :
    @Eq EReal (res_main_v167 V0 (ix4 b h s j)) (Ideal.div (∑ d, (arrs V0).Q b h s d * (arrs V0).K b h ⟨1536 + j.val, by omega⟩ d) ((8 : ℝ) : EReal)) := by
  rw [← c_8]
  unfold arrs
  pointwise [res_main_v167]

/-- The pieces of the window's softmax, each at an index. -/
theorem win_max (R : FVec Ideal S2x16x2048 .f32) (b : Fin 2) (h : Fin 16) (s : Fin 2048) : maximumf (broadcastInDim S2x16x2048 ![] bcast_S_S2x16x2048 (constant S_ .f32 0xFF800000#32)) R (ix3 b h s) = max (Ideal.ofBits .f32 0xFF800000#32) (R (ix3 b h s)) := by pointwise

theorem win_bc (Y : FVec Ideal S2x16x2048 .f32) (b : Fin 2) (h : Fin 16) (s : Fin 2048) (j : Fin 512) :  broadcastInDim S2x16x2048x512 ![0, 1, 2, 3] bcast_S2x16x2048x1_S2x16x2048x512_0_1_2_3 (broadcastInDim S2x16x2048x1 ![0, 1, 2] bcast_S2x16x2048_S2x16x2048x1_0_1_2 Y) (ix4 b h s j) = Y (ix3 b h s) := by pointwise

theorem win_exp (X Y : FVec Ideal S2x16x2048x512 .f32) (b : Fin 2) (h : Fin 16) (s : Fin 2048) (j : Fin 512) : Host.exp (subf X Y) (ix4 b h s j) = Ideal.exp (X (ix4 b h s j) - Y (ix4 b h s j)) := by pointwise

theorem win_real (X : FVec Ideal S2x16x2048x512 .f32) (b : Fin 2) (h : Fin 16) (s : Fin 2048) (hX : ∀ j, IsReal (X (ix4 b h s j))) : IsReal (max (Ideal.ofBits .f32 0xFF800000#32) (Host.reduce (α := EReal) (FloatOps.maximumf (F := Ideal) (φ := .f32)) X (constant (F := Ideal) S_ .f32 0xFF800000#32) reducesTo_S2x16x2048x512_S2x16x2048_d3 h_S_ (ix3 b h s))) :=
  shift_last4 reducesTo_S2x16x2048x512_S2x16x2048_d3 X (constant (F := Ideal) S_ .f32 0xFF800000#32) h_S_ c_bot b h s hX
/-- The window's exponentials, of any scores. -/
def winExp (X : FVec Ideal S2x16x2048x512 .f32) : FVec Ideal S2x16x2048x512 .f32 :=
  Host.exp (subf X (broadcastInDim S2x16x2048x512 ![0, 1, 2, 3] bcast_S2x16x2048x1_S2x16x2048x512_0_1_2_3 (broadcastInDim S2x16x2048x1 ![0, 1, 2] bcast_S2x16x2048_S2x16x2048x1_0_1_2 (maximumf (broadcastInDim S2x16x2048 ![] bcast_S_S2x16x2048 (constant S_ .f32 0xFF800000#32)) (Host.reduce FloatOps.maximumf X (constant S_ .f32 0xFF800000#32) reducesTo_S2x16x2048x512_S2x16x2048_d3 h_S_)))))

theorem winExp_at (X : FVec Ideal S2x16x2048x512 .f32) (b : Fin 2) (h : Fin 16) (s : Fin 2048) (hX : ∀ j, IsReal (X (ix4 b h s j))) :
    ∃ M, IsReal M ∧ ∀ j, winExp X (ix4 b h s j) = Ideal.exp (X (ix4 b h s j) - M) := by
  refine ⟨_, win_real X b h s hX, fun j => ?_⟩
  exact (win_exp X _ b h s j).trans (congrArg (fun z => Ideal.exp (X (ix4 b h s j) - z)) ((win_bc _ b h s j).trans (win_max _ b h s)))

theorem v174_eq (V0 : Valuation τ sig (Elt Ideal)) : res_main_v174 V0 = winExp (res_main_v167 V0) := rfl

theorem v174_at (V0 : Valuation τ sig (Elt Ideal)) (hA : Real (arrs V0)) (b : Fin 2) (h : Fin 16) (s : Fin 2048) :
    ∃ M, IsReal M ∧ ∀ j : Fin 512, @Eq EReal (res_main_v174 V0 (ix4 b h s j))
      (Ideal.exp (Ideal.div (∑ d, (arrs V0).Q b h s d * (arrs V0).K b h ⟨1536 + j.val, by omega⟩ d) ((8 : ℝ) : EReal) - M)) := by
  obtain ⟨M, hM, e⟩ := winExp_at (res_main_v167 V0) b h s fun k => by
    rw [v167_at]
    exact (IsReal.sum fun d => (hA.Q _ _ _ _).mul (hA.K _ _ _ _)).div (by norm_num)
  refine ⟨M, hM, fun j => ?_⟩
  rw [← v167_at]
  exact (congrFun (v174_eq V0) _).trans (e j)

theorem v186_at (V0 : Valuation τ sig (Elt Ideal)) (hA : Real (arrs V0)) (b : Fin 2) (s : Fin 2048) (c : Fin 1024) :
    @Eq EReal (res_main_v186 V0 (ix3 b s c)) ((arrs V0).tW b s c) := by
  obtain ⟨M, hM, e⟩ := v174_at V0 hA b (hd c) s
  unfold Arrays.tW
  rw [← attn_eq _ _ _ M (fun _ => hA.Q _ _ _ _) (fun _ _ => hA.K _ _ _ _) (fun _ => hA.V _ _ _ _) hM]
  pointwise [res_main_v186]
  simp only [e]
  rfl

theorem v80_at (V0 : Valuation τ sig (Elt Ideal)) (b : Fin 2) (h : Fin 16) (n : Fin 127) :
    @Eq EReal (res_main_v80 V0 (ix4 b h 0 n)) (Ideal.div (∑ d, (arrs V0).qm b h d * (arrs V0).CK b h n d) ((8 : ℝ) : EReal)) := by
  rw [← c_8]
  unfold Arrays.qm arrs
  rw [← c_2048]
  pointwise [res_main_v80]

theorem qm_real {A : Arrays} (hA : Real A) (b : Fin 2) (h : Fin 16) (d : Fin 64) : IsReal (A.qm b h d) :=
  (IsReal.sum fun s => hA.Q _ _ _ _).div (by norm_num)

theorem hidden_real {A : Arrays} (hA : Real A) (b : Fin 2) (s : Fin 2048) (x : Fin 1024) : IsReal (A.hidden b s x) :=
  hid_real (fun _ => hA.V _ _ _ _) (fun _ => hA.pos _ _ _) (fun _ => hA.W1 _ _) (hA.b1 _)

theorem CV_real {A : Arrays} (hA : Real A) (b : Fin 2) (n : Fin 127) (c : Fin 1024) : IsReal (A.CV b n c) :=
  comp_real (fun _ _ => hidden_real hA _ _ _) (fun _ => hA.W2 _ _) (hA.b2 _)

theorem v87_at (V0 : Valuation τ sig (Elt Ideal)) (hA : Real (arrs V0)) (b : Fin 2) (h : Fin 16) :
    ∃ M, IsReal M ∧ ∀ n : Fin 127, @Eq EReal (res_main_v87 V0 (ix4 b h 0 n))
      (Ideal.exp (Ideal.div (∑ d, (arrs V0).qm b h d * (arrs V0).CK b h n d) ((8 : ℝ) : EReal) - M)) := by
  refine ⟨max (Ideal.ofBits .f32 0xFF800000#32) (Finset.univ.fold max (Ideal.ofBits .f32 0xFF800000#32)
    fun k : Fin 127 => (res_main_v80 V0 (ix4 b h 0 k) : EReal)), fold_max_real fun k => ?_, fun j => ?_⟩
  · rw [v80_at]
    exact (IsReal.sum fun d => (qm_real hA _ _ _).mul (hA.CK _ _ _ _)).div (by norm_num)
  · pointwise [res_main_v87]
    rw [v80_at]
    exact congrArg (fun z => Ideal.exp (_ - max _ z)) (Shape.ReducesTo.fold_fiber_r4_a3 _ _ _ _ _)

theorem cv_at (V0 : Valuation τ sig (Elt Ideal)) (hA : Real (arrs V0)) (n : Fin 127) (b : Fin 2) (c : Fin 1024) :
    @Eq EReal (compOf V0 (res_main_v8 V0) (ix3 n b c)) ((arrs V0).CV b n c) := by
  rw [compOf_at]
  exact comp_eq (fun r x => (arrs V0).hidden b ⟨n.val * 16 + r.val, by omega⟩ x) _ _ (fun _ _ => hidden_real hA _ _ _) (fun _ => hA.W2 _ _) (hA.b2 _)

/-- The compressed branch, its compression named. -/
theorem v182_comp (V0 : Valuation τ sig (Elt Ideal)) : res_main_v182 V0 = shapeCast _ (transpose S2x2048x16x64 [0, 2, 1, 3] (broadcastInDim S2x16x2048x64 ![0, 1, 2, 3] bcast_S2x16x1x64_S2x16x2048x64_0_1_2_3 (Host.dotGeneral (F := Ideal) (φ₁ := .f32) (φ₂ := .f32) dot_S2x16x1x127_S2x16x127x64_S2x16x1x64_3_2_2_3_01_01 none (Host.divf (F := Ideal) (φ := .f32) (res_main_v87 V0) (broadcastInDim S2x16x1x127 ![0, 1, 2, 3] bcast_S2x16x1x1_S2x16x1x127_0_1_2_3 (broadcastInDim S2x16x1x1 ![0, 1, 2] bcast_S2x16x1_S2x16x1x1_0_1_2 (Host.reduceAdd (F := Ideal) (φ := .f32) (res_main_v87 V0) (constant S_ .f32 0x00000000#32) reducesTo_S2x16x1x127_S2x16x1_d3 h_S_)))) (transpose S2x16x127x64 [1, 2, 0, 3] (shapeCast _ (compOf V0 (res_main_v8 V0)) shapeCasts_S127x2x1024_S127x2x16x64) transposes_S127x2x16x64_S2x16x127x64_1_2_0_3))) transposes_S2x16x2048x64_S2x2048x16x64_0_2_1_3) shapeCasts_S2x2048x16x64_S2x2048x1024 := rfl

theorem v182_at (V0 : Valuation τ sig (Elt Ideal)) (hA : Real (arrs V0)) (b : Fin 2) (s : Fin 2048) (c : Fin 1024) :
    @Eq EReal (res_main_v182 V0 (ix3 b s c)) ((arrs V0).tC b c) := by
  obtain ⟨M, hM, e⟩ := v87_at V0 hA b (hd c)
  unfold Arrays.tC
  rw [← attn_eq _ _ _ M (fun _ => qm_real hA _ _ _) (fun _ _ => hA.CK _ _ _ _) (fun _ => CV_real hA _ _ _) hM]
  rw [v182_comp]
  simp only [← cv_at V0 hA]
  generalize compOf V0 (res_main_v8 V0) = Y
  pointwise
  simp only [e]

end Cert.ReferenceIdeal.W
-- ==== Proof.W.Reals.lean ====
/- From real arguments the shared arrays are real: the projections, and the compressed keys over them. -/
module

public import proofs.«01_k».proof.Proof.W.RefWin

@[expose] public section

set_option maxRecDepth 16384

noncomputable section

namespace Cert.ReferenceIdeal.W

open Cert.ReferenceIdeal Cert.ReferenceIdeal.Gen Cert.ReferenceIdeal.Value Cert.NsaMath
open Idealize.ShloMosaic Idealize.ShloMosaic.TcCoe Idealize.SL.Sem
open scoped BigOperators

/-- The arguments the precondition names are real. -/
structure RealArgs (V0 : Valuation τ sig (Elt Ideal)) : Prop where
  a0 : ∀ i, IsReal (V0 (Proc.devRef .tc main_arg0) i)
  a1 : ∀ i, IsReal (V0 (Proc.devRef .tc main_arg1) i)
  a2 : ∀ i, IsReal (V0 (Proc.devRef .tc main_arg2) i)
  a3 : ∀ i, IsReal (V0 (Proc.devRef .tc main_arg3) i)
  a4 : ∀ i, IsReal (V0 (Proc.devRef .tc main_arg4) i)
  a5 : ∀ i, IsReal (V0 (Proc.devRef .tc main_arg5) i)
  a6 : ∀ i, IsReal (V0 (Proc.devRef .tc main_arg6) i)
  a7 : ∀ i, IsReal (V0 (Proc.devRef .tc main_arg7) i)

/-- The projection, as a function of its three arrays. -/
def proj (x : FVec Ideal S2048x2x1024 .f32) (w : FVec Ideal S1024x3072 .f32) (b : FVec Ideal S3072 .f32) : FVec Ideal S2x16x2048x192 .f32 :=
  transpose S2x16x2048x192 [1, 2, 0, 3] (shapeCast _ (addf (Host.dotGeneral (F := Ideal) (φ₁ := .f32) (φ₂ := .f32) dot_S2048x2x1024_S1024x3072_S2048x2x3072_2_0_01_1_n_n none x w)
    (broadcastInDim S2048x2x3072 ![0, 1, 2] bcast_S1x1x3072_S2048x2x3072_0_1_2 (broadcastInDim S1x1x3072 ![2] bcast_S3072_S1x1x3072_2 b)))
    shapeCasts_S2048x2x3072_S2048x2x16x192) transposes_S2048x2x16x192_S2x16x2048x192_1_2_0_3

theorem proj_at (x : FVec Ideal S2048x2x1024 .f32) (w : FVec Ideal S1024x3072 .f32) (b : FVec Ideal S3072 .f32) (i : Fin 2) (h : Fin 16) (s : Fin 2048) (k : Fin 192) :
    proj x w b (ix4 i h s k) = (∑ e, x (ix3 s i e) * w (ix2 e ⟨h.val * 192 + k.val, by omega⟩)) + b (ix1 ⟨h.val * 192 + k.val, by omega⟩) := by
  pointwise [proj]

variable (V0 : Valuation τ sig (Elt Ideal)) (hr : RealArgs V0)
include hr

theorem v5_real (i : Fin 2) (h : Fin 16) (s : Fin 2048) (k : Fin 192) : IsReal (res_main_v5 V0 (ix4 i h s k)) := by
  have e : res_main_v5 V0 = proj (V0 (Proc.devRef .tc main_arg0)) (V0 (Proc.devRef .tc main_arg2)) (V0 (Proc.devRef .tc main_arg3)) := rfl
  rw [e]
  have q := proj_at (V0 (Proc.devRef .tc main_arg0)) (V0 (Proc.devRef .tc main_arg2)) (V0 (Proc.devRef .tc main_arg3)) i h s k
  rw [q]
  exact (IsReal.sum fun e => (hr.a0 _).mul (hr.a2 _)).add (hr.a3 _)

theorem v6_real (i : Fin 2) (h : Fin 16) (s : Fin 2048) (d : Fin 64) : IsReal (res_main_v6 V0 (ix4 i h s d)) := by
  have e : @Eq EReal (res_main_v6 V0 (ix4 i h s d)) (res_main_v5 V0 (ix4 i h s ⟨d.val, by omega⟩)) := by
    unfold res_main_v6
    generalize res_main_v5 V0 = Y
    pointwise
  rw [e]
  exact v5_real V0 hr _ _ _ _

theorem v7_real (i : Fin 2) (h : Fin 16) (s : Fin 2048) (d : Fin 64) : IsReal (res_main_v7 V0 (ix4 i h s d)) := by
  have e : @Eq EReal (res_main_v7 V0 (ix4 i h s d)) (res_main_v5 V0 (ix4 i h s ⟨64 + d.val, by omega⟩)) := by
    unfold res_main_v7
    generalize res_main_v5 V0 = Y
    pointwise
  rw [e]
  exact v5_real V0 hr _ _ _ _

theorem v8_real (i : Fin 2) (h : Fin 16) (s : Fin 2048) (d : Fin 64) : IsReal (res_main_v8 V0 (ix4 i h s d)) := by
  have e : @Eq EReal (res_main_v8 V0 (ix4 i h s d)) (res_main_v5 V0 (ix4 i h s ⟨128 + d.val, by omega⟩)) := by
    unfold res_main_v8
    generalize res_main_v5 V0 = Y
    pointwise
  rw [e]
  exact v5_real V0 hr _ _ _ _

theorem v50_real (b : Fin 2) (h : Fin 16) (n : Fin 127) (d : Fin 64) : IsReal (res_main_v50 V0 (ix4 b h n d)) := by
  have e : @Eq EReal (res_main_v50 V0 (ix4 b h n d)) _ := (v50_eq V0 b h n d).trans (compOf_at V0 (res_main_v7 V0) n b ⟨h.val * 64 + d.val, by omega⟩)
  rw [e]
  refine IsReal.div (IsReal.sum fun r => (IsReal.sum fun x => IsReal.mul (hid_real (fun e => ?_) (fun p => ?_) (fun e => ?_) ?_) ?_).add ?_) (by norm_num)
  · exact v7_real V0 hr _ _ _ _
  · exact hr.a1 _
  · exact hr.a4 _
  · exact hr.a5 _
  · exact hr.a6 _
  · exact hr.a7 _

/-- The shared arrays are real. -/
theorem real_arrs : Real (arrs V0) where
  Q b h s d := v6_real V0 hr b h s d
  K b h s d := v7_real V0 hr b h s d
  V b h s d := v8_real V0 hr b h s d
  CK b h n d := v50_real V0 hr b h n d
  pos s b p := hr.a1 (ix3 s b p)
  W1 e x := hr.a4 (ix2 e x)
  b1 x := hr.a5 (ix1 x)
  W2 e x := hr.a6 (ix2 e x)
  b2 x := hr.a7 (ix1 x)

end Cert.ReferenceIdeal.W

end
-- ==== Proof.W.RefSlc.lean ====
/- The reference's branch over the chosen blocks, at an index. -/
module

public import proofs.«01_k».proof.Proof.W.RefWin
public import proofs.«01_k».proof.Proof.R.TableRange
public import Idealize.ShloMosaic.Lib.ReduceAll

@[expose] public section

set_option maxRecDepth 16384

noncomputable section

namespace Cert.ReferenceIdeal.W

open Cert.ReferenceIdeal Cert.ReferenceIdeal.Gen Cert.ReferenceIdeal.Value Cert.NsaMath
open Idealize.ShloMosaic Idealize.ShloMosaic.TcCoe Idealize.SL.Sem

theorem top_lt (V0 : Valuation τ sig (Elt Ideal)) (i : S2x16.Idx) : (top V0 i).toNat < 2048 := Cert.TableRange.topK_lt _ _ _ _

/-- The row words, any chosen blocks. -/
theorem v141_at (V0 : Valuation τ sig (Elt Ideal)) (b : Fin 2) (h : Fin 16) (j : Fin 1024) (d : Fin 64) :
    @Eq (BitVec 32) (res_main_v141 V0 (ix3 ⟨b.val * 16 + h.val, by omega⟩ j d)) (BitVec.ofNat 32 ((arrs V0).sel b j).val) := by
  refine Eq.trans ?_ (word_sel (top V0 (ix2 b ⟨j.val / 64, by omega⟩)) (top_lt V0 _) ⟨j.val % 64, by omega⟩)
  unfold top
  pointwise [res_main_v141]
  rfl

/-- The words a gather along the rows reads. -/
theorem call3_at (V0 : Valuation τ sig (Elt Ideal)) (b : Fin 2) (h : Fin 16) (j : Fin 1024) (d : Fin 64) :
    @Eq (BitVec 32) (res_main_call3_v5 V0 (ix4 ⟨b.val * 16 + h.val, by omega⟩ j d 0))
      (Scalar.select (IntOp.cmpi .slt (BitVec.ofNat 32 ((arrs V0).sel b j).val) 0#32) (IntOp.addi (BitVec.ofNat 32 ((arrs V0).sel b j).val) 2048#32)
        (BitVec.ofNat 32 ((arrs V0).sel b j).val)) := by
  rw [← v141_at V0 b h j d]
  pointwise [res_main_call3_v5]

/-- The gathered rows of an array of heads, with the fill outside the array. -/
def picked (X : FVec Ideal S2x16x2048x64 .f32) (W : IVec S32x1024x64x1 32) : FVec Ideal S32x1024x64 .f32 :=
  select (Host.reduce IntOp.andi (andi (cmpi .sge W (broadcastInDim S32x1024x64x1 ![] bcast_S_S32x1024x64x1 (constantI S_ 32 0#32))) (cmpi .sle W (broadcastInDim S32x1024x64x1 ![0, 1, 2, 3] bcast_S1x1x1x1_S32x1024x64x1_0_1_2_3 (broadcastInDim S1x1x1x1 ![3] bcast_S1_S1x1x1x1_3 (constantI S1 32 2047#32))))) (constantI S_ 1 1#1) reducesTo_S32x1024x64x1_S32x1024x64_d3 h_S_) (Host.gather gather_S32x2048x64_S32x1024x64x1_S32x1024x64_n_1_02_02_1_3_111 (shapeCast _ X shapeCasts_S2x16x2048x64_S32x2048x64) W) (broadcastInDim S32x1024x64 ![] bcast_S_S32x1024x64 (constant S_ .f32 0x7FC00000#32))

/-- Words inside the array make the mask one everywhere. -/
theorem mask_at (W : IVec S32x1024x64x1 32) (hW : ∀ i, IntOp.andi (IntOp.cmpi .sge (W i) 0#32) (IntOp.cmpi .sle (W i) 2047#32) = 1#1) (i : S32x1024x64.Idx) :
    Host.reduce IntOp.andi (andi (cmpi .sge W (broadcastInDim S32x1024x64x1 ![] bcast_S_S32x1024x64x1 (constantI S_ 32 0#32))) (cmpi .sle W (broadcastInDim S32x1024x64x1 ![0, 1, 2, 3] bcast_S1x1x1x1_S32x1024x64x1_0_1_2_3 (broadcastInDim S1x1x1x1 ![3] bcast_S1_S1x1x1x1_3 (constantI S1 32 2047#32))))) (constantI S_ 1 1#1) reducesTo_S32x1024x64x1_S32x1024x64_d3 h_S_ i = 1#1 :=
  Host.reduce_andi_one _ _ _ _ _ rfl fun i => hW i

theorem picked_at (X : FVec Ideal S2x16x2048x64 .f32) (W : IVec S32x1024x64x1 32) (hW : ∀ i, IntOp.andi (IntOp.cmpi .sge (W i) 0#32) (IntOp.cmpi .sle (W i) 2047#32) = 1#1)
    (b : Fin 2) (h : Fin 16) (j : Fin 1024) (d : Fin 64) (k : Fin 2048) (hk : min (W (ix4 ⟨b.val * 16 + h.val, by omega⟩ j d 0)).toInt.toNat (2048 - 1) = k.val) :
    picked X W (ix3 ⟨b.val * 16 + h.val, by omega⟩ j d) = X (ix4 b h k d) := by
  have e := gather_along (by decide) gather_S32x2048x64_S32x1024x64x1_S32x1024x64_n_1_02_02_1_3_111 rfl rfl rfl rfl rfl rfl rfl (shapeCast S32x2048x64 X shapeCasts_S2x16x2048x64_S32x2048x64) W ⟨b.val * 16 + h.val, by omega⟩ j d
  have m := mask_at W hW (ix3 ⟨b.val * 16 + h.val, by omega⟩ j d)
  unfold picked
  generalize Host.reduce IntOp.andi _ (constantI S_ 1 1#1) reducesTo_S32x1024x64x1_S32x1024x64_d3 h_S_ = R at m ⊢
  generalize Host.gather gather_S32x2048x64_S32x1024x64x1_S32x1024x64_n_1_02_02_1_3_111 _ W = G at e ⊢
  have sel1 : ∀ Z : FVec Ideal S32x1024x64 .f32, select R G Z (ix3 ⟨b.val * 16 + h.val, by omega⟩ j d) = G (ix3 ⟨b.val * 16 + h.val, by omega⟩ j d) := fun Z => by
    show Scalar.select (R _) _ _ = _
    rw [m]
    rfl
  refine (sel1 _).trans (e.trans ?_)
  clear e m
  have ek : (⟨min (W (ix4 ⟨b.val * 16 + h.val, by omega⟩ j d 0)).toInt.toNat (2048 - 1), by omega⟩ : Fin 2048) = k := Fin.ext hk
  rw [ek]
  pointwise

theorem call3_in (V0 : Valuation τ sig (Elt Ideal)) (i : S32x1024x64x1.Idx) :
    IntOp.andi (IntOp.cmpi .sge (res_main_call3_v5 V0 i : BitVec 32) 0#32) (IntOp.cmpi .sle (res_main_call3_v5 V0 i : BitVec 32) 2047#32) = 1#1 := by
  obtain ⟨g, j, d, z, rfl⟩ : ∃ (g : Fin 32) (j : Fin 1024) (d : Fin 64) (z : Fin 1), i = ix4 g j d z := ⟨i 0, i 1, i 2, i 3, by funext k; fin_cases k <;> rfl⟩
  obtain rfl : z = 0 := Subsingleton.elim _ _
  have e := call3_at V0 ⟨g.val / 16, by omega⟩ ⟨g.val % 16, by omega⟩ j d
  have eg : (⟨(⟨g.val / 16, by omega⟩ : Fin 2).val * 16 + (⟨g.val % 16, by omega⟩ : Fin 16).val, by simp only []; omega⟩ : Fin 32) = g := Fin.ext (by simp only []; omega)
  rw [eg] at e
  rw [e]
  exact word_in _

theorem v148_eq (V0 : Valuation τ sig (Elt Ideal)) : res_main_v148 V0 = Host.divf (F := Ideal) (φ := .f32) (Host.dotGeneral (F := Ideal) (φ₁ := .f32) (φ₂ := .f32) dot_S32x2048x64_S32x64x1024_S32x2048x1024_2_1_1_2_0_0 none (shapeCast _ (res_main_v6 V0) shapeCasts_S2x16x2048x64_S32x2048x64) (transpose S32x64x1024 [0, 2, 1] (picked (res_main_v7 V0) (res_main_call3_v5 V0)) transposes_S32x1024x64_S32x64x1024_0_2_1)) (broadcastInDim S32x2048x1024 ![] bcast_S_S32x2048x1024 (constant S_ .f32 0x41000000#32)) := rfl

theorem picked_K (V0 : Valuation τ sig (Elt Ideal)) (b : Fin 2) (h : Fin 16) (j : Fin 1024) (d : Fin 64) :
    picked (res_main_v7 V0) (res_main_call3_v5 V0) (ix3 ⟨b.val * 16 + h.val, by omega⟩ j d) = (arrs V0).K b h ((arrs V0).sel b j) d :=
  picked_at _ _ (call3_in V0) b h j d _ (by rw [call3_at]; exact word_fix _)

theorem picked_V (V0 : Valuation τ sig (Elt Ideal)) (b : Fin 2) (h : Fin 16) (j : Fin 1024) (d : Fin 64) :
    picked (res_main_v8 V0) (res_main_call3_v5 V0) (ix3 ⟨b.val * 16 + h.val, by omega⟩ j d) = (arrs V0).V b h ((arrs V0).sel b j) d :=
  picked_at _ _ (call3_in V0) b h j d _ (by rw [call3_at]; exact word_fix _)

theorem v148_at (V0 : Valuation τ sig (Elt Ideal)) (b : Fin 2) (h : Fin 16) (s : Fin 2048) (j : Fin 1024) :
    @Eq EReal (res_main_v148 V0 (ix3 ⟨b.val * 16 + h.val, by omega⟩ s j)) (Ideal.div (∑ d, (arrs V0).Q b h s d * (arrs V0).K b h ((arrs V0).sel b j) d) ((8 : ℝ) : EReal)) := by
  rw [v148_eq, ← c_8]
  simp only [← picked_K]
  generalize picked (res_main_v7 V0) (res_main_call3_v5 V0) = Y
  unfold arrs
  pointwise

/-- The pieces of the softmax, each at an index. -/
theorem slc_max (R : FVec Ideal S32x2048 .f32) (g : Fin 32) (s : Fin 2048) : maximumf (broadcastInDim S32x2048 ![] bcast_S_S32x2048 (constant S_ .f32 0xFF800000#32)) R (ix2 g s) = max (Ideal.ofBits .f32 0xFF800000#32) (R (ix2 g s)) := by pointwise

theorem slc_bc (Y : FVec Ideal S32x2048 .f32) (g : Fin 32) (s : Fin 2048) (j : Fin 1024) : broadcastInDim S32x2048x1024 ![0, 1, 2] bcast_S32x2048x1_S32x2048x1024_0_1_2 (broadcastInDim S32x2048x1 ![0, 1] bcast_S32x2048_S32x2048x1_0_1 Y) (ix3 g s j) = Y (ix2 g s) := by pointwise

theorem slc_exp (X Y : FVec Ideal S32x2048x1024 .f32) (g : Fin 32) (s : Fin 2048) (j : Fin 1024) : Host.exp (subf X Y) (ix3 g s j) = Ideal.exp (X (ix3 g s j) - Y (ix3 g s j)) := by pointwise

theorem slc_real (X : FVec Ideal S32x2048x1024 .f32) (g : Fin 32) (s : Fin 2048) (hX : ∀ j, IsReal (X (ix3 g s j))) : IsReal (max (Ideal.ofBits .f32 0xFF800000#32) (Host.reduce (α := EReal) (FloatOps.maximumf (F := Ideal) (φ := .f32)) X (constant (F := Ideal) S_ .f32 0xFF800000#32) reducesTo_S32x2048x1024_S32x2048_d2 h_S_ (ix2 g s))) :=
  shift_last3 reducesTo_S32x2048x1024_S32x2048_d2 X (constant (F := Ideal) S_ .f32 0xFF800000#32) h_S_ c_bot g s hX

/-- The exponentials of any scores. -/
def slcExp (X : FVec Ideal S32x2048x1024 .f32) : FVec Ideal S32x2048x1024 .f32 :=
  Host.exp (subf X (broadcastInDim S32x2048x1024 ![0, 1, 2] bcast_S32x2048x1_S32x2048x1024_0_1_2 (broadcastInDim S32x2048x1 ![0, 1] bcast_S32x2048_S32x2048x1_0_1 (maximumf (broadcastInDim S32x2048 ![] bcast_S_S32x2048 (constant S_ .f32 0xFF800000#32)) (Host.reduce FloatOps.maximumf X (constant S_ .f32 0xFF800000#32) reducesTo_S32x2048x1024_S32x2048_d2 h_S_)))))

theorem slcExp_at (X : FVec Ideal S32x2048x1024 .f32) (g : Fin 32) (s : Fin 2048) (hX : ∀ j, IsReal (X (ix3 g s j))) :
    ∃ M, IsReal M ∧ ∀ j, slcExp X (ix3 g s j) = Ideal.exp (X (ix3 g s j) - M) := by
  refine ⟨_, slc_real X g s hX, fun j => ?_⟩
  exact (slc_exp X _ g s j).trans (congrArg (fun z => Ideal.exp (X (ix3 g s j) - z)) ((slc_bc _ g s j).trans (slc_max _ g s)))

theorem v155_eq (V0 : Valuation τ sig (Elt Ideal)) : res_main_v155 V0 = slcExp (res_main_v148 V0) := rfl

theorem v155_at (V0 : Valuation τ sig (Elt Ideal)) (hA : Real (arrs V0)) (b : Fin 2) (h : Fin 16) (s : Fin 2048) :
    ∃ M, IsReal M ∧ ∀ j : Fin 1024, @Eq EReal (res_main_v155 V0 (ix3 ⟨b.val * 16 + h.val, by omega⟩ s j))
      (Ideal.exp (Ideal.div (∑ d, (arrs V0).Q b h s d * (arrs V0).K b h ((arrs V0).sel b j) d) ((8 : ℝ) : EReal) - M)) := by
  obtain ⟨M, hM, e⟩ := slcExp_at (res_main_v148 V0) ⟨b.val * 16 + h.val, by omega⟩ s fun k => by
    rw [v148_at]
    exact (IsReal.sum fun d => (hA.Q _ _ _ _).mul (hA.K _ _ _ _)).div (by norm_num)
  refine ⟨M, hM, fun j => ?_⟩
  rw [← v148_at]
  exact (congrFun (v155_eq V0) _).trans (e j)

/-- The branch, its gathered values named. -/
theorem v184_eq (V0 : Valuation τ sig (Elt Ideal)) : res_main_v184 V0 = shapeCast _ (transpose S2x2048x16x64 [0, 2, 1, 3] (shapeCast _ (Host.dotGeneral (F := Ideal) (φ₁ := .f32) (φ₂ := .f32) dot_S32x2048x1024_S32x1024x64_S32x2048x64_2_1_1_2_0_0 none (Host.divf (F := Ideal) (φ := .f32) (res_main_v155 V0) (broadcastInDim S32x2048x1024 ![0, 1, 2] bcast_S32x2048x1_S32x2048x1024_0_1_2 (broadcastInDim S32x2048x1 ![0, 1] bcast_S32x2048_S32x2048x1_0_1 (Host.reduceAdd (F := Ideal) (φ := .f32) (res_main_v155 V0) (constant S_ .f32 0x00000000#32) reducesTo_S32x2048x1024_S32x2048_d2 h_S_)))) (picked (res_main_v8 V0) (res_main_call3_v5 V0))) shapeCasts_S32x2048x64_S2x16x2048x64) transposes_S2x16x2048x64_S2x2048x16x64_0_2_1_3) shapeCasts_S2x2048x16x64_S2x2048x1024 := rfl

theorem v184_at (V0 : Valuation τ sig (Elt Ideal)) (hA : Real (arrs V0)) (b : Fin 2) (s : Fin 2048) (c : Fin 1024) :
    @Eq EReal (res_main_v184 V0 (ix3 b s c)) ((arrs V0).tS b s c) := by
  obtain ⟨M, hM, e⟩ := v155_at V0 hA b (hd c) s
  unfold Arrays.tS
  rw [← attn_eq _ _ _ M (fun _ => hA.Q _ _ _ _) (fun _ _ => hA.K _ _ _ _) (fun _ => hA.V _ _ _ _) hM]
  simp only [← e]
  rw [v184_eq]
  simp only [← picked_V]
  generalize picked (res_main_v8 V0) (res_main_call3_v5 V0) = Y
  pointwise

end Cert.ReferenceIdeal.W
-- ==== Proof.W.RefOut.lean ====
/- The reference's gate and its result, at an index. -/
module

public import proofs.«01_k».proof.Proof.W.RefSlc

@[expose] public section

set_option maxRecDepth 16384

noncomputable section

namespace Cert.ReferenceIdeal.W

open Cert.ReferenceIdeal Cert.ReferenceIdeal.Gen Cert.ReferenceIdeal.Value Cert.NsaMath
open Idealize.ShloMosaic Idealize.ShloMosaic.TcCoe Idealize.SL.Sem

/-- The gate's logits, from any three branches. -/
def gLogit (T1 T2 T3 : FVec Ideal S2x2048x1024 .f32) (W : FVec Ideal S3072x3 .f32) (B : FVec Ideal S3 .f32) : FVec Ideal S2x2048x3 .f32 :=
  addf (Host.dotGeneral (F := Ideal) (φ₁ := .f32) (φ₂ := .f32) dot_S2x2048x3072_S3072x3_S2x2048x3_2_0_01_1_n_n none (concatenate S2x2048x3072 2 [⟨S2x2048x1024, T1⟩, ⟨S2x2048x1024, T2⟩, ⟨S2x2048x1024, T3⟩] concatenates_S2x2048x1024_S2x2048x1024_S2x2048x1024_S2x2048x3072_d2) W) (broadcastInDim S2x2048x3 ![0, 1, 2] bcast_S1x1x3_S2x2048x3_0_1_2 (broadcastInDim S1x1x3 ![2] bcast_S3_S1x1x3_2 B))

theorem gLogit_at (T1 T2 T3 : FVec Ideal S2x2048x1024 .f32) (W : FVec Ideal S3072x3 .f32) (B : FVec Ideal S3 .f32) (b : Fin 2) (s : Fin 2048) (j : Fin 3) :
    gLogit T1 T2 T3 W B (ix3 b s j) = logit (fun x => T1 (ix3 b s x)) (fun x => T2 (ix3 b s x)) (fun x => T3 (ix3 b s x)) (fun x => W (ix2 x j)) (B (ix1 j)) := by
  unfold logit
  pointwise [gLogit]
  refine congrArg₂ (· + ·) ((sum_3072 _).trans (congrArg₂ (· + ·) (congrArg₂ (· + ·) ?_ ?_) ?_)) rfl
  · refine Finset.sum_congr rfl fun x _ => ?_
    rw [dif_pos x.isLt]
  · refine Finset.sum_congr rfl fun x _ => ?_
    rw [dif_neg (by simp only []; omega), dif_pos (by simp only []; omega)]
    exact congrArg₂ (· * ·) (congrArg T2 (by congr 1; exact Fin.ext (by simp only []; omega))) rfl
  · refine Finset.sum_congr rfl fun x _ => ?_
    rw [dif_neg (by simp only []; omega), dif_neg (by simp only []; omega)]
    exact congrArg₂ (· * ·) (congrArg T3 (by congr 1; exact Fin.ext (by simp only []; omega))) rfl

/-- The pieces of the gate's softmax, each at an index. -/
theorem gate_max (R : FVec Ideal S2x2048 .f32) (b : Fin 2) (s : Fin 2048) : maximumf (broadcastInDim S2x2048 ![] bcast_S_S2x2048 (constant S_ .f32 0xFF800000#32)) R (ix2 b s) = max (Ideal.ofBits .f32 0xFF800000#32) (R (ix2 b s)) := by pointwise

theorem gate_bc (Y : FVec Ideal S2x2048 .f32) (b : Fin 2) (s : Fin 2048) (j : Fin 3) : broadcastInDim S2x2048x3 ![0, 1, 2] bcast_S2x2048x1_S2x2048x3_0_1_2 (broadcastInDim S2x2048x1 ![0, 1] bcast_S2x2048_S2x2048x1_0_1 Y) (ix3 b s j) = Y (ix2 b s) := by pointwise

theorem gate_exp (X Y : FVec Ideal S2x2048x3 .f32) (b : Fin 2) (s : Fin 2048) (j : Fin 3) : Host.exp (subf X Y) (ix3 b s j) = Ideal.exp (X (ix3 b s j) - Y (ix3 b s j)) := by pointwise

theorem gate_shift (X : FVec Ideal S2x2048x3 .f32) (b : Fin 2) (s : Fin 2048) : max (Ideal.ofBits .f32 0xFF800000#32) (Host.reduce (α := EReal) (FloatOps.maximumf (F := Ideal) (φ := .f32)) X (constant (F := Ideal) S_ .f32 0xFF800000#32) reducesTo_S2x2048x3_S2x2048_d2 h_S_ (ix2 b s)) = max (max (X (ix3 b s 0)) (X (ix3 b s 1))) (X (ix3 b s 2)) :=
  shift_three reducesTo_S2x2048x3_S2x2048_d2 X (constant (F := Ideal) S_ .f32 0xFF800000#32) h_S_ c_bot b s

/-- The exponentials of any logits. -/
def gExp (X : FVec Ideal S2x2048x3 .f32) : FVec Ideal S2x2048x3 .f32 :=
  Host.exp (subf X (broadcastInDim S2x2048x3 ![0, 1, 2] bcast_S2x2048x1_S2x2048x3_0_1_2 (broadcastInDim S2x2048x1 ![0, 1] bcast_S2x2048_S2x2048x1_0_1 (maximumf (broadcastInDim S2x2048 ![] bcast_S_S2x2048 (constant S_ .f32 0xFF800000#32)) (Host.reduce FloatOps.maximumf X (constant S_ .f32 0xFF800000#32) reducesTo_S2x2048x3_S2x2048_d2 h_S_)))))

theorem gExp_at (X : FVec Ideal S2x2048x3 .f32) (b : Fin 2) (s : Fin 2048) (j : Fin 3) :
    gExp X (ix3 b s j) = Ideal.exp (X (ix3 b s j) - max (max (X (ix3 b s 0)) (X (ix3 b s 1))) (X (ix3 b s 2))) :=
  (gate_exp X _ b s j).trans (congrArg (fun z => Ideal.exp (X (ix3 b s j) - z)) ((gate_bc _ b s j).trans ((gate_max _ b s).trans (gate_shift X b s))))

/-- The gated sum of any three branches, by any exponentials. -/
def gOut (T1 T2 T3 : FVec Ideal S2x2048x1024 .f32) (E : FVec Ideal S2x2048x3 .f32) : FVec Ideal S2x2048x1024 .f32 :=
  let P : FVec Ideal S2x2048x3 .f32 := Host.divf E (broadcastInDim S2x2048x3 ![0, 1, 2] bcast_S2x2048x1_S2x2048x3_0_1_2 (broadcastInDim S2x2048x1 ![0, 1] bcast_S2x2048_S2x2048x1_0_1 (Host.reduceAdd E (constant S_ .f32 0x00000000#32) reducesTo_S2x2048x3_S2x2048_d2 h_S_)))
  addf (addf (mulf (broadcastInDim S2x2048x1024 ![0, 1, 2] bcast_S2x2048x1_S2x2048x1024_0_1_2 (extractStridedSlice S2x2048x1 ![0, 0, 0] P slices_S2x2048x3_S2x2048x1_0_0_0)) T1) (mulf (broadcastInDim S2x2048x1024 ![0, 1, 2] bcast_S2x2048x1_S2x2048x1024_0_1_2 (extractStridedSlice S2x2048x1 ![0, 0, 1] P slices_S2x2048x3_S2x2048x1_0_0_1)) T2)) (mulf (broadcastInDim S2x2048x1024 ![0, 1, 2] bcast_S2x2048x1_S2x2048x1024_0_1_2 (extractStridedSlice S2x2048x1 ![0, 0, 2] P slices_S2x2048x3_S2x2048x1_0_0_2)) T3)

theorem gOut_at (T1 T2 T3 : FVec Ideal S2x2048x1024 .f32) (E : FVec Ideal S2x2048x3 .f32) (b : Fin 2) (s : Fin 2048) (c : Fin 1024) :
    gOut T1 T2 T3 E (ix3 b s c) = Ideal.div (E (ix3 b s 0)) (∑ j : Fin 3, E (ix3 b s j)) * T1 (ix3 b s c) + Ideal.div (E (ix3 b s 1)) (∑ j : Fin 3, E (ix3 b s j)) * T2 (ix3 b s c)
      + Ideal.div (E (ix3 b s 2)) (∑ j : Fin 3, E (ix3 b s j)) * T3 (ix3 b s c) := by
  pointwise [gOut]

/-- The reference's result. -/
def refOut (V0 : Valuation τ sig (Elt Ideal)) : FVec Ideal S2x2048x1024 .f32 := addf (addf (mulf (broadcastInDim S2x2048x1024 ![0, 1, 2] bcast_S2x2048x1_S2x2048x1024_0_1_2 (extractStridedSlice S2x2048x1 ![0, 0, 0] (res_main_v202 V0) slices_S2x2048x3_S2x2048x1_0_0_0)) (res_main_v182 V0)) (mulf (broadcastInDim S2x2048x1024 ![0, 1, 2] bcast_S2x2048x1_S2x2048x1024_0_1_2 (extractStridedSlice S2x2048x1 ![0, 0, 1] (res_main_v202 V0) slices_S2x2048x3_S2x2048x1_0_0_1)) (res_main_v184 V0))) (mulf (broadcastInDim S2x2048x1024 ![0, 1, 2] bcast_S2x2048x1_S2x2048x1024_0_1_2 (extractStridedSlice S2x2048x1 ![0, 0, 2] (res_main_v202 V0) slices_S2x2048x3_S2x2048x1_0_0_2)) (res_main_v186 V0))

theorem refOut_eq (V0 : Valuation τ sig (Elt Ideal)) :
    refOut V0 = gOut (res_main_v182 V0) (res_main_v184 V0) (res_main_v186 V0) (gExp (gLogit (res_main_v182 V0) (res_main_v184 V0) (res_main_v186 V0) (V0 (Proc.devRef .tc main_arg8)) (V0 (Proc.devRef .tc main_arg9)))) := rfl

theorem gate_at (T1 T2 T3 : FVec Ideal S2x2048x1024 .f32) (W : FVec Ideal S3072x3 .f32) (B : FVec Ideal S3 .f32) (b : Fin 2) (s : Fin 2048) (c : Fin 1024) :
    gOut T1 T2 T3 (gExp (gLogit T1 T2 T3 W B)) (ix3 b s c)
      = gate (fun x => T1 (ix3 b s x)) (fun x => T2 (ix3 b s x)) (fun x => T3 (ix3 b s x)) (fun e x => W (ix2 e x)) (fun x => B (ix1 x)) c := by
  rw [gOut_at]
  simp only [gExp_at, gLogit_at, Fin.sum_univ_three]
  rfl

/-- The reference's result at an index, when the shared arrays are real. -/
theorem ref_at (V0 : Valuation τ sig (Elt Ideal)) (hA : Real (arrs V0)) (b : Fin 2) (s : Fin 2048) (c : Fin 1024) :
    refOut V0 (ix3 b s c) = (arrs V0).out b s c := by
  rw [refOut_eq, gate_at]
  have e1 : (fun x => (res_main_v182 V0 (ix3 b s x) : EReal)) = (arrs V0).tC b := funext fun x => v182_at V0 hA b s x
  have e2 : (fun x => (res_main_v184 V0 (ix3 b s x) : EReal)) = (arrs V0).tS b s := funext fun x => v184_at V0 hA b s x
  have e3 : (fun x => (res_main_v186 V0 (ix3 b s x) : EReal)) = (arrs V0).tW b s := funext fun x => v186_at V0 hA b s x
  rw [e1, e2, e3]
  rfl

end Cert.ReferenceIdeal.W
-- ==== Proof.W.Pre.lean ====
/- What the precondition says: every entry of the arguments it names is a real number. -/
module

public import proofs.«01_k».proof.Defs
public import proofs.«01_k».proof.Proof.W.Math
public import Idealize.ShloMosaic.Lib.ReduceAll
public import Idealize.ShloMosaic.Lib.Pointwise.Contract

@[expose] public section

set_option maxRecDepth 16384

noncomputable section

namespace Cert.Pre_finite

open Idealize.ShloMosaic Cert.NsaMath

/-- The side conditions of the precondition's operations. -/
theorem facts : Facts where
  bcast_S_S2048x2x1024 := by decide
  reducesTo_S2048x2x1024_S_d0_1_2 := by decide
  h_S_ := by decide
  bcast_S_S2048x2x3 := by decide
  reducesTo_S2048x2x3_S_d0_1_2 := by decide
  bcast_S_S1024x3072 := by decide
  reducesTo_S1024x3072_S_d0_1 := by decide
  bcast_S_S3072 := by decide
  reducesTo_S3072_S_d0 := by decide
  bcast_S_S1027x1024 := by decide
  reducesTo_S1027x1024_S_d0_1 := by decide
  bcast_S_S1024 := by decide
  reducesTo_S1024_S_d0 := by decide
  bcast_S_S1024x1024 := by decide
  reducesTo_S1024x1024_S_d0_1 := by decide

theorem both {x y : IVec S_ 1} {i : S_.Idx} (h : andi x y i = 1#1) : x i = 1#1 ∧ y i = 1#1 := by
  have key : ∀ a b : BitVec 1, a &&& b = 1#1 → a = 1#1 ∧ b = 1#1 := by decide
  exact key _ _ h

/-- A number whose absolute value is below the greatest is real. -/
theorem real_of_lt {x : EReal} (h : max x (-x) < ⊤) : IsReal x := by
  induction x with
  | bot => simp at h
  | top => simp at h
  | coe r => exact IsReal.coe r

/-- One conjunct of the precondition: an array whose entries are all below the greatest number. -/
theorem all_real {s : Shape} {axes : List (Fin s.rank)} (x : FVec Ideal s .f32) (hb : S_.BroadcastsInDim s (![] : Fin 0 → Fin s.rank)) (h : s.ReducesTo axes S_)
    (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : IsReal (x i) := by
  haveI : Subsingleton S_.Idx := ⟨fun a b => funext fun k => k.elim0⟩
  have q := Host.reduce_andi_all _ _ h hu j e i
  have w : Ideal.cmp .olt (max (x i) (-(x i))) (Ideal.ofBits .f32 0x7F800000#32) = 1#1 := q
  rw [c_top] at w
  refine real_of_lt (of_decide_eq_true ?_)
  have key : ∀ b : Bool, BitVec.ofBool b = 1#1 → b = true := by decide
  exact key _ w

/-- The precondition: the entries of the first eight arguments are real numbers. -/
theorem reals [Facts] (a0 : FVec Ideal S2048x2x1024 .f32) (a1 : FVec Ideal S2048x2x3 .f32) (a2 : FVec Ideal S1024x3072 .f32) (a3 : FVec Ideal S3072 .f32)
    (a4 : FVec Ideal S1027x1024 .f32) (a5 : FVec Ideal S1024 .f32) (a6 : FVec Ideal S1024x1024 .f32) (a7 : FVec Ideal S1024 .f32)
    (a8 : FVec Ideal S3072x3 .f32) (a9 : FVec Ideal S3 .f32) (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have e := congrFun h (fun k => k.elim0)
  unfold fn fn_part1 fn_part2 at e
  dsimp only at e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨all_real a0 _ _ _ _ e0, all_real a1 _ _ _ _ e1, all_real a2 _ _ _ _ e2, all_real a3 _ _ _ _ e3, all_real a4 _ _ _ _ e4,
    all_real a5 _ _ _ _ e5, all_real a6 _ _ _ _ e6, all_real a7 _ _ _ _ e7⟩

end Cert.Pre_finite

end
-- ==== Proof.W.Value.lean ====
/- The value claim's heart: from equal arguments under the precondition, the kernel's result array is the reference's. -/
module

public import proofs.«01_k».proof.Proof.W.HostC
public import proofs.«01_k».proof.Proof.W.Shared
public import proofs.«01_k».proof.Proof.W.Reals
public import proofs.«01_k».proof.Proof.W.RefOut
public import proofs.«01_k».proof.Proof.W.Pre

@[expose] public section

set_option maxRecDepth 16384

noncomputable section

namespace Cert.NsaShared

open Cert.NsaMath
open Idealize.ShloMosaic Idealize.ShloMosaic.TcCoe Idealize.ShloMosaic.StableHlo
open Idealize.SL Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The arguments of the two memories agree on a device. -/
def Agree (c : Dev KernelIdeal.nD) : Prop :=
  m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
       ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
       ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
       ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
       ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
       ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
       ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
       ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
       ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
       ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)

theorem same_of (c : Dev KernelIdeal.nD) (h : Agree m m' c) : Same (KernelIdeal.Gen.V0 m c) (launchContents m' c) := by
  obtain ⟨h0, h1, h2, h3, h4, h5, h6, h7, h8, h9⟩ := h
  exact ⟨h0, h1, h2, h3, h4, h5, h6, h7, h8, h9⟩

theorem real_args (hp : Cert.Pre_KernelIdeal_finite (hPre_finite := Cert.Pre_finite.facts) m) (c : Dev KernelIdeal.nD)
    (h : Same (KernelIdeal.Gen.V0 m c) (launchContents m' c)) : ReferenceIdeal.W.RealArgs (launchContents m' c) := by
  haveI := Cert.Pre_finite.facts
  obtain ⟨r0, r1, r2, r3, r4, r5, r6, r7⟩ := Cert.Pre_finite.reals _ _ _ _ _ _ _ _ _ _ (hp c)
  refine ⟨fun i => ?_, fun i => ?_, fun i => ?_, fun i => ?_, fun i => ?_, fun i => ?_, fun i => ?_, fun i => ?_⟩
  · rw [h.a0]; exact r0 i
  · rw [h.a1]; exact r1 i
  · rw [h.a2]; exact r2 i
  · rw [h.a3]; exact r3 i
  · rw [h.a4]; exact r4 i
  · rw [h.a5]; exact r5 i
  · rw [h.a6]; exact r6 i
  · rw [h.a7]; exact r7 i

/-- The kernel's result array is the reference's. -/
theorem result_eq (hp : Cert.Pre_KernelIdeal_finite (hPre_finite := Cert.Pre_finite.facts) m) (c : Dev KernelIdeal.nD) (ha : Agree m m' c) :
    ReferenceIdeal.W.refOut (launchContents m' c) = (KernelIdeal.Run.d3 m c).arrAt 12 KernelIdeal.cfg3.N := by
  have h := same_of m m' c ha
  funext i
  have e : i = ix3 (i 0) (i 1) (i 2) := by
    funext a
    match a with
    | ⟨0, _⟩ => rfl
    | ⟨1, _⟩ => rfl
    | ⟨2, _⟩ => rfl
  rw [e]
  refine (ReferenceIdeal.W.ref_at _ (ReferenceIdeal.W.real_arrs _ (real_args m m' hp c h)) (i 0) (i 1) (i 2)).trans ?_
  rw [← arrs_eq m c _ h]
  exact (KernelIdeal.W.kernel_at m c (i 0) (i 1) (i 2)).symm

end Cert.NsaShared

end
-- ==== Proof.lean ====
/- The proof of the certificate's claim: the three frames, the (empty) idealization, and the equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.R.KernelTable
public import proofs.«01_k».proof.Proof.R.KernelIdealTable
public import proofs.«01_k».proof.Proof.W.Value
public import Idealize.ShloMosaic.Adequacy
public import Idealize.ShloMosaic.Init

@[expose] public section

noncomputable section

namespace Cert.Proof

open Idealize.ShloMosaic Idealize.SL.Sem

theorem frame_Kernel : Cert.quiescent_Kernel (hKernel := Cert.Kernel.Gen.facts) := fun m g _ =>
  (θ_run _ _ _).mono (fun _ h => ⟨fun c => by
      obtain ⟨⟨h0, h1, h2, h3, h4, h5, h6, h7, h8, h9⟩, -⟩ := h.1 c
      exact ⟨h0, h1, h2, h3, h4, h5, h6, h7, h8, h9⟩, h.2⟩)
    (Cert.Kernel.Run.run m g (Cert.Kernel.Run.table_inRange m))

theorem frame_KernelIdeal : Cert.quiescent_KernelIdeal (hKernelIdeal := Cert.KernelIdeal.Gen.facts) := fun m g _ =>
  (θ_run _ _ _).mono (fun _ h => ⟨fun c => by
      obtain ⟨⟨h0, h1, h2, h3, h4, h5, h6, h7, h8, h9⟩, -⟩ := h.1 c
      exact ⟨h0, h1, h2, h3, h4, h5, h6, h7, h8, h9⟩, h.2⟩)
    (Cert.KernelIdeal.Run.run m g (Cert.KernelIdeal.Run.table_inRange m))

theorem frame_ReferenceIdeal : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run m g)

/-- Under the precondition, both programs run to the end with the arguments as they were and the same result array. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hp ha =>
  ⟨fun c => (Cert.KernelIdeal.Run.d3 m c).arrAt 12 Cert.KernelIdeal.cfg3.N,
    (θ_run _ _ _).mono (fun _ h c => by
        obtain ⟨⟨h0, h1, h2, h3, h4, h5, h6, h7, h8, h9⟩, hv⟩ := h.1 c
        exact ⟨hv, h0, h1, h2, h3, h4, h5, h6, h7, h8, h9⟩)
      (Cert.KernelIdeal.Run.run m g (Cert.KernelIdeal.Run.table_inRange m)),
    (θ_run _ _ _).mono (fun _ h c => ⟨(h c).1.trans (Cert.NsaShared.result_eq m m' hp c (ha c)), (h c).2⟩)
      (Cert.ReferenceIdeal.Value.run m' g')⟩

theorem claim : Cert.Claim := ⟨Cert.Kernel.Gen.facts, Cert.KernelIdeal.Gen.facts, Cert.ReferenceIdeal.Gen.facts, Cert.Pre_finite.facts,
  frame_Kernel, frame_KernelIdeal, fun m g _ => frame_KernelIdeal m g trivial, frame_ReferenceIdeal, fun m g _ => frame_ReferenceIdeal m g trivial, trivial, value⟩

end Cert.Proof

end
